-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x2048x4x64 : S_.BroadcastsInDim S2x2048x4x64 (![] : Fin 0 → Fin S2x2048x4x64.rank)
  reducesTo_S2x2048x4x64_S_d0_1_2_3 : S2x2048x4x64.ReducesTo [0, 1, 2, 3] S_

variable [Facts]

def fn {F : FTy → Type} [FloatOps F] (main_arg0 : FVec F S2x128x512 .f32) (main_arg1 : FVec F S512x256 .f32) (main_arg2 : FVec F S2x2048x4x64 .f32) (main_arg3 : FVec F S2x2048x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x2048x4x64 .f32 := Host.absf main_arg2
  let main_cst_2 : FVec F S_ .f32 := constant S_ .f32 0x7F800000#32
  let main_v10 : FVec F S2x2048x4x64 .f32 := broadcastInDim S2x2048x4x64 ![] bcast_S_S2x2048x4x64 main_cst_2
  let main_v11 : IVec S2x2048x4x64 1 := cmpf .olt main_v9 main_v10
  let main_c_3 : IVec S_ 1 := constantI S_ 1 1#1
  let main_v12 : IVec S_ 1 := (fun x v => Host.reduce IntOp.andi x v reducesTo_S2x2048x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S5x512x64 : Shape := ⟨3, ![5, 512, 64]⟩
abbrev S5x2x4x128 : Shape := ⟨4, ![5, 2, 4, 128]⟩
abbrev S4x512x64 : Shape := ⟨3, ![4, 512, 64]⟩
abbrev S4x2x4x128 : Shape := ⟨4, ![4, 2, 4, 128]⟩
abbrev S4 : Shape := ⟨1, ![4]⟩
abbrev S3 : Shape := ⟨1, ![3]⟩
abbrev S_ : Shape := ⟨0, ![]⟩
abbrev S512x64 : Shape := ⟨2, ![512, 64]⟩
abbrev S2x4x128 : Shape := ⟨3, ![2, 4, 128]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S1x1x128 : Shape := ⟨3, ![1, 1, 128]⟩
abbrev S1x512x64 : Shape := ⟨3, ![1, 512, 64]⟩
abbrev S1x2x4x128 : Shape := ⟨4, ![1, 2, 4, 128]⟩
abbrev S1x1x1x128 : Shape := ⟨4, ![1, 1, 1, 128]⟩
abbrev S1x128x64 : Shape := ⟨3, ![1, 128, 64]⟩
abbrev S1 : Shape := ⟨1, ![1]⟩
abbrev S1x1x4x128 : Shape := ⟨4, ![1, 1, 4, 128]⟩
abbrev S4x128 : Shape := ⟨2, ![4, 128]⟩
abbrev S1x4x128 : Shape := ⟨3, ![1, 4, 128]⟩
abbrev S1x128 : Shape := ⟨2, ![1, 128]⟩
abbrev S64x512 : Shape := ⟨2, ![64, 512]⟩

abbrev nBuf : Space → Nat
  | .hbm => 6
  | .vmem => 17
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S5x512x64, .bf16⟩
  | .local _ .vmem, ⟨7, _⟩ => ⟨S5x2x4x128, .f32⟩
  | .local _ .vmem, ⟨8, _⟩ => ⟨S4x512x64, .bf16⟩
  | .local _ .vmem, ⟨9, _⟩ => ⟨S4x2x4x128, .f32⟩
  | .local _ .vmem, ⟨10, _⟩ => ⟨S512x64, .f32⟩
  | .local _ .vmem, ⟨11, _⟩ => ⟨S2x4x128, .f32⟩
  | .local _ .vmem, ⟨12, _⟩ => ⟨S512x64, .bf16⟩
  | .local _ .vmem, ⟨13, _⟩ => ⟨S2x4x128, .f32⟩
  | .local _ .vmem, ⟨14, _⟩ => ⟨S512x64, .bf16⟩
  | .local _ .vmem, ⟨15, _⟩ => ⟨S512x64, .bf16⟩
  | .local _ .vmem, ⟨16, _⟩ => ⟨S2x4x128, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch20 : Ref sig .tc := ⟨.vmem, 10, rfl⟩
abbrev cc0_scratch21 : Ref sig .tc := ⟨.vmem, 11, rfl⟩
abbrev cc0_scratch22 : Ref sig .tc := ⟨.vmem, 12, rfl⟩
abbrev cc0_scratch23 : Ref sig .tc := ⟨.vmem, 13, rfl⟩
abbrev cc0_scratch24 : Ref sig .tc := ⟨.vmem, 14, rfl⟩
abbrev cc0_scratch25 : Ref sig .tc := ⟨.vmem, 15, rfl⟩
abbrev cc0_scratch26 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c7_i32 : BitVec 32 := 7#32
  let v83 : BitVec 32 := Scalar.addi v65 c7_i32
  let c8_i32_36 : BitVec 32 := 8#32
  let c0_i32_37 : BitVec 32 := 0#32
  let v84 : BitVec 1 := Scalar.cmpi .eq c8_i32_36 c0_i32_37
  let c1_i32_38 : BitVec 32 := 1#32
  let v85 : BitVec 32 := Scalar.select v84 c1_i32_38 c8_i32_36
  let v86 : BitVec 32 := Scalar.remsi v83 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c3_i32_42 : BitVec 32 := 3#32
  let v94 : BitVec 1 := Scalar.cmpi .sle v93 c3_i32_42
  let c4_i32_43 : BitVec 32 := 4#32
  let v95 : BitVec 32 := Scalar.muli c4_i32_43 v93
  let c30_i32_45 : BitVec 32 := 30#32
  let c4_i32_44 : BitVec 32 := 4#32
  let v96 : BitVec 32 := Scalar.muli c4_i32_44 v93
  let v97 : BitVec 32 := Scalar.subi c30_i32_45 v96
  let v98 : BitVec 32 := Scalar.select v94 v95 v97
  let v99 : BitVec 32 := Scalar.addi v98 v12
  let c1_i32_47 : BitVec 32 := 1#32
  let v101 : BitVec 32 := Scalar.muli v99 c1_i32_47
  let v102 : BitVec 32 := Scalar.addi c0_i32_48 v101
  v102.toNat
def k0_dev2 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_50 : BitVec 32 := 1#32
  let v103 : BitVec 32 := Scalar.muli v82 c1_i32_50
  let v104 : BitVec 32 := Scalar.addi c0_i32_51 v103
  v104.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c1_i32_5 : BitVec 32 := 1#32
  let v14 : BitVec 32 := Scalar.addi v2 c1_i32_5
  let c1_i32_6 : BitVec 32 := 1#32
  let v15 : BitVec 32 := Scalar.subi v2 c1_i32_6
  let v16 : BitVec 32 := Scalar.select v13 v14 v15
  let c1_i32_53 : BitVec 32 := 1#32
  let v105 : BitVec 32 := Scalar.muli v16 c1_i32_53
  let v106 : BitVec 32 := Scalar.addi c0_i32_54 v105
  v106.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v107 : BitVec 32 := Scalar.extui v13
  let c0_i32_57 : BitVec 32 := 0#32
  let v108 : BitVec 1 := Scalar.cmpi .ne v107 c0_i32_57
  v108

def k0_dev4 (d0 : Dev nD) : Nat :=
  let c0_i32_1044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c1_i32_5 : BitVec 32 := 1#32
  let v14 : BitVec 32 := Scalar.addi v2 c1_i32_5
  let c1_i32_6 : BitVec 32 := 1#32
  let v15 : BitVec 32 := Scalar.subi v2 c1_i32_6
  let v16 : BitVec 32 := Scalar.select v13 v14 v15
  let c1_i32_1043 : BitVec 32 := 1#32
  let v1408 : BitVec 32 := Scalar.muli v16 c1_i32_1043
  let v1409 : BitVec 32 := Scalar.addi c0_i32_1044 v1408
  v1409.toNat
def k0_dev5 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c1_i32_5 : BitVec 32 := 1#32
  let v14 : BitVec 32 := Scalar.addi v2 c1_i32_5
  let c1_i32_6 : BitVec 32 := 1#32
  let v15 : BitVec 32 := Scalar.subi v2 c1_i32_6
  let v16 : BitVec 32 := Scalar.select v13 v14 v15
  let c1_i32_1047 : BitVec 32 := 1#32
  let v1412 : BitVec 32 := Scalar.muli v16 c1_i32_1047
  let v1413 : BitVec 32 := Scalar.addi c0_i32_1048 v1412
  v1413.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_65 : BitVec 32 := 1#32
  let v112 : BitVec 32 := Scalar.muli v82 c1_i32_65
  let v113 : BitVec 32 := Scalar.addi c0_i32_66 v112
  v113.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_75 : BitVec 32 := 1#32
  let v122 : BitVec 32 := Scalar.muli v82 c1_i32_75
  let v123 : BitVec 32 := Scalar.addi c0_i32_76 v122
  v123.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c7_i32 : BitVec 32 := 7#32
  let v83 : BitVec 32 := Scalar.addi v65 c7_i32
  let c8_i32_36 : BitVec 32 := 8#32
  let c0_i32_37 : BitVec 32 := 0#32
  let v84 : BitVec 1 := Scalar.cmpi .eq c8_i32_36 c0_i32_37
  let c1_i32_38 : BitVec 32 := 1#32
  let v85 : BitVec 32 := Scalar.select v84 c1_i32_38 c8_i32_36
  let v86 : BitVec 32 := Scalar.remsi v83 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c3_i32_42 : BitVec 32 := 3#32
  let v94 : BitVec 1 := Scalar.cmpi .sle v93 c3_i32_42
  let c4_i32_43 : BitVec 32 := 4#32
  let v95 : BitVec 32 := Scalar.muli c4_i32_43 v93
  let c30_i32_45 : BitVec 32 := 30#32
  let c4_i32_44 : BitVec 32 := 4#32
  let v96 : BitVec 32 := Scalar.muli c4_i32_44 v93
  let v97 : BitVec 32 := Scalar.subi c30_i32_45 v96
  let v98 : BitVec 32 := Scalar.select v94 v95 v97
  let v99 : BitVec 32 := Scalar.addi v98 v12
  let c1_i32_87 : BitVec 32 := 1#32
  let v132 : BitVec 32 := Scalar.muli v99 c1_i32_87
  let v133 : BitVec 32 := Scalar.addi c0_i32_88 v132
  v133.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c7_i32 : BitVec 32 := 7#32
  let v83 : BitVec 32 := Scalar.addi v65 c7_i32
  let c8_i32_36 : BitVec 32 := 8#32
  let c0_i32_37 : BitVec 32 := 0#32
  let v84 : BitVec 1 := Scalar.cmpi .eq c8_i32_36 c0_i32_37
  let c1_i32_38 : BitVec 32 := 1#32
  let v85 : BitVec 32 := Scalar.select v84 c1_i32_38 c8_i32_36
  let v86 : BitVec 32 := Scalar.remsi v83 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c3_i32_42 : BitVec 32 := 3#32
  let v94 : BitVec 1 := Scalar.cmpi .sle v93 c3_i32_42
  let c4_i32_43 : BitVec 32 := 4#32
  let v95 : BitVec 32 := Scalar.muli c4_i32_43 v93
  let c30_i32_45 : BitVec 32 := 30#32
  let c4_i32_44 : BitVec 32 := 4#32
  let v96 : BitVec 32 := Scalar.muli c4_i32_44 v93
  let v97 : BitVec 32 := Scalar.subi c30_i32_45 v96
  let v98 : BitVec 32 := Scalar.select v94 v95 v97
  let v99 : BitVec 32 := Scalar.addi v98 v12
  let c1_i32_97 : BitVec 32 := 1#32
  let v142 : BitVec 32 := Scalar.muli v99 c1_i32_97
  let v143 : BitVec 32 := Scalar.addi c0_i32_98 v142
  v143.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_119 : BitVec 32 := 1#32
  let v160 : BitVec 32 := Scalar.muli v82 c1_i32_119
  let v161 : BitVec 32 := Scalar.addi c0_i32_120 v160
  v161.toNat
def k0_dev11 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c7_i32 : BitVec 32 := 7#32
  let v83 : BitVec 32 := Scalar.addi v65 c7_i32
  let c8_i32_36 : BitVec 32 := 8#32
  let c0_i32_37 : BitVec 32 := 0#32
  let v84 : BitVec 1 := Scalar.cmpi .eq c8_i32_36 c0_i32_37
  let c1_i32_38 : BitVec 32 := 1#32
  let v85 : BitVec 32 := Scalar.select v84 c1_i32_38 c8_i32_36
  let v86 : BitVec 32 := Scalar.remsi v83 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c3_i32_42 : BitVec 32 := 3#32
  let v94 : BitVec 1 := Scalar.cmpi .sle v93 c3_i32_42
  let c4_i32_43 : BitVec 32 := 4#32
  let v95 : BitVec 32 := Scalar.muli c4_i32_43 v93
  let c30_i32_45 : BitVec 32 := 30#32
  let c4_i32_44 : BitVec 32 := 4#32
  let v96 : BitVec 32 := Scalar.muli c4_i32_44 v93
  let v97 : BitVec 32 := Scalar.subi c30_i32_45 v96
  let v98 : BitVec 32 := Scalar.select v94 v95 v97
  let v99 : BitVec 32 := Scalar.addi v98 v12
  let c1_i32_139 : BitVec 32 := 1#32
  let v178 : BitVec 32 := Scalar.muli v99 c1_i32_139
  let v179 : BitVec 32 := Scalar.addi c0_i32_140 v178
  v179.toNat
def k0_dev12 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_161 : BitVec 32 := 1#32
  let v196 : BitVec 32 := Scalar.muli v82 c1_i32_161
  let v197 : BitVec 32 := Scalar.addi c0_i32_162 v196
  v197.toNat
def k0_dev13 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c7_i32 : BitVec 32 := 7#32
  let v83 : BitVec 32 := Scalar.addi v65 c7_i32
  let c8_i32_36 : BitVec 32 := 8#32
  let c0_i32_37 : BitVec 32 := 0#32
  let v84 : BitVec 1 := Scalar.cmpi .eq c8_i32_36 c0_i32_37
  let c1_i32_38 : BitVec 32 := 1#32
  let v85 : BitVec 32 := Scalar.select v84 c1_i32_38 c8_i32_36
  let v86 : BitVec 32 := Scalar.remsi v83 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c3_i32_42 : BitVec 32 := 3#32
  let v94 : BitVec 1 := Scalar.cmpi .sle v93 c3_i32_42
  let c4_i32_43 : BitVec 32 := 4#32
  let v95 : BitVec 32 := Scalar.muli c4_i32_43 v93
  let c30_i32_45 : BitVec 32 := 30#32
  let c4_i32_44 : BitVec 32 := 4#32
  let v96 : BitVec 32 := Scalar.muli c4_i32_44 v93
  let v97 : BitVec 32 := Scalar.subi c30_i32_45 v96
  let v98 : BitVec 32 := Scalar.select v94 v95 v97
  let v99 : BitVec 32 := Scalar.addi v98 v12
  let c1_i32_185 : BitVec 32 := 1#32
  let v214 : BitVec 32 := Scalar.muli v99 c1_i32_185
  let v215 : BitVec 32 := Scalar.addi c0_i32_186 v214
  v215.toNat
def k0_dev14 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_298 : BitVec 32 := 1#32
  let v420 : BitVec 32 := Scalar.muli v82 c1_i32_298
  let v421 : BitVec 32 := Scalar.addi c0_i32_299 v420
  v421.toNat
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c7_i32 : BitVec 32 := 7#32
  let v83 : BitVec 32 := Scalar.addi v65 c7_i32
  let c8_i32_36 : BitVec 32 := 8#32
  let c0_i32_37 : BitVec 32 := 0#32
  let v84 : BitVec 1 := Scalar.cmpi .eq c8_i32_36 c0_i32_37
  let c1_i32_38 : BitVec 32 := 1#32
  let v85 : BitVec 32 := Scalar.select v84 c1_i32_38 c8_i32_36
  let v86 : BitVec 32 := Scalar.remsi v83 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c3_i32_42 : BitVec 32 := 3#32
  let v94 : BitVec 1 := Scalar.cmpi .sle v93 c3_i32_42
  let c4_i32_43 : BitVec 32 := 4#32
  let v95 : BitVec 32 := Scalar.muli c4_i32_43 v93
  let c30_i32_45 : BitVec 32 := 30#32
  let c4_i32_44 : BitVec 32 := 4#32
  let v96 : BitVec 32 := Scalar.muli c4_i32_44 v93
  let v97 : BitVec 32 := Scalar.subi c30_i32_45 v96
  let v98 : BitVec 32 := Scalar.select v94 v95 v97
  let v99 : BitVec 32 := Scalar.addi v98 v12
  let c1_i32_318 : BitVec 32 := 1#32
  let v438 : BitVec 32 := Scalar.muli v99 c1_i32_318
  let v439 : BitVec 32 := Scalar.addi c0_i32_319 v438
  v439.toNat
def k0_dev16 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_340 : BitVec 32 := 1#32
  let v456 : BitVec 32 := Scalar.muli v82 c1_i32_340
  let v457 : BitVec 32 := Scalar.addi c0_i32_341 v456
  v457.toNat
def k0_dev17 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c7_i32 : BitVec 32 := 7#32
  let v83 : BitVec 32 := Scalar.addi v65 c7_i32
  let c8_i32_36 : BitVec 32 := 8#32
  let c0_i32_37 : BitVec 32 := 0#32
  let v84 : BitVec 1 := Scalar.cmpi .eq c8_i32_36 c0_i32_37
  let c1_i32_38 : BitVec 32 := 1#32
  let v85 : BitVec 32 := Scalar.select v84 c1_i32_38 c8_i32_36
  let v86 : BitVec 32 := Scalar.remsi v83 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c3_i32_42 : BitVec 32 := 3#32
  let v94 : BitVec 1 := Scalar.cmpi .sle v93 c3_i32_42
  let c4_i32_43 : BitVec 32 := 4#32
  let v95 : BitVec 32 := Scalar.muli c4_i32_43 v93
  let c30_i32_45 : BitVec 32 := 30#32
  let c4_i32_44 : BitVec 32 := 4#32
  let v96 : BitVec 32 := Scalar.muli c4_i32_44 v93
  let v97 : BitVec 32 := Scalar.subi c30_i32_45 v96
  let v98 : BitVec 32 := Scalar.select v94 v95 v97
  let v99 : BitVec 32 := Scalar.addi v98 v12
  let c1_i32_364 : BitVec 32 := 1#32
  let v474 : BitVec 32 := Scalar.muli v99 c1_i32_364
  let v475 : BitVec 32 := Scalar.addi c0_i32_365 v474
  v475.toNat
def k0_dev18 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_481 : BitVec 32 := 1#32
  let v680 : BitVec 32 := Scalar.muli v82 c1_i32_481
  let v681 : BitVec 32 := Scalar.addi c0_i32_482 v680
  v681.toNat
def k0_dev19 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32_7 : BitVec 32 := 0#32
  let v17 : BitVec 1 := Scalar.cmpi .eq c4_i32 c0_i32_7
  let c1_i32_8 : BitVec 32 := 1#32
  let v18 : BitVec 32 := Scalar.select v17 c1_i32_8 c4_i32
  let v19 : BitVec 32 := Scalar.remsi v2 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c1_i32_12 : BitVec 32 := 1#32
  let v27 : BitVec 1 := Scalar.cmpi .sle v26 c1_i32_12
  let c0_i32_14 : BitVec 32 := 0#32
  let v29 : BitVec 1 := Scalar.cmpi .sgt v2 c0_i32_14
  let v30 : BitVec 32 := Scalar.extui v29
  let c0_i32_15 : BitVec 32 := 0#32
  let v31 : BitVec 1 := Scalar.cmpi .slt v2 c0_i32_15
  let v32 : BitVec 32 := Scalar.extui v31
  let v33 : BitVec 32 := Scalar.subi v30 v32
  let c4_i32_13 : BitVec 32 := 4#32
  let c0_i32_16 : BitVec 32 := 0#32
  let v34 : BitVec 1 := Scalar.cmpi .sgt c4_i32_13 c0_i32_16
  let v35 : BitVec 32 := Scalar.extui v34
  let c0_i32_17 : BitVec 32 := 0#32
  let v36 : BitVec 1 := Scalar.cmpi .slt c4_i32_13 c0_i32_17
  let v37 : BitVec 32 := Scalar.extui v36
  let v38 : BitVec 32 := Scalar.subi v35 v37
  let v39 : BitVec 1 := Scalar.cmpi .ne v33 v38
  let v40 : BitVec 32 := Scalar.remsi v2 c4_i32_13
  let c0_i32_18 : BitVec 32 := 0#32
  let v41 : BitVec 1 := Scalar.cmpi .ne v40 c0_i32_18
  let v42 : BitVec 1 := Scalar.andi v39 v41
  let v28 : BitVec 32 := Scalar.divsi v2 c4_i32_13
  let c1_i32_19 : BitVec 32 := 1#32
  let v43 : BitVec 32 := Scalar.subi v28 c1_i32_19
  let v44 : BitVec 32 := Scalar.select v42 v43 v28
  let c4_i32_27 : BitVec 32 := 4#32
  let c14_i32 : BitVec 32 := 14#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v45 : BitVec 32 := Scalar.addi c14_i32 v12
  let v46 : BitVec 32 := Scalar.subi v45 v2
  let c0_i32_21 : BitVec 32 := 0#32
  let v48 : BitVec 1 := Scalar.cmpi .sgt v46 c0_i32_21
  let v49 : BitVec 32 := Scalar.extui v48
  let c0_i32_22 : BitVec 32 := 0#32
  let v50 : BitVec 1 := Scalar.cmpi .slt v46 c0_i32_22
  let v51 : BitVec 32 := Scalar.extui v50
  let v52 : BitVec 32 := Scalar.subi v49 v51
  let c4_i32_20 : BitVec 32 := 4#32
  let c0_i32_23 : BitVec 32 := 0#32
  let v53 : BitVec 1 := Scalar.cmpi .sgt c4_i32_20 c0_i32_23
  let v54 : BitVec 32 := Scalar.extui v53
  let c0_i32_24 : BitVec 32 := 0#32
  let v55 : BitVec 1 := Scalar.cmpi .slt c4_i32_20 c0_i32_24
  let v56 : BitVec 32 := Scalar.extui v55
  let v57 : BitVec 32 := Scalar.subi v54 v56
  let v58 : BitVec 1 := Scalar.cmpi .ne v52 v57
  let v59 : BitVec 32 := Scalar.remsi v46 c4_i32_20
  let c0_i32_25 : BitVec 32 := 0#32
  let v60 : BitVec 1 := Scalar.cmpi .ne v59 c0_i32_25
  let v61 : BitVec 1 := Scalar.andi v58 v60
  let v47 : BitVec 32 := Scalar.divsi v46 c4_i32_20
  let c1_i32_26 : BitVec 32 := 1#32
  let v62 : BitVec 32 := Scalar.subi v47 c1_i32_26
  let v63 : BitVec 32 := Scalar.select v61 v62 v47
  let v64 : BitVec 32 := Scalar.addi c4_i32_27 v63
  let v65 : BitVec 32 := Scalar.select v27 v44 v64
  let c1_i32_28 : BitVec 32 := 1#32
  let v66 : BitVec 32 := Scalar.addi v65 c1_i32_28
  let c8_i32 : BitVec 32 := 8#32
  let c0_i32_29 : BitVec 32 := 0#32
  let v67 : BitVec 1 := Scalar.cmpi .eq c8_i32 c0_i32_29
  let c1_i32_30 : BitVec 32 := 1#32
  let v68 : BitVec 32 := Scalar.select v67 c1_i32_30 c8_i32
  let v69 : BitVec 32 := Scalar.remsi v66 v68
  let c0_i32_32 : BitVec 32 := 0#32
  let v71 : BitVec 1 := Scalar.cmpi .slt v69 c0_i32_32
  let c0_i32_33 : BitVec 32 := 0#32
  let v72 : BitVec 1 := Scalar.cmpi .slt v68 c0_i32_33
  let v73 : BitVec 1 := Scalar.xori v71 v72
  let c0_i32_31 : BitVec 32 := 0#32
  let v70 : BitVec 1 := Scalar.cmpi .ne v69 c0_i32_31
  let v74 : BitVec 1 := Scalar.andi v73 v70
  let v75 : BitVec 32 := Scalar.addi v69 v68
  let v76 : BitVec 32 := Scalar.select v74 v75 v69
  let c3_i32 : BitVec 32 := 3#32
  let v77 : BitVec 1 := Scalar.cmpi .sle v76 c3_i32
  let c4_i32_34 : BitVec 32 := 4#32
  let v78 : BitVec 32 := Scalar.muli c4_i32_34 v76
  let c30_i32 : BitVec 32 := 30#32
  let c4_i32_35 : BitVec 32 := 4#32
  let v79 : BitVec 32 := Scalar.muli c4_i32_35 v76
  let v80 : BitVec 32 := Scalar.subi c30_i32 v79
  let v81 : BitVec 32 := Scalar.select v77 v78 v80
  let v82 : BitVec 32 := Scalar.addi v81 v12
  let c1_i32_513 : BitVec 32 := 1#32
  let v706 : BitVec 32 := Scalar.muli v82 c1_i32_513
  let v707 : BitVec 32 := Scalar.addi c0_i32_514 v706
  v707.toNat
def k0_dev20 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c1_i32_5 : BitVec 32 := 1#32
  let v14 : BitVec 32 := Scalar.addi v2 c1_i32_5
  let c1_i32_6 : BitVec 32 := 1#32
  let v15 : BitVec 32 := Scalar.subi v2 c1_i32_6
  let v16 : BitVec 32 := Scalar.select v13 v14 v15
  let c1_i32_844 : BitVec 32 := 1#32
  let v1113 : BitVec 32 := Scalar.muli v16 c1_i32_844
  let v1114 : BitVec 32 := Scalar.addi c0_i32_845 v1113
  v1114.toNat
def k0_dev21 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c1_i32_5 : BitVec 32 := 1#32
  let v14 : BitVec 32 := Scalar.addi v2 c1_i32_5
  let c1_i32_6 : BitVec 32 := 1#32
  let v15 : BitVec 32 := Scalar.subi v2 c1_i32_6
  let v16 : BitVec 32 := Scalar.select v13 v14 v15
  let c1_i32_846 : BitVec 32 := 1#32
  let v1115 : BitVec 32 := Scalar.muli v16 c1_i32_846
  let v1116 : BitVec 32 := Scalar.addi c0_i32_847 v1115
  v1116.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x2048x4x64 : Shape := ⟨4, ![2, 2048, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x4x128x2048 : Shape := ⟨4, ![2, 4, 128, 2048]⟩
abbrev S1x1x128x2048 : Shape := ⟨4, ![1, 1, 128, 2048]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x256, .f32⟩
  | 2 => ⟨S2x2048x4x64, .f32⟩
  | 3 => ⟨S2x2048x4x64, .f32⟩
  | 4 => ⟨S256x512, .f32⟩
  | 5 => ⟨S2x128x256, .f32⟩
  | 6 => ⟨S2x128x4x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S1x2048, .i32⟩
  | 47 => ⟨S128x2048, .i32⟩
  | 48 => ⟨S128x2048, .i32⟩
  | 49 => ⟨S128x2048, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S_, .i32⟩
  | 62 => ⟨S1x2048, .i32⟩
  | 63 => ⟨S1x2048, .i1⟩
  | 64 => ⟨S_, .i32⟩
  | 65 => ⟨S_, .i1⟩
  | 66 => ⟨S1x2048, .i1⟩
  | 67 => ⟨S1x2048, .i1⟩
  | 68 => ⟨S1x2048, .i1⟩
  | 69 => ⟨S1x2048, .i32⟩
  | 70 => ⟨S1x2048, .i32⟩
  | 71 => ⟨S1x2048, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x2048, .i32⟩
  | 95 => ⟨S128x2048, .i32⟩
  | 96 => ⟨S128x2048, .i1⟩
  | 97 => ⟨S128x2048, .i1⟩
  | 98 => ⟨S2x4x128x2048, .f32⟩
  | 99 => ⟨S_, .f32⟩
  | 100 => ⟨S2x4x128x2048, .f32⟩
  | 101 => ⟨S2x4x128x2048, .f32⟩
  | 102 => ⟨S1x1x128x2048, .i1⟩
  | 103 => ⟨S_, .f32⟩
  | 104 => ⟨S_, .f32⟩
  | 105 => ⟨S2x4x128x2048, .i1⟩
  | 106 => ⟨S2x4x128x2048, .f32⟩
  | 107 => ⟨S2x4x128x2048, .f32⟩
  | 108 => ⟨S_, .f32⟩
  | 109 => ⟨S2x4x128, .f32⟩
  | 110 => ⟨S2x4x128x1, .f32⟩
  | 111 => ⟨S2x4x128x2048, .f32⟩
  | 112 => ⟨S2x4x128x2048, .f32⟩
  | 113 => ⟨S2x4x128x2048, .f32⟩
  | 114 => ⟨S_, .i1⟩
  | 115 => ⟨S128, .i1⟩
  | 116 => ⟨S1x1x128x1, .i1⟩
  | 117 => ⟨S_, .f32⟩
  | 118 => ⟨S2x4x128, .f32⟩
  | 119 => ⟨S2x4x128x1, .f32⟩
  | 120 => ⟨S_, .f32⟩
  | 121 => ⟨S_, .f32⟩
  | 122 => ⟨S2x4x128x1, .i1⟩
  | 123 => ⟨S2x4x128x1, .f32⟩
  | 124 => ⟨S2x4x128x1, .f32⟩
  | 125 => ⟨S2x4x128x2048, .f32⟩
  | 126 => ⟨S2x4x128x2048, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x4x128x2048, .i1⟩
  | 3 => ⟨S2x4x128x2048, .f32⟩
  | 4 => ⟨S2x4x128x2048, .f32⟩
  | 5 => ⟨S2x4x64x128, .f32⟩
  | 6 => ⟨S2x128x4x64, .f32⟩
  | 7 => ⟨S2x128x256, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Place.lean ====
/- Where each device stands: its partner and its two ring neighbours, and the device words and conditions that the kernel
   computes, read as those tables.

   The sixteen devices form eight pairs `{2 k, 2 k + 1}`. The even devices form one ring of eight, the odd devices another of
   the same shape: `0 → 4 → 8 → 12 → 14 → 10 → 6 → 2 → 0`, and one more on each for the odd ring. -/
module

public import proofs.«01_k».proof.Proof.Gen.KernelIdeal.Skeleton

@[expose] public section

namespace Cert.SparseRing

open Cert.KernelIdeal Cert.KernelIdeal.Gen Idealize.ShloMosaic

/-- The next device of the ring. -/
def rt : Dev nD → Dev nD := ![4, 5, 0, 1, 8, 9, 2, 3, 12, 13, 6, 7, 14, 15, 10, 11]
/-- The device before in the ring. -/
def lf : Dev nD → Dev nD := ![2, 3, 6, 7, 0, 1, 10, 11, 4, 5, 14, 15, 8, 9, 12, 13]
/-- The other device of the pair. -/
def pt : Dev nD → Dev nD := ![1, 0, 3, 2, 5, 4, 7, 6, 9, 8, 11, 10, 13, 12, 15, 14]
/-- Whether the device is the even one of its pair. -/
def even (c : Dev nD) : Bool := c.val % 2 == 0

theorem lf_rt (c : Dev nD) : lf (rt c) = c := by revert c; decide
theorem rt_lf (c : Dev nD) : rt (lf c) = c := by revert c; decide
theorem pt_pt (c : Dev nD) : pt (pt c) = c := by revert c; decide
theorem even_pt (c : Dev nD) : even (pt c) = !even c := by revert c; decide
theorem even_rt (c : Dev nD) : even (rt c) = even c := by revert c; decide
theorem even_lf (c : Dev nD) : even (lf c) = even c := by revert c; decide

theorem rt_bij : Function.Bijective rt := ⟨fun a b h => by rw [← lf_rt a, ← lf_rt b, h], fun b => ⟨lf b, rt_lf b⟩⟩
theorem lf_bij : Function.Bijective lf := ⟨fun a b h => by rw [← rt_lf a, ← rt_lf b, h], fun b => ⟨rt b, lf_rt b⟩⟩
theorem pt_bij : Function.Bijective pt := ⟨fun a b h => by rw [← pt_pt a, ← pt_pt b, h], fun b => ⟨pt b, pt_pt b⟩⟩

/-! ## The conditions -/

/-- "The device is the even one of its pair", as the kernel computes it. -/
theorem cond1_eq (c : Dev nD) : k0_cond1 c = if even c then 1#1 else 0#1 := by revert c; decide

/-! ## The device words -/

theorem dev1_eq (c : Dev nD) : (⟨k0_dev1 c, k0_dev1_lt c⟩ : Dev nD) = lf c := Fin.ext (by revert c; decide)
theorem dev2_eq (c : Dev nD) : (⟨k0_dev2 c, k0_dev2_lt c⟩ : Dev nD) = rt c := Fin.ext (by revert c; decide)
theorem dev3_eq (c : Dev nD) : (⟨k0_dev3 c, k0_dev3_lt c⟩ : Dev nD) = pt c := Fin.ext (by revert c; decide)
theorem dev4_eq (c : Dev nD) (h : k0_cond1 c = 1#1) : (⟨k0_dev4 c, k0_dev4_lt c h⟩ : Dev nD) = pt c :=
  Fin.ext (by revert c; decide)
theorem dev5_eq (c : Dev nD) (h : k0_cond1 c = 1#1) : (⟨k0_dev5 c, k0_dev5_lt c h⟩ : Dev nD) = pt c :=
  Fin.ext (by revert c; decide)
theorem dev6_eq (c : Dev nD) : (⟨k0_dev6 c, k0_dev6_lt c⟩ : Dev nD) = rt c := Fin.ext (by revert c; decide)
theorem dev7_eq (c : Dev nD) : (⟨k0_dev7 c, k0_dev7_lt c⟩ : Dev nD) = rt c := Fin.ext (by revert c; decide)
theorem dev8_eq (c : Dev nD) : (⟨k0_dev8 c, k0_dev8_lt c⟩ : Dev nD) = lf c := Fin.ext (by revert c; decide)
theorem dev9_eq (c : Dev nD) : (⟨k0_dev9 c, k0_dev9_lt c⟩ : Dev nD) = lf c := Fin.ext (by revert c; decide)
theorem dev10_eq (c : Dev nD) : (⟨k0_dev10 c, k0_dev10_lt c⟩ : Dev nD) = rt c := Fin.ext (by revert c; decide)
theorem dev11_eq (c : Dev nD) : (⟨k0_dev11 c, k0_dev11_lt c⟩ : Dev nD) = lf c := Fin.ext (by revert c; decide)
theorem dev12_eq (c : Dev nD) : (⟨k0_dev12 c, k0_dev12_lt c⟩ : Dev nD) = rt c := Fin.ext (by revert c; decide)
theorem dev13_eq (c : Dev nD) : (⟨k0_dev13 c, k0_dev13_lt c⟩ : Dev nD) = lf c := Fin.ext (by revert c; decide)
theorem dev14_eq (c : Dev nD) : (⟨k0_dev14 c, k0_dev14_lt c⟩ : Dev nD) = rt c := Fin.ext (by revert c; decide)
theorem dev15_eq (c : Dev nD) : (⟨k0_dev15 c, k0_dev15_lt c⟩ : Dev nD) = lf c := Fin.ext (by revert c; decide)
theorem dev16_eq (c : Dev nD) : (⟨k0_dev16 c, k0_dev16_lt c⟩ : Dev nD) = rt c := Fin.ext (by revert c; decide)
theorem dev17_eq (c : Dev nD) : (⟨k0_dev17 c, k0_dev17_lt c⟩ : Dev nD) = lf c := Fin.ext (by revert c; decide)
theorem dev18_eq (c : Dev nD) : (⟨k0_dev18 c, k0_dev18_lt c⟩ : Dev nD) = rt c := Fin.ext (by revert c; decide)
theorem dev19_eq (c : Dev nD) : (⟨k0_dev19 c, k0_dev19_lt c⟩ : Dev nD) = rt c := Fin.ext (by revert c; decide)
theorem dev20_eq (c : Dev nD) : (⟨k0_dev20 c, k0_dev20_lt c⟩ : Dev nD) = pt c := Fin.ext (by revert c; decide)
theorem dev21_eq (c : Dev nD) : (⟨k0_dev21 c, k0_dev21_lt c⟩ : Dev nD) = pt c := Fin.ext (by revert c; decide)

end Cert.SparseRing

end
-- ==== Proof.Proto.lean ====
/- The protocol of the kernel: which semaphore cell hands over which memory with which contents, in which order it is waited for,
   and what every device owes.

   Each device sends eight kinds of copies. A copy of a channel goes from device `c` to the device `dst i c`; it raises the
   channel's receive cell there and the channel's send cell at home, each once.

   * `ra h`, `rm h` (`h < 4`): hop `h` of the right-going ring. Slot `h` of the buffers `cRa` (numerators) and `cRm` (row maxima
     and row sums) goes to slot `h + 1` of the next device. Slot `h` of device `c` holds the partial result of the device `h`
     places before it.
   * `la h`, `lm h` (`h < 3`): the same to the left, on the buffers `cLa` and `cLm`.
   * `sa`, `sm`: an even device seeds slot 0 of its partner's `cRa`, `cRm` with the partial result of batch 1.
   * `xa`, `xm`: at the end the partners exchange their combined numerators (rounded) and their maxima and sums.

   Before any of these each device raises the barrier cells of its two neighbours and of its partner by one, and waits for three.
   With its signal it hands over the memory which the receiver of the signal will write: to the device before it, its slots
   1 to 4 of the right-going buffers; to the next device, its slots 1 to 3 of the left-going ones; to the partner, the two
   landing buffers of the exchange, and (if it is odd) the slots that are seeded. -/
module

public import proofs.«01_k».proof.Proof.Place
public import proofs.«01_k».proof.Proof.Gen.KernelIdeal.Launch
public import proofs.«01_k».proof.Proof.Gen.KernelIdeal.Points
public import Idealize.ShloMosaic.Lib.Pipeline.Launch
public import Idealize.ShloMosaic.Lib.Tactic
public import Idealize.ShloMosaic.Lib.PointwiseCore
public import Mathlib.Tactic.DeriveFintype

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The buffers and the slots -/

abbrev bX : Memref sig .tc .vmem S2x128x512 .f32 := Memref.whole cc0_stg0_0
abbrev bWq : Memref sig .tc .vmem S512x256 .f32 := Memref.whole cc0_stg1_0
abbrev bK : Memref sig .tc .vmem S2x128x4x64 .f32 := Memref.whole cc0_stg2_0
abbrev bV : Memref sig .tc .vmem S2x128x4x64 .f32 := Memref.whole cc0_stg3_0
abbrev bWo : Memref sig .tc .vmem S256x512 .f32 := Memref.whole cc0_stg4_0
abbrev bOut : Memref sig .tc .vmem S2x128x512 .f32 := Memref.whole cc0_stg5_0
abbrev bRa : Memref sig .tc .vmem S5x512x64 .bf16 := Memref.whole cc0_scratch0
abbrev bRm : Memref sig .tc .vmem S5x2x4x128 .f32 := Memref.whole cc0_scratch1
abbrev bLa : Memref sig .tc .vmem S4x512x64 .bf16 := Memref.whole cc0_scratch2
abbrev bLm : Memref sig .tc .vmem S4x2x4x128 .f32 := Memref.whole cc0_scratch3
abbrev bAcc : Memref sig .tc .vmem S512x64 .f32 := Memref.whole cc0_scratch20
abbrev bMl : Memref sig .tc .vmem S2x4x128 .f32 := Memref.whole cc0_scratch21
abbrev bSsa : Memref sig .tc .vmem S512x64 .bf16 := Memref.whole cc0_scratch22
abbrev bSsm : Memref sig .tc .vmem S2x4x128 .f32 := Memref.whole cc0_scratch23
abbrev bSxa : Memref sig .tc .vmem S512x64 .bf16 := Memref.whole cc0_scratch24
abbrev bXa : Memref sig .tc .vmem S512x64 .bf16 := Memref.whole cc0_scratch25
abbrev bXm : Memref sig .tc .vmem S2x4x128 .f32 := Memref.whole cc0_scratch26

theorem inbRa (h : Fin 5) : ∀ a, (![h.val, 0, 0] : Fin 3 → ℕ) a + S1x512x64.size a ≤ S5x512x64.size a := by revert h; decide
theorem inbRm (h : Fin 5) : ∀ a, (![h.val, 0, 0, 0] : Fin 4 → ℕ) a + S1x2x4x128.size a ≤ S5x2x4x128.size a := by revert h; decide
theorem inbLa (h : Fin 4) : ∀ a, (![h.val, 0, 0] : Fin 3 → ℕ) a + S1x512x64.size a ≤ S4x512x64.size a := by revert h; decide
theorem inbLm (h : Fin 4) : ∀ a, (![h.val, 0, 0, 0] : Fin 4 → ℕ) a + S1x2x4x128.size a ≤ S4x2x4x128.size a := by revert h; decide
abbrev slRa (h : Fin 5) : Rect S5x512x64 := Rect.unit (s := S5x512x64) ![h.val, 0, 0] S1x512x64.size (inbRa h)
abbrev slRm (h : Fin 5) : Rect S5x2x4x128 := Rect.unit (s := S5x2x4x128) ![h.val, 0, 0, 0] S1x2x4x128.size (inbRm h)
abbrev slLa (h : Fin 4) : Rect S4x512x64 := Rect.unit (s := S4x512x64) ![h.val, 0, 0] S1x512x64.size (inbLa h)
abbrev slLm (h : Fin 4) : Rect S4x2x4x128 := Rect.unit (s := S4x2x4x128) ![h.val, 0, 0, 0] S1x2x4x128.size (inbLm h)

/-- The slots as the memrefs that the copies take. -/
abbrev mRa (h : Fin 5) : Memref sig .tc .vmem S512x64 .bf16 := (bRa.slice (slRa h) (fun _ => rfl)).squeeze S512x64 squeezes_S1x512x64_S512x64
abbrev mRm (h : Fin 5) : Memref sig .tc .vmem S2x4x128 .f32 := (bRm.slice (slRm h) (fun _ => rfl)).squeeze S2x4x128 squeezes_S1x2x4x128_S2x4x128
abbrev mLa (h : Fin 4) : Memref sig .tc .vmem S512x64 .bf16 := (bLa.slice (slLa h) (fun _ => rfl)).squeeze S512x64 squeezes_S1x512x64_S512x64
abbrev mLm (h : Fin 4) : Memref sig .tc .vmem S2x4x128 .f32 := (bLm.slice (slLm h) (fun _ => rfl)).squeeze S2x4x128 squeezes_S1x2x4x128_S2x4x128

/-- A slot of each ring buffer, held with a share of it at the contents `f` of the whole buffer. -/
def RaP (c : Dev nD) (h : Fin 5) (q : PosShare TreeShare) (f : Buf (Elt F) (bRa.view.loc (c : Thread nD τ))) : sProp 𝕄 :=
  bRa.view.loc (c : Thread nD τ) ↦[bRa.view.setOn (slRa h).set]{q} f
def RmP (c : Dev nD) (h : Fin 5) (q : PosShare TreeShare) (f : Buf (Elt F) (bRm.view.loc (c : Thread nD τ))) : sProp 𝕄 :=
  bRm.view.loc (c : Thread nD τ) ↦[bRm.view.setOn (slRm h).set]{q} f
def LaP (c : Dev nD) (h : Fin 4) (q : PosShare TreeShare) (f : Buf (Elt F) (bLa.view.loc (c : Thread nD τ))) : sProp 𝕄 :=
  bLa.view.loc (c : Thread nD τ) ↦[bLa.view.setOn (slLa h).set]{q} f
def LmP (c : Dev nD) (h : Fin 4) (q : PosShare TreeShare) (f : Buf (Elt F) (bLm.view.loc (c : Thread nD τ))) : sProp 𝕄 :=
  bLm.view.loc (c : Thread nD τ) ↦[bLm.view.setOn (slLm h).set]{q} f

def RaE (c : Dev nD) (h : Fin 5) : sProp 𝕄 := iprop(∃ f, RaP (F := F) c h fullShare f)
def RmE (c : Dev nD) (h : Fin 5) : sProp 𝕄 := iprop(∃ f, RmP (F := F) c h fullShare f)
def LaE (c : Dev nD) (h : Fin 4) : sProp 𝕄 := iprop(∃ f, LaP (F := F) c h fullShare f)
def LmE (c : Dev nD) (h : Fin 4) : sProp 𝕄 := iprop(∃ f, LmP (F := F) c h fullShare f)

/-- A buffer of a slot's shape repeated in every slot: the contents under which a slot is held. -/
def spA5 (v : FVec F S512x64 .bf16) : Vec F S5x512x64 .bf16 := fun i => v (ix2 (i 1) (i 2))
def spA4 (v : FVec F S512x64 .bf16) : Vec F S4x512x64 .bf16 := fun i => v (ix2 (i 1) (i 2))
def spM5 (v : FVec F S2x4x128 .f32) : Vec F S5x2x4x128 .f32 := fun i => v (ix3 (i 1) (i 2) (i 3))
def spM4 (v : FVec F S2x4x128 .f32) : Vec F S4x2x4x128 .f32 := fun i => v (ix3 (i 1) (i 2) (i 3))

/-! ## Channels and cells -/

inductive Ch where
  | ra (h : Fin 4) | rm (h : Fin 4) | la (h : Fin 3) | lm (h : Fin 3) | sa | sm | xa | xm
  deriving DecidableEq, Fintype

/-- A device's cells: the barrier's, and each channel's two. -/
inductive Cl where
  | bar | snd (i : Ch) | rcv (i : Ch)
  deriving DecidableEq, Fintype

def sndN : Ch → ℕ
  | .ra h => 6 + h | .rm h => 14 + h | .la h => 22 + h | .lm h => 28 + h | .sa => 34 | .sm => 36 | .xa => 38 | .xm => 40
def rcvN : Ch → ℕ
  | .ra h => 10 + h | .rm h => 18 + h | .la h => 25 + h | .lm h => 31 + h | .sa => 35 | .sm => 37 | .xa => 39 | .xm => 41

set_option maxRecDepth 4000 in
theorem sndN_lt : ∀ i : Ch, sndN i < 42 := by decide
set_option maxRecDepth 4000 in
theorem rcvN_lt : ∀ i : Ch, rcvN i < 42 := by decide
abbrev sndS (i : Ch) : DmaSem sig := ⟨sndN i, sndN_lt i⟩
abbrev rcvS (i : Ch) : DmaSem sig := ⟨rcvN i, rcvN_lt i⟩

/-- The barrier semaphore of the collective. -/
abbrev barS : Sem sig := (SemArray.scalar (sig.barrier 0 rfl) : Sems sig S_).sem

abbrev csem : Cl → SemLoc sig
  | .bar => .reg barS | .snd i => .dma (sndS i) | .rcv i => .dma (rcvS i)
abbrev kcell (ck : Dev nD × Cl) : GSem nD τ sig := ((ck.1 : Thread nD τ), csem ck.2)

/-- The channels in a list. -/
def chs : List Ch := [.ra 0, .ra 1, .ra 2, .ra 3, .rm 0, .rm 1, .rm 2, .rm 3, .la 0, .la 1, .la 2, .lm 0, .lm 1, .lm 2, .sa, .sm, .xa, .xm]

/-- Which cell a semaphore is. -/
def clOf : SemLoc sig → Option Cl
  | .reg s => if s = barS then some .bar else none
  | .dma q => ((chs.find? fun i => sndN i == q.val).map .snd).or ((chs.find? fun i => rcvN i == q.val).map .rcv)

theorem clOf_csem (k : Cl) : clOf (csem k) = some k := by
  rcases k with _ | i | i
  · show (if barS = barS then some Cl.bar else none) = _; exact if_pos rfl
  · revert i; decide
  · revert i; decide

theorem csem_inj : Function.Injective csem := fun a b h => by
  have := congrArg clOf h; rw [clOf_csem, clOf_csem] at this; exact Option.some.inj this
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-! ## Amounts, destinations, which cells are used -/

/-- The credit of a copy of numerators, and of one of maxima and sums. -/
abbrev amtA : ℕ := bSsa.view.dmaCredit
abbrev amtM : ℕ := bSsm.view.dmaCredit
theorem amtA_pos : 0 < amtA := View.dmaCredit_pos _ (by decide)
theorem amtM_pos : 0 < amtM := View.dmaCredit_pos _ (by decide)

def amt : Ch → ℕ
  | .ra _ | .la _ | .sa | .xa => amtA
  | .rm _ | .lm _ | .sm | .xm => amtM
theorem amt_pos (i : Ch) : 0 < amt i := by cases i <;> first | exact amtA_pos | exact amtM_pos

/-- Where a channel's copy goes. -/
def dst : Ch → Dev nD → Dev nD
  | .ra _ | .rm _ => rt
  | .la _ | .lm _ => lf
  | .sa | .sm | .xa | .xm => pt
/-- Where a channel's copy comes from. -/
def org : Ch → Dev nD → Dev nD
  | .ra _ | .rm _ => lf
  | .la _ | .lm _ => rt
  | .sa | .sm | .xa | .xm => pt
theorem org_dst (i : Ch) (c : Dev nD) : org i (dst i c) = c := by cases i <;> first | exact lf_rt c | exact rt_lf c | exact pt_pt c
theorem dst_org (i : Ch) (c : Dev nD) : dst i (org i c) = c := by cases i <;> first | exact lf_rt c | exact rt_lf c | exact pt_pt c

/-- The seeds are sent by the even devices only, and received by the odd ones. -/
def sends : Ch → Dev nD → Bool
  | .sa, c | .sm, c => even c
  | _, _ => true
def gets : Ch → Dev nD → Bool
  | .sa, c | .sm, c => !even c
  | _, _ => true
theorem gets_dst (i : Ch) (c : Dev nD) : gets i (dst i c) = sends i c := by
  cases i <;> simp only [gets, dst, sends, even_pt, Bool.not_not]

/-! ## Contents -/

/-- What the copies carry: the partial result which each device starts the ring with, and what it hands its partner at the end. -/
structure Vals (F : FTy → Type) where
  pa : Dev nD → FVec F S512x64 .bf16
  pm : Dev nD → FVec F S2x4x128 .f32
  xa : Dev nD → FVec F S512x64 .bf16
  xm : Dev nD → FVec F S2x4x128 .f32

variable (V : Vals F)

def SsaE (c : Dev nD) : sProp 𝕄 := iprop(∃ f : Buf (Elt F) (bSsa.view.loc (c : Thread nD τ)), bSsa.view.loc (c : Thread nD τ) ↦{fullShare} f)
def SsmE (c : Dev nD) : sProp 𝕄 := iprop(∃ f : Buf (Elt F) (bSsm.view.loc (c : Thread nD τ)), bSsm.view.loc (c : Thread nD τ) ↦{fullShare} f)
def SxaE (c : Dev nD) : sProp 𝕄 := iprop(∃ f : Buf (Elt F) (bSxa.view.loc (c : Thread nD τ)), bSxa.view.loc (c : Thread nD τ) ↦{fullShare} f)
def XaE (c : Dev nD) : sProp 𝕄 := iprop(∃ f : Buf (Elt F) (bXa.view.loc (c : Thread nD τ)), bXa.view.loc (c : Thread nD τ) ↦{fullShare} f)
def XmE (c : Dev nD) : sProp 𝕄 := iprop(∃ f : Buf (Elt F) (bXm.view.loc (c : Thread nD τ)), bXm.view.loc (c : Thread nD τ) ↦{fullShare} f)
def XaP (c : Dev nD) (v : FVec F S512x64 .bf16) : sProp 𝕄 := bXa.view.loc (c : Thread nD τ) ↦{fullShare} (v : Buf (Elt F) (bXa.view.loc (c : Thread nD τ)))
def XmP (c : Dev nD) (v : FVec F S2x4x128 .f32) : sProp 𝕄 := bXm.view.loc (c : Thread nD τ) ↦{fullShare} (v : Buf (Elt F) (bXm.view.loc (c : Thread nD τ)))
def MlP (c : Dev nD) (q : PosShare TreeShare) (v : FVec F S2x4x128 .f32) : sProp 𝕄 := bMl.view.loc (c : Thread nD τ) ↦{q} (v : Buf (Elt F) (bMl.view.loc (c : Thread nD τ)))

/-- What comes back with a send: the source, or the half share of it that was lent. -/
def sndPay : Ch → Dev nD → sProp 𝕄
  | .ra h, c => RaP c h.castSucc fullShare.right (spA5 (V.pa (lf^[h.val] c)))
  | .rm h, c => RmP c h.castSucc fullShare.right (spM5 (V.pm (lf^[h.val] c)))
  | .la h, c => LaP c h.castSucc fullShare.right (spA4 (V.pa (rt^[h.val] c)))
  | .lm h, c => LmP c h.castSucc fullShare.right (spM4 (V.pm (rt^[h.val] c)))
  | .sa, c => SsaE c
  | .sm, c => SsmE c
  | .xa, c => SxaE c
  | .xm, c => MlP c fullShare.right (V.xm c)

/-- What a landing hands over. -/
def rcvPay : Ch → Dev nD → sProp 𝕄
  | .ra h, c => RaP c h.succ fullShare (spA5 (V.pa (lf^[h.val + 1] c)))
  | .rm h, c => RmP c h.succ fullShare (spM5 (V.pm (lf^[h.val + 1] c)))
  | .la h, c => LaP c h.succ fullShare (spA4 (V.pa (rt^[h.val + 1] c)))
  | .lm h, c => LmP c h.succ fullShare (spM4 (V.pm (rt^[h.val + 1] c)))
  | .sa, c => RaP c 0 fullShare (spA5 (V.pa c))
  | .sm, c => RmP c 0 fullShare (spM5 (V.pm c))
  | .xa, c => XaP c (V.xa (pt c))
  | .xm, c => XmP c (V.xm (pt c))

/-- The memory which a device hands its neighbours and its partner at the barrier. -/
def rSlots (c : Dev nD) : sProp 𝕄 := iprop((RaE (F := F) c 1 ∗ RaE (F := F) c 2 ∗ RaE (F := F) c 3 ∗ RaE (F := F) c 4) ∗ (RmE (F := F) c 1 ∗ RmE (F := F) c 2 ∗ RmE (F := F) c 3 ∗ RmE (F := F) c 4))
def lSlots (c : Dev nD) : sProp 𝕄 := iprop((LaE (F := F) c 1 ∗ LaE (F := F) c 2 ∗ LaE (F := F) c 3) ∗ (LmE (F := F) c 1 ∗ LmE (F := F) c 2 ∗ LmE (F := F) c 3))
def seedSlots (c : Dev nD) : sProp 𝕄 := iprop(RaE (F := F) c 0 ∗ RmE (F := F) c 0)
def xSlots (c : Dev nD) : sProp 𝕄 := iprop((XaE (F := F) c ∗ XmE (F := F) c) ∗ (if even c then emp else seedSlots c))

/-- What a signal to the barrier of `c` brings, from the next device, from the one before, from the partner. -/
def barPay (c : Dev nD) : Fin 3 → sProp 𝕄
  | 0 => rSlots (rt c) | 1 => lSlots (lf c) | 2 => xSlots (pt c)

/-! ## The schedule: one round on each cell -/

def dutiesOf : Option Cl → Dev nD → Finset (Fin 3)
  | some .bar, _ => Finset.univ
  | some (.snd i), c => if sends i c then {0} else ∅
  | some (.rcv i), c => if gets i c then {0} else ∅
  | none, _ => ∅
def amountOf : Option Cl → ℕ
  | some (.snd i) => amt i | some (.rcv i) => amt i | _ => 1
def payOf : Option Cl → Dev nD → Fin 3 → sProp 𝕄
  | some .bar, c, d => barPay c d
  | some (.snd i), c, _ => sndPay V i c
  | some (.rcv i), c, _ => rcvPay V i c
  | none, _, _ => iprop(emp)

def Rd : Rounds.Schedule (GSem nD τ sig) (Fin 3) 𝕄 where
  duties g r := if r = 0 ∧ g.1.2 = .tc then dutiesOf (clOf g.2) g.1.1 else ∅
  unitless _ := False
  amount g _ _ := amountOf (clOf g.2)
  payload g _ d := payOf V (clOf g.2) g.1.1 d
  amount_pos g _ _ _ := by
    rcases clOf g.2 with _ | _ | i | i
    · exact Nat.one_pos
    · exact Nat.one_pos
    · exact amt_pos i
    · exact amt_pos i

section Storable
omit [FloatOps F]
variable (c : Dev nD)
instance (h q f) : BI.Storable (upEmb : UEmb _ 𝕄) (RaP (F := F) c h q f) := by unfold RaP; infer_instance
instance (h q f) : BI.Storable (upEmb : UEmb _ 𝕄) (RmP (F := F) c h q f) := by unfold RmP; infer_instance
instance (h q f) : BI.Storable (upEmb : UEmb _ 𝕄) (LaP (F := F) c h q f) := by unfold LaP; infer_instance
instance (h q f) : BI.Storable (upEmb : UEmb _ 𝕄) (LmP (F := F) c h q f) := by unfold LmP; infer_instance
instance (h) : BI.Storable (upEmb : UEmb _ 𝕄) (RaE (F := F) c h) := by unfold RaE; infer_instance
instance (h) : BI.Storable (upEmb : UEmb _ 𝕄) (RmE (F := F) c h) := by unfold RmE; infer_instance
instance (h) : BI.Storable (upEmb : UEmb _ 𝕄) (LaE (F := F) c h) := by unfold LaE; infer_instance
instance (h) : BI.Storable (upEmb : UEmb _ 𝕄) (LmE (F := F) c h) := by unfold LmE; infer_instance
instance : BI.Storable (upEmb : UEmb _ 𝕄) (SsaE (F := F) c) := by unfold SsaE; infer_instance
instance : BI.Storable (upEmb : UEmb _ 𝕄) (SsmE (F := F) c) := by unfold SsmE; infer_instance
instance : BI.Storable (upEmb : UEmb _ 𝕄) (SxaE (F := F) c) := by unfold SxaE; infer_instance
instance : BI.Storable (upEmb : UEmb _ 𝕄) (XaE (F := F) c) := by unfold XaE; infer_instance
instance : BI.Storable (upEmb : UEmb _ 𝕄) (XmE (F := F) c) := by unfold XmE; infer_instance
instance (v) : BI.Storable (upEmb : UEmb _ 𝕄) (XaP (F := F) c v) := by unfold XaP; infer_instance
instance (v) : BI.Storable (upEmb : UEmb _ 𝕄) (XmP (F := F) c v) := by unfold XmP; infer_instance
instance (q v) : BI.Storable (upEmb : UEmb _ 𝕄) (MlP (F := F) c q v) := by unfold MlP; infer_instance
instance : BI.Storable (upEmb : UEmb _ 𝕄) (rSlots (F := F) c) := by unfold rSlots; infer_instance
instance : BI.Storable (upEmb : UEmb _ 𝕄) (lSlots (F := F) c) := by unfold lSlots; infer_instance
instance : BI.Storable (upEmb : UEmb _ 𝕄) (xSlots (F := F) c) := by unfold xSlots seedSlots; split <;> infer_instance
instance (d) : BI.Storable (upEmb : UEmb _ 𝕄) (barPay (F := F) c d) := by fin_cases d <;> (dsimp only [barPay]; infer_instance)
instance (i) : BI.Storable (upEmb : UEmb _ 𝕄) (sndPay (F := F) V i c) := by cases i <;> (dsimp only [sndPay]; infer_instance)
instance (i) : BI.Storable (upEmb : UEmb _ 𝕄) (rcvPay (F := F) V i c) := by cases i <;> (dsimp only [rcvPay]; infer_instance)
instance Rd_storable (g : GSem nD τ sig) (r : ℕ) (d : Fin 3) : BI.Storable (upEmb : UEmb _ 𝕄) ((Rd V).payload g r d) := by
  show BI.Storable upEmb (payOf V (clOf g.2) g.1.1 d)
  rcases clOf g.2 with _ | _ | i | i <;> (dsimp only [payOf]; infer_instance)
end Storable

section Tables
omit [FloatOps F]
variable (c : Dev nD)

theorem duties_eq (k : Cl) : (Rd V).duties (kcell (c, k)) 0 = dutiesOf (some k) c := by
  dsimp only [Rd]; rw [if_pos ⟨rfl, rfl⟩, clOf_csem]
theorem duties_later (g : GSem nD τ sig) : ∀ r, 1 ≤ r → (Rd V).duties g r = ∅ := fun r hr => if_neg fun h => by omega
theorem duties_idle {k : Cl} (h : dutiesOf (some k) c = ∅) : ∀ r, 0 ≤ r → (Rd V).duties (kcell (c, k)) r = ∅ := fun r _ => by
  by_cases hr : r = 0
  · subst hr; rw [duties_eq, h]
  · exact if_neg fun h => hr h.1
theorem amount_eq (k : Cl) (d : Fin 3) : (Rd V).amount (kcell (c, k)) 0 d = amountOf (some k) := by dsimp only [Rd]; rw [clOf_csem]
theorem payload_eq (k : Cl) (d : Fin 3) : (Rd V).payload (kcell (c, k)) 0 d = payOf V (some k) c d := by dsimp only [Rd]; rw [clOf_csem]

theorem expect_bar : (Rd V).expect (kcell (c, .bar)) 0 = 3 := by
  unfold Schedule.expect Schedule.amountOf
  rw [duties_eq, Finset.sum_congr rfl fun d _ => amount_eq V c .bar d]
  rfl
theorem expect_snd {i : Ch} (h : sends i c = true) : (Rd V).expect (kcell (c, .snd i)) 0 = amt i := by
  unfold Schedule.expect Schedule.amountOf
  rw [duties_eq, dutiesOf, if_pos h, Finset.sum_singleton, amount_eq, amountOf]
theorem expect_rcv {i : Ch} (h : gets i c = true) : (Rd V).expect (kcell (c, .rcv i)) 0 = amt i := by
  unfold Schedule.expect Schedule.amountOf
  rw [duties_eq, dutiesOf, if_pos h, Finset.sum_singleton, amount_eq, amountOf]

theorem rest_bar : bigSep ((Rd V).duties (kcell (c, .bar)) 0 \ ∅) (fun d => (Rd V).payload (kcell (c, .bar)) 0 d)
    = iprop(rSlots (F := F) (rt c) ∗ lSlots (F := F) (lf c) ∗ xSlots (F := F) (pt c)) := by
  rw [Finset.sdiff_empty, duties_eq]
  show bigSep Finset.univ _ = _
  rw [bigSep_univ_eq_bigSepL [0, 1, 2] (by decide) (by decide), bigSepL_cons_cons, bigSepL_cons_cons, bigSepL_singleton,
    payload_eq, payload_eq, payload_eq]
  rfl
theorem rest_snd {i : Ch} (h : sends i c = true) :
    bigSep ((Rd V).duties (kcell (c, .snd i)) 0 \ ∅) (fun d => (Rd V).payload (kcell (c, .snd i)) 0 d) = sndPay V i c := by
  rw [Finset.sdiff_empty, duties_eq, dutiesOf, if_pos h, bigSep_singleton, payload_eq, payOf]
theorem rest_rcv {i : Ch} (h : gets i c = true) :
    bigSep ((Rd V).duties (kcell (c, .rcv i)) 0 \ ∅) (fun d => (Rd V).payload (kcell (c, .rcv i)) 0 d) = rcvPay V i c := by
  rw [Finset.sdiff_empty, duties_eq, dutiesOf, if_pos h, bigSep_singleton, payload_eq, payOf]
end Tables

/-! ## What a device owes, and the levels -/

/-- A device that has the channels of a list still to send owes their receive cells. -/
def O (c : Dev nD) : List Ch → CellTallies nD τ sig Unit
  | [] => 0
  | i :: l => O c l + tallyAt (kcell (dst i c, .rcv i)) () (amt i)

/-- The sends of the ring and of the exchange, in program order. -/
def ring : List Ch := [.ra 0, .rm 0, .la 0, .lm 0, .ra 1, .la 1, .rm 1, .lm 1, .ra 2, .la 2, .rm 2, .lm 2, .ra 3, .rm 3, .xa, .xm]
def todo (c : Dev nD) : List Ch := if even c then .sa :: .sm :: ring else ring

/-- Everything owed at the launch: the sends, and a unit to each of the three barrier cells, in the order of the signals. -/
def O₀ (c : Dev nD) : CellTallies nD τ sig Unit :=
  O c (todo c) + tallyAt (kcell (pt c, .bar)) () 1 + tallyAt (kcell (rt c, .bar)) () 1 + tallyAt (kcell (lf c, .bar)) () 1

def L (g : GSem nD τ sig) : Finset Unit := if g.1.2 = .tc then {()} else ∅
/-- The level of a receive cell: the seeds, then the hops in order, then the exchange. -/
def lvl : Ch → ℕ
  | .sa | .sm => 2
  | .ra h | .rm h => 3 + h
  | .la h | .lm h => 3 + h
  | .xa | .xm => 8
def lvOf : Option Cl → ℕ
  | some .bar => 1 | some (.rcv i) => lvl i | _ => 0
def lv (g : GSem nD τ sig) (_ : Unit) : ℕ := lvOf (clOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × Cl) (u : Unit) : lv (kcell ck) u = lvOf (some ck.2) := by unfold lv; rw [clOf_csem]

theorem O_pos {c : Dev nD} {l : List Ch} {g : GSem nD τ sig} {u : Unit} (h : 0 < O c l g u) : ∃ i ∈ l, g = kcell (dst i c, .rcv i) := by
  induction l with
  | nil => exact absurd h (Nat.lt_irrefl 0)
  | cons i l ih =>
    rw [O, Pi.add_apply, Finsupp.add_apply, tallyAt_apply] at h
    by_cases hg : g = kcell (dst i c, .rcv i) ∧ u = ()
    · exact ⟨i, List.mem_cons_self, hg.1⟩
    · rw [if_neg hg, Nat.add_zero] at h
      obtain ⟨j, hj, e⟩ := ih h
      exact ⟨j, List.mem_cons_of_mem _ hj, e⟩

omit [FloatOps F] in
/-- A wait on a cell below all the receive cells still owed. -/
theorem mayWait_O (c : Dev nD) (k : Cl) (l : List Ch) (h : ∀ j ∈ l, lvOf (some k) < lvl j) :
    (levAts L lv : sProp 𝕄) ⊢ MayWait (c : Thread nD τ) (csem k) () (O c l) := by
  refine MayOwe.of_cut (L := L) (lev := lv) (lvOf (some k)) (fun p hp => by rw [Finset.mem_singleton.mp hp, L_tc]; exact Finset.mem_singleton_self _)
    (fun g u hg => ?_) (fun p hp => ?_) (fun g u hg => ?_)
  · obtain ⟨j, _, e⟩ := O_pos hg; rw [e, L_tc]; exact Finset.mem_singleton_self _
  · rw [Finset.mem_singleton.mp hp]; exact (lv_kcell (c, k) ()).le
  · obtain ⟨j, hj, e⟩ := O_pos hg; rw [e, lv_kcell]; exact h j hj

theorem O₀_pos {c : Dev nD} {g : GSem nD τ sig} {u : Unit} (h : 0 < O₀ c g u) : ∃ ck : Dev nD × Cl, g = kcell ck ∧ 0 < lvOf (some ck.2) := by
  unfold O₀ at h
  rw [Pi.add_apply, Finsupp.add_apply, Pi.add_apply, Finsupp.add_apply, Pi.add_apply, Finsupp.add_apply, tallyAt_apply, tallyAt_apply, tallyAt_apply] at h
  by_cases h1 : 0 < O c (todo c) g u
  · obtain ⟨j, _, e⟩ := O_pos h1
    exact ⟨_, e, by cases j <;> simp only [lvOf, lvl] <;> omega⟩
  · by_contra hn
    rw [not_exists] at hn
    have hb (d : Dev nD) : ¬ (g = kcell (d, .bar) ∧ u = ()) := fun hg => hn (d, .bar) ⟨hg.1, Nat.one_pos⟩
    rw [if_neg (hb _), if_neg (hb _), if_neg (hb _)] at h
    exact h1 h

omit [FloatOps F] in
/-- The pipeline's own waits, on the staging semaphores. -/
theorem mayWait_stage (c : Dev nD) (q : DmaSem sig) (hq : clOf (.dma q) = none) (T : CellTallies nD τ sig Unit) (hT : T = O₀ c ∨ T = 0) :
    (levAts L lv : sProp 𝕄) ⊢ MayWait (c : Thread nD τ) (.dma q) () T := by
  rcases hT with rfl | rfl
  · refine MayOwe.of_cut (L := L) (lev := lv) 0 (fun p hp => by rw [Finset.mem_singleton.mp hp, L_tc]; exact Finset.mem_singleton_self _)
      (fun g u hg => ?_) (fun p hp => ?_) (fun g u hg => ?_)
    · obtain ⟨j, e, _⟩ := O₀_pos hg; rw [e, L_tc]; exact Finset.mem_singleton_self _
    · rw [Finset.mem_singleton.mp hp]; unfold lv; rw [hq]; exact le_rfl
    · obtain ⟨j, e, h⟩ := O₀_pos hg; rw [e, lv_kcell]; exact h
  · rw [MayWait_zero]; iintro -; iempintro

end Cert.SparseRing

end
-- ==== Proof.Steps.lean ====
/- One rule per remote step of the kernel, at any channel: a send lends the source and hands the destination over; a wait returns
   what the channel carries and closes the cell. -/
module

public import proofs.«01_k».proof.Proof.Proto
public import Idealize.ShloMosaic.Lib.Pipeline.Value
public import Idealize.ShloMosaic.Lib.ViewIndex
public import Idealize.ShloMosaic.Lib.ValueLayout
public import Idealize.ShloMosaic.Lib.Pointwise

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

/-! ## Slots read and written through the copies' memrefs -/

section Geometry
omit [FloatOps F]

theorem set_mRa (h : Fin 5) : (mRa h).view.set = bRa.view.setOn (slRa h).set := (Memref.set_view_squeeze _ _).trans (View.set_slice _ _)
theorem set_mRm (h : Fin 5) : (mRm h).view.set = bRm.view.setOn (slRm h).set := (Memref.set_view_squeeze _ _).trans (View.set_slice _ _)
theorem set_mLa (h : Fin 4) : (mLa h).view.set = bLa.view.setOn (slLa h).set := (Memref.set_view_squeeze _ _).trans (View.set_slice _ _)
theorem set_mLm (h : Fin 4) : (mLm h).view.set = bLm.view.setOn (slLm h).set := (Memref.set_view_squeeze _ _).trans (View.set_slice _ _)

theorem RaP_eq (c : Dev nD) (h q f) : RaP (F := F) c h q f = ((mRa h).view.loc (c : Thread nD τ) ↦[(mRa h).view.set]{q} f) := by rw [set_mRa]; rfl
theorem RmP_eq (c : Dev nD) (h q f) : RmP (F := F) c h q f = ((mRm h).view.loc (c : Thread nD τ) ↦[(mRm h).view.set]{q} f) := by rw [set_mRm]; rfl
theorem LaP_eq (c : Dev nD) (h q f) : LaP (F := F) c h q f = ((mLa h).view.loc (c : Thread nD τ) ↦[(mLa h).view.set]{q} f) := by rw [set_mLa]; rfl
theorem LmP_eq (c : Dev nD) (h q f) : LmP (F := F) c h q f = ((mLm h).view.loc (c : Thread nD τ) ↦[(mLm h).view.set]{q} f) := by rw [set_mLm]; rfl

/-- A coordinate at offset zero and stride one. -/
theorem unit_at (n : ℕ) : 0 + 1 * n = n := by omega

theorem read_mRa (h : Fin 5) (v : FVec F S512x64 .bf16) : (mRa h).view.read (Elt F) (spA5 v) = v := by
  rw [Memref.read_squeeze_slice (hc := shapeCasts_S1x512x64_S512x64)]
  funext y; idx_vars y
  refine (ValueIdx.shapeCast_1ab_ab_apply _ _ y0 y1).trans ?_
  exact congrArg v (congrArg₂ ix2 (Fin.ext (unit_at y0.val)) (Fin.ext (unit_at y1.val)))
theorem read_mRm (h : Fin 5) (v : FVec F S2x4x128 .f32) : (mRm h).view.read (Elt F) (spM5 v) = v := by
  rw [Memref.read_squeeze_slice (hc := shapeCasts_S1x2x4x128_S2x4x128)]
  funext y; idx_vars y
  refine (ValueIdx.shapeCast_1abc_abc_apply _ _ y0 y1 y2).trans ?_
  exact congrArg v (congr (congrArg₂ ix3 (Fin.ext (unit_at y0.val)) (Fin.ext (unit_at y1.val))) (Fin.ext (unit_at y2.val)))
theorem read_mLa (h : Fin 4) (v : FVec F S512x64 .bf16) : (mLa h).view.read (Elt F) (spA4 v) = v := by
  rw [Memref.read_squeeze_slice (hc := shapeCasts_S1x512x64_S512x64)]
  funext y; idx_vars y
  refine (ValueIdx.shapeCast_1ab_ab_apply _ _ y0 y1).trans ?_
  exact congrArg v (congrArg₂ ix2 (Fin.ext (unit_at y0.val)) (Fin.ext (unit_at y1.val)))
theorem read_mLm (h : Fin 4) (v : FVec F S2x4x128 .f32) : (mLm h).view.read (Elt F) (spM4 v) = v := by
  rw [Memref.read_squeeze_slice (hc := shapeCasts_S1x2x4x128_S2x4x128)]
  funext y; idx_vars y
  refine (ValueIdx.shapeCast_1abc_abc_apply _ _ y0 y1 y2).trans ?_
  exact congrArg v (congr (congrArg₂ ix3 (Fin.ext (unit_at y0.val)) (Fin.ext (unit_at y1.val))) (Fin.ext (unit_at y2.val)))

/-- A view's elements hold what is written through the view, whatever whole contents that is spelt with. -/
theorem pts_written {s : Shape} {e : EltTy} (t : Thread nD τ) (q : PosShare TreeShare)
    (w : View sig t.2.kind .vmem s e) (fd g : w.ty.Contents (Elt F)) (v : s.Idx → Elt F e) (h : w.read (Elt F) g = v) :
    (w.loc t ↦[w.set]{q} w.write (Elt F) fd v Finset.univ : sProp 𝕄) = (w.loc t ↦[w.set]{q} g) := by
  refine pointsTo_congr fun i hi => ?_
  obtain ⟨y, -, rfl⟩ := Finset.mem_map.mp hi
  exact View.eq_of_read_eq (by rw [View.read_write_univ, h])

end Geometry

/-! ## The ghost state of the cells -/

variable (V : Vals F) (K : Dev nD × Cl → ℕ)

/-- Every cell's invariant, and that every cell's round is open. -/
def records : sProp 𝕄 :=
  iprop((bigSep Finset.univ fun ck : Dev nD × Cl => cellInv ER (Rd V) (K ck) (kcell ck))
    ∗ bigSep Finset.univ fun ck : Dev nD × Cl => reached ER (kcell ck) 0)
instance records_persistent : BI.Persistent (records V K) := by unfold records; infer_instance

omit [FloatOps F] in
theorem inv_at (ck : Dev nD × Cl) :
    (bigSep Finset.univ fun ck : Dev nD × Cl => (cellInv ER (Rd V) (K ck) (kcell ck) : sProp 𝕄)) ⊢ cellInv ER (Rd V) (K ck) (kcell ck) :=
  bigSep_elim (Finset.mem_univ ck)
omit [FloatOps F] in
theorem reached_at (ck : Dev nD × Cl) :
    (bigSep Finset.univ fun ck : Dev nD × Cl => (reached ER (kcell ck) 0 : sProp 𝕄)) ⊢ reached ER (kcell ck) 0 :=
  bigSep_elim (Finset.mem_univ ck)
omit [FloatOps F] in
theorem records_inv (ck : Dev nD × Cl) : records V K ⊢ cellInv ER (Rd V) (K ck) (kcell ck) := by
  unfold records; iintro ⟨#H, -⟩; iapply (inv_at V K ck); iexact H
omit [FloatOps F] in
theorem records_reached (ck : Dev nD × Cl) : records V K ⊢ reached ER (kcell ck) 0 := by
  unfold records; iintro ⟨-, #H⟩; iapply (reached_at (F := F) ck); iexact H

/-- A device owes the channels of a list. -/
def ow (c : Dev nD) (l : List Ch) : sProp 𝕄 := iprop(∃ W, owes (c : Thread nD τ) (O c l) W)
/-- A send to be made: the two tokens that it pays with, and the position on the send cell. -/
def pend (i : Ch) (c : Dev nD) : sProp 𝕄 :=
  iprop(dutyTok ER (kcell (c, .snd i)) 0 0 ∗ dutyTok ER (kcell (dst i c, .rcv i)) 0 0 ∗ atPos ER (kcell (c, .snd i)) 0 ∅ 0)
/-- A send made and not yet waited for. -/
def lent (i : Ch) (c : Dev nD) : sProp 𝕄 := iprop(cred (tallyAt (kcell (c, .snd i)) () (amt i)) ∗ atPos ER (kcell (c, .snd i)) 0 ∅ 0)
/-- A landing to be waited for. -/
def due (i : Ch) (c : Dev nD) : sProp 𝕄 := iprop(cred (tallyAt (kcell (c, .rcv i)) () (amt i)) ∗ atPos ER (kcell (c, .rcv i)) 0 ∅ 0)
/-- The barrier still to be waited for. -/
def dueBar (c : Dev nD) : sProp 𝕄 := iprop(cred (tallyAt (kcell (c, .bar)) () 3) ∗ atPos ER (kcell (c, .bar)) 0 ∅ 0)
/-- A cell that is done with. -/
def shut (k : Cl) (c : Dev nD) : sProp 𝕄 := semVal (kcell (c, k)) 0

/-! ## Sends -/

theorem wp_send_gen (i : Ch) (c n : Dev nD) (hn : n = dst i c) (hl : sends i c = true) {s : Shape} {e : EltTy} {src dst' : Memref sig .tc .vmem s e}
    {sS sR : SemLoc sig} (hS : sS = csem (.snd i)) (hR : sR = csem (.rcv i))
    {hsc : (dst' : Memref sig (Dev.tc n : Thread nD τ).2.kind .vmem s e).view.ref.isScScratch = false}
    {hsrc : src.view.WordExact} {hdst : dst'.view.WordExact}
    {hsem : DmaTarget.Typed .vmem sR (.remote (Dev.tc n : Thread nD τ) dst' sS hsc)}
    {α : Type} {Q : α → sProp 𝕄} {k : PUnit → Prog (TpuEff nD τ sig (Elt F) Λ₀ .tc) α} {q : PosShare TreeShare}
    (fs : Buf (Elt F) (src.view.loc (c : Thread nD τ))) (fd : Buf (Elt F) (dst'.view.loc (dst i c : Thread nD τ)))
    (hamt : dst'.view.dmaCredit = amt i)
    (hpay₁ : (src.view.loc (c : Thread nD τ) ↦[src.view.set]{q} fs : sProp 𝕄) ⊢ sndPay V i c)
    (hpay₂ : (dst'.view.loc (dst i c : Thread nD τ) ↦[dst'.view.set]{fullShare} (dst'.view.write (Elt F) fd (src.view.read (Elt F) fs) Finset.univ) : sProp 𝕄)
      ⊢ rcvPay V i (dst i c)) (l : List Ch) :
    iprop(records V K ∗ (src.view.loc (c : Thread nD τ) ↦[src.view.set]{q} fs) ∗ (dst'.view.loc (dst i c : Thread nD τ) ↦[dst'.view.set]{fullShare} fd)
        ∗ ow c (i :: l) ∗ pend i c)
      ⊢ iprop(((lent i c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst' sS hsc) sR hsrc hdst hsem) k) Q) := by
  subst hn hS hR
  unfold ow pend lent
  iintro ⟨#HR, Hs, Hd, ⟨%W, HO⟩, Ht1, Ht2, Hat⟩ Hk
  iapply (Rounds.wp_send_pointsTo 𝒱₀ ER (Rd V) (c : Thread nD τ) none (κ₁ := K (c, .snd i)) (κ₂ := K (dst i c, .rcv i))
    (r₁ := 0) (r₂ := 0) (d₁ := 0) (d₂ := 0) (fd := fd)
    (by rw [show ((c : Thread nD τ), csem (.snd i)) = kcell (c, .snd i) from rfl, duties_eq, dutiesOf, if_pos hl]; exact Finset.mem_singleton_self _)
    (by rw [show ((dst i c : Thread nD τ), csem (.rcv i)) = kcell (dst i c, .rcv i) from rfl, duties_eq, dutiesOf, if_pos ((gets_dst i c).trans hl)]; exact Finset.mem_singleton_self _)
    () () (amt i) (show dst'.view.amount (csem (.rcv i)) = amt i from hamt) (amount_eq V c (.snd i) 0) (amount_eq V (dst i c) (.rcv i) 0) (O c l) rfl (W := W)
    (by rw [show ((c : Thread nD τ), csem (.snd i)) = kcell (c, .snd i) from rfl, payload_eq]; exact hpay₁)
    (by rw [show ((dst i c : Thread nD τ), csem (.rcv i)) = kcell (dst i c, .rcv i) from rfl, payload_eq]; exact hpay₂)) $$ [Hs Hd HO Ht1 Ht2]
  · isplitr; · iapply (records_inv V K (c, .snd i)); iexact HR
    isplitr; · iapply (records_inv V K (dst i c, .rcv i)); iexact HR
    isplitl [Hs]; · iexact Hs
    isplitl [Hd]; · iexact Hd
    isplitl [HO]; · iexact HO
    isplitl [Ht1]; · iexact Ht1
    isplitr; · iapply (records_reached V K (c, .snd i)); iexact HR
    isplitl [Ht2]; · iexact Ht2
    iapply (records_reached V K (dst i c, .rcv i)); iexact HR
  iintro ⟨Hcr, HO⟩
  iapply Hk
  isplitl [Hcr Hat]
  · isplitl [Hcr] <;> iassumption
  iexists W; iexact HO

/-! ## Waits -/

theorem wp_wait_gen (k : Cl) (c : Dev nD) (l : List Ch) (hlv : ∀ j ∈ l, lvOf (some k) < lvl j) {w : TpuEff nD τ sig (Elt F) Λ₀ .tc PUnit} {n : ℕ}
    (hw : ∀ X : PUnit → sProp 𝕄, wpE (defs₀ (F := F)) 𝒱₀ (c : Thread nD τ) none Set.univ w X = waitSpec (c : Thread nD τ) Set.univ (csem k) n X)
    (hn : (Rd V).expect (kcell (c, k)) 0 = n)
    {α : Type} {Q : α → sProp 𝕄} {f : PUnit → Prog (TpuEff nD τ sig (Elt F) Λ₀ .tc) α} :
    iprop(records V K ∗ (cred (tallyAt (kcell (c, k)) () n) ∗ atPos ER (kcell (c, k)) 0 ∅ 0) ∗ ow c l ∗ levAts L lv)
      ⊢ iprop(((bigSep ((Rd V).duties (kcell (c, k)) 0 \ ∅) (fun d => (Rd V).payload (kcell (c, k)) 0 d) ∗ shut k c ∗ ow c l)
            -∗ wp frame (wpE (defs₀ (F := F)) 𝒱₀ (c : Thread nD τ) none) Set.univ (f ⟨⟩) Q)
          -∗ wp frame (wpE (defs₀ (F := F)) 𝒱₀ (c : Thread nD τ) none) Set.univ (.op w f) Q) := by
  unfold ow
  iintro ⟨#HR, ⟨Hcr, Hat⟩, ⟨%W, HO⟩, #Hlev⟩ Hk
  iapply (Rounds.wp_wait_rest_token 𝒱₀ ER (Rd V) (c : Thread nD τ) none (κ := K (c, k)) (sm := csem k) hw (Set.mem_univ _) () (O := O c l) (W := W)
      (R := 0) (m := 0) (T := ∅) (by rw [Nat.zero_add]; exact hn.symm)) $$ [Hcr HO Hat]
  · isplitr; · iapply (records_inv V K (c, k)); iexact HR
    isplitl [Hcr]; · iexact Hcr
    isplitl [HO]; · iexact HO
    isplitr; · iapply (mayWait_O c k l hlv); iexact Hlev
    iexact Hat
  iintro ⟨HO, Hat, -, Hpay⟩
  imod (Rounds.cell_close ER (Rd V) (Set.mem_univ (K (c, k))) (fun h => h) (R := 0 + 1) (duties_later V (kcell (c, k)))) $$ [Hat] with Hz
  · isplitr; · iapply (records_inv V K (c, k)); iexact HR
    iexact Hat
  iapply Hk
  isplitl [Hpay]; · iexact Hpay
  isplitl [Hz]; · unfold shut; iexact Hz
  iexists _; iexact HO

theorem wp_wait_rcv (i : Ch) (c : Dev nD) (hl : gets i c = true) (l : List Ch) (hlv : ∀ j ∈ l, lvl i < lvl j) {q : DmaSem sig} (hq : q = rcvS i)
    {s s' : Shape} {e e' : EltTy} {src : Memref sig .tc .vmem s e} {d : Memref sig .tc .vmem s' e'} {hsrc : src.view.WordExact} {hd : d.view.WordExact}
    (hamt : d.view.dmaCredit = amt i)
    {α : Type} {Q : α → sProp 𝕄} {f : PUnit → Prog (TpuEff nD τ sig (Elt F) Λ₀ .tc) α} :
    iprop(records V K ∗ due i c ∗ ow c l ∗ levAts L lv)
      ⊢ iprop(((rcvPay V i c ∗ shut (.rcv i) c ∗ ow c l) -∗ wp frame (wpE (defs₀ (F := F)) 𝒱₀ (c : Thread nD τ) none) Set.univ (f ⟨⟩) Q)
          -∗ wp frame (wpE (defs₀ (F := F)) 𝒱₀ (c : Thread nD τ) none) Set.univ (.op (.waitDma2 q src d hsrc hd) f) Q) := by
  subst hq
  have := wp_wait_gen V K (.rcv i) c l hlv (w := .waitDma2 (rcvS i) src d hsrc hd) (n := amt i)
    (fun X => by rw [wpE_waitDma2_eq, hamt]) (expect_rcv V c hl) (Q := Q) (f := f)
  rw [rest_rcv V c hl] at this
  exact this

theorem wp_wait_snd (i : Ch) (c : Dev nD) (hl : sends i c = true) (l : List Ch) (hlv : ∀ j ∈ l, 0 < lvl j) {q : DmaSem sig} (hq : q = sndS i)
    {s s' : Shape} {e e' : EltTy} {src : Memref sig .tc .vmem s e} {d : Memref sig .tc .vmem s' e'} {hsrc : src.view.WordExact} {hd : d.view.WordExact}
    (hamt : d.view.dmaCredit = amt i)
    {α : Type} {Q : α → sProp 𝕄} {f : PUnit → Prog (TpuEff nD τ sig (Elt F) Λ₀ .tc) α} :
    iprop(records V K ∗ lent i c ∗ ow c l ∗ levAts L lv)
      ⊢ iprop(((sndPay V i c ∗ shut (.snd i) c ∗ ow c l) -∗ wp frame (wpE (defs₀ (F := F)) 𝒱₀ (c : Thread nD τ) none) Set.univ (f ⟨⟩) Q)
          -∗ wp frame (wpE (defs₀ (F := F)) 𝒱₀ (c : Thread nD τ) none) Set.univ (.op (.waitDma2 q src d hsrc hd) f) Q) := by
  subst hq
  have := wp_wait_gen V K (.snd i) c l hlv (w := .waitDma2 (sndS i) src d hsrc hd) (n := amt i)
    (fun X => by rw [wpE_waitDma2_eq, hamt]) (expect_snd V c hl) (Q := Q) (f := f)
  rw [rest_snd V c hl] at this
  exact this

theorem wp_wait_bar (c : Dev nD) (l : List Ch) (hlv : ∀ j ∈ l, 1 < lvl j) {q : Sem sig} (hq : q = barS)
    {α : Type} {Q : α → sProp 𝕄} {f : PUnit → Prog (TpuEff nD τ sig (Elt F) Λ₀ .tc) α} :
    iprop(records V K ∗ dueBar c ∗ ow c l ∗ levAts L lv)
      ⊢ iprop((((rSlots (F := F) (rt c) ∗ lSlots (F := F) (lf c) ∗ xSlots (F := F) (pt c)) ∗ shut .bar c ∗ ow c l)
            -∗ wp frame (wpE (defs₀ (F := F)) 𝒱₀ (c : Thread nD τ) none) Set.univ (f ⟨⟩) Q)
          -∗ wp frame (wpE (defs₀ (F := F)) 𝒱₀ (c : Thread nD τ) none) Set.univ (.op (.semWait q 3) f) Q) := by
  subst hq
  have := wp_wait_gen V K .bar c l hlv (w := .semWait barS 3) (n := 3)
    (fun X => wpE_semWait_eq _ _ _ _ X) (expect_bar V c) (Q := Q) (f := f)
  rw [rest_bar V c] at this
  exact this

end Cert.SparseRing

end
-- ==== Proof.Slots.lean ====
/- The ring buffers as their slots. -/
module

public import proofs.«01_k».proof.Proof.Steps
public import Idealize.ShloMosaic.Lib.Ring

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

/-! ## A buffer and its slots -/

section Slots
omit [FloatOps F]

theorem sep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem sep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem slot_disjoint {ι : Type} [DecidableEq ι] {n : ℕ} {I : Fin n → Finset ι} {p : ι → Fin n} (h : ∀ b y, y ∈ I b ↔ p y = b) (b b' : Fin n) (hb : b ≠ b') : Disjoint (I b) (I b') :=
  Finset.disjoint_left.mpr fun y hy hy' => hb (((h b y).mp hy).symm.trans ((h b' y).mp hy'))
theorem slot_cover {ι : Type} [DecidableEq ι] [Fintype ι] {n : ℕ} {I : Fin n → Finset ι} {p : ι → Fin n} (h : ∀ b y, y ∈ I b ↔ p y = b) : Finset.univ.biUnion I = Finset.univ :=
  Finset.eq_univ_iff_forall.mpr fun y => Finset.mem_biUnion.mpr ⟨p y, Finset.mem_univ _, (h _ y).mpr rfl⟩

theorem mem_slRa (b : Fin 5) (y : S5x512x64.Idx) : y ∈ bRa.view.setOn (slRa b).set ↔ (y 0 : Fin 5) = b := by
  refine (bRa.view.mem_setOn (x := y)).trans ?_
  rw [Rect.mem_set_unit]
  constructor
  · intro h; have := h 0; exact Fin.ext (by have h1 : b.val ≤ (y 0).val := this.1; have h2 : (y 0).val < b.val + 1 := this.2; omega)
  · intro h a
    subst h
    refine Fin.cases ?_ (fun j => ?_) a
    · exact ⟨le_rfl, Nat.lt_succ_self _⟩
    · fin_cases j <;> exact ⟨Nat.zero_le _, by first | exact lt_of_lt_of_eq (y _).isLt (Nat.zero_add _).symm⟩
theorem cutRa (c : Dev nD) : (iprop(∃ f, bRa.view.loc (c : Thread nD τ) ↦{fullShare} f) : sProp 𝕄) ⊢ iprop(RaE (F := F) c 0 ∗ RaE (F := F) c 1 ∗ RaE (F := F) c 2 ∗ RaE (F := F) c 3 ∗ RaE (F := F) c 4) := by
  iintro ⟨%f, H⟩
  ihave H1 := (Entails.of_eq (Ring.pointsTo_blocks (fun b => bRa.view.setOn (slRa b).set) (fun b b' h => slot_disjoint mem_slRa b b' h) (slot_cover mem_slRa) f)) $$ H
  ihave H2 := (Entails.of_eq (sep_fin5 _)) $$ H1
  icases H2 with ⟨H0, H1, H2, H3, H4⟩
  unfold RaE RaP
  isplitl [H0]
  · iexists f; iexact H0
  isplitl [H1]
  · iexists f; iexact H1
  isplitl [H2]
  · iexists f; iexact H2
  isplitl [H3]
  · iexists f; iexact H3
  iexists f; iexact H4
theorem joinRa (c : Dev nD) : iprop(RaE (F := F) c 0 ∗ RaE (F := F) c 1 ∗ RaE (F := F) c 2 ∗ RaE (F := F) c 3 ∗ RaE (F := F) c 4) ⊢ (iprop(∃ f, bRa.view.loc (c : Thread nD τ) ↦{fullShare} f) : sProp 𝕄) := by
  unfold RaE RaP
  iintro ⟨⟨%f0, H0⟩, H1, H2, H3, H4⟩
  iapply (Ring.pointsTo_blocks_join_exists (fun b => bRa.view.setOn (slRa b).set) (fun b b' h => slot_disjoint mem_slRa b b' h) (slot_cover mem_slRa) f0)
  iapply (Entails.of_eq (sep_fin5 _).symm)
  isplitl [H0]
  · iexists f0; iexact H0
  isplitl [H1]
  · iexact H1
  isplitl [H2]
  · iexact H2
  isplitl [H3]
  · iexact H3
  iexact H4

theorem mem_slRm (b : Fin 5) (y : S5x2x4x128.Idx) : y ∈ bRm.view.setOn (slRm b).set ↔ (y 0 : Fin 5) = b := by
  refine (bRm.view.mem_setOn (x := y)).trans ?_
  rw [Rect.mem_set_unit]
  constructor
  · intro h; have := h 0; exact Fin.ext (by have h1 : b.val ≤ (y 0).val := this.1; have h2 : (y 0).val < b.val + 1 := this.2; omega)
  · intro h a
    subst h
    refine Fin.cases ?_ (fun j => ?_) a
    · exact ⟨le_rfl, Nat.lt_succ_self _⟩
    · fin_cases j <;> exact ⟨Nat.zero_le _, by first | exact lt_of_lt_of_eq (y _).isLt (Nat.zero_add _).symm⟩
theorem cutRm (c : Dev nD) : (iprop(∃ f, bRm.view.loc (c : Thread nD τ) ↦{fullShare} f) : sProp 𝕄) ⊢ iprop(RmE (F := F) c 0 ∗ RmE (F := F) c 1 ∗ RmE (F := F) c 2 ∗ RmE (F := F) c 3 ∗ RmE (F := F) c 4) := by
  iintro ⟨%f, H⟩
  ihave H1 := (Entails.of_eq (Ring.pointsTo_blocks (fun b => bRm.view.setOn (slRm b).set) (fun b b' h => slot_disjoint mem_slRm b b' h) (slot_cover mem_slRm) f)) $$ H
  ihave H2 := (Entails.of_eq (sep_fin5 _)) $$ H1
  icases H2 with ⟨H0, H1, H2, H3, H4⟩
  unfold RmE RmP
  isplitl [H0]
  · iexists f; iexact H0
  isplitl [H1]
  · iexists f; iexact H1
  isplitl [H2]
  · iexists f; iexact H2
  isplitl [H3]
  · iexists f; iexact H3
  iexists f; iexact H4
theorem joinRm (c : Dev nD) : iprop(RmE (F := F) c 0 ∗ RmE (F := F) c 1 ∗ RmE (F := F) c 2 ∗ RmE (F := F) c 3 ∗ RmE (F := F) c 4) ⊢ (iprop(∃ f, bRm.view.loc (c : Thread nD τ) ↦{fullShare} f) : sProp 𝕄) := by
  unfold RmE RmP
  iintro ⟨⟨%f0, H0⟩, H1, H2, H3, H4⟩
  iapply (Ring.pointsTo_blocks_join_exists (fun b => bRm.view.setOn (slRm b).set) (fun b b' h => slot_disjoint mem_slRm b b' h) (slot_cover mem_slRm) f0)
  iapply (Entails.of_eq (sep_fin5 _).symm)
  isplitl [H0]
  · iexists f0; iexact H0
  isplitl [H1]
  · iexact H1
  isplitl [H2]
  · iexact H2
  isplitl [H3]
  · iexact H3
  iexact H4

theorem mem_slLa (b : Fin 4) (y : S4x512x64.Idx) : y ∈ bLa.view.setOn (slLa b).set ↔ (y 0 : Fin 4) = b := by
  refine (bLa.view.mem_setOn (x := y)).trans ?_
  rw [Rect.mem_set_unit]
  constructor
  · intro h; have := h 0; exact Fin.ext (by have h1 : b.val ≤ (y 0).val := this.1; have h2 : (y 0).val < b.val + 1 := this.2; omega)
  · intro h a
    subst h
    refine Fin.cases ?_ (fun j => ?_) a
    · exact ⟨le_rfl, Nat.lt_succ_self _⟩
    · fin_cases j <;> exact ⟨Nat.zero_le _, by first | exact lt_of_lt_of_eq (y _).isLt (Nat.zero_add _).symm⟩
theorem cutLa (c : Dev nD) : (iprop(∃ f, bLa.view.loc (c : Thread nD τ) ↦{fullShare} f) : sProp 𝕄) ⊢ iprop(LaE (F := F) c 0 ∗ LaE (F := F) c 1 ∗ LaE (F := F) c 2 ∗ LaE (F := F) c 3) := by
  iintro ⟨%f, H⟩
  ihave H1 := (Entails.of_eq (Ring.pointsTo_blocks (fun b => bLa.view.setOn (slLa b).set) (fun b b' h => slot_disjoint mem_slLa b b' h) (slot_cover mem_slLa) f)) $$ H
  ihave H2 := (Entails.of_eq (sep_fin4 _)) $$ H1
  icases H2 with ⟨H0, H1, H2, H3⟩
  unfold LaE LaP
  isplitl [H0]
  · iexists f; iexact H0
  isplitl [H1]
  · iexists f; iexact H1
  isplitl [H2]
  · iexists f; iexact H2
  iexists f; iexact H3
theorem joinLa (c : Dev nD) : iprop(LaE (F := F) c 0 ∗ LaE (F := F) c 1 ∗ LaE (F := F) c 2 ∗ LaE (F := F) c 3) ⊢ (iprop(∃ f, bLa.view.loc (c : Thread nD τ) ↦{fullShare} f) : sProp 𝕄) := by
  unfold LaE LaP
  iintro ⟨⟨%f0, H0⟩, H1, H2, H3⟩
  iapply (Ring.pointsTo_blocks_join_exists (fun b => bLa.view.setOn (slLa b).set) (fun b b' h => slot_disjoint mem_slLa b b' h) (slot_cover mem_slLa) f0)
  iapply (Entails.of_eq (sep_fin4 _).symm)
  isplitl [H0]
  · iexists f0; iexact H0
  isplitl [H1]
  · iexact H1
  isplitl [H2]
  · iexact H2
  iexact H3

theorem mem_slLm (b : Fin 4) (y : S4x2x4x128.Idx) : y ∈ bLm.view.setOn (slLm b).set ↔ (y 0 : Fin 4) = b := by
  refine (bLm.view.mem_setOn (x := y)).trans ?_
  rw [Rect.mem_set_unit]
  constructor
  · intro h; have := h 0; exact Fin.ext (by have h1 : b.val ≤ (y 0).val := this.1; have h2 : (y 0).val < b.val + 1 := this.2; omega)
  · intro h a
    subst h
    refine Fin.cases ?_ (fun j => ?_) a
    · exact ⟨le_rfl, Nat.lt_succ_self _⟩
    · fin_cases j <;> exact ⟨Nat.zero_le _, by first | exact lt_of_lt_of_eq (y _).isLt (Nat.zero_add _).symm⟩
theorem cutLm (c : Dev nD) : (iprop(∃ f, bLm.view.loc (c : Thread nD τ) ↦{fullShare} f) : sProp 𝕄) ⊢ iprop(LmE (F := F) c 0 ∗ LmE (F := F) c 1 ∗ LmE (F := F) c 2 ∗ LmE (F := F) c 3) := by
  iintro ⟨%f, H⟩
  ihave H1 := (Entails.of_eq (Ring.pointsTo_blocks (fun b => bLm.view.setOn (slLm b).set) (fun b b' h => slot_disjoint mem_slLm b b' h) (slot_cover mem_slLm) f)) $$ H
  ihave H2 := (Entails.of_eq (sep_fin4 _)) $$ H1
  icases H2 with ⟨H0, H1, H2, H3⟩
  unfold LmE LmP
  isplitl [H0]
  · iexists f; iexact H0
  isplitl [H1]
  · iexists f; iexact H1
  isplitl [H2]
  · iexists f; iexact H2
  iexists f; iexact H3
theorem joinLm (c : Dev nD) : iprop(LmE (F := F) c 0 ∗ LmE (F := F) c 1 ∗ LmE (F := F) c 2 ∗ LmE (F := F) c 3) ⊢ (iprop(∃ f, bLm.view.loc (c : Thread nD τ) ↦{fullShare} f) : sProp 𝕄) := by
  unfold LmE LmP
  iintro ⟨⟨%f0, H0⟩, H1, H2, H3⟩
  iapply (Ring.pointsTo_blocks_join_exists (fun b => bLm.view.setOn (slLm b).set) (fun b b' h => slot_disjoint mem_slLm b b' h) (slot_cover mem_slLm) f0)
  iapply (Entails.of_eq (sep_fin4 _).symm)
  isplitl [H0]
  · iexists f0; iexact H0
  isplitl [H1]
  · iexact H1
  isplitl [H2]
  · iexact H2
  iexact H3
end Slots

/-! ## The cells and the channels, one by one -/

section Lists
omit [FloatOps F]

set_option maxRecDepth 4000 in
theorem sep_ch (Φ : Ch → sProp 𝕄) : bigSep Finset.univ Φ = iprop(Φ (.ra 0) ∗ Φ (.ra 1) ∗ Φ (.ra 2) ∗ Φ (.ra 3) ∗ Φ (.rm 0) ∗ Φ (.rm 1) ∗ Φ (.rm 2) ∗ Φ (.rm 3) ∗ Φ (.la 0) ∗ Φ (.la 1) ∗ Φ (.la 2) ∗ Φ (.lm 0) ∗ Φ (.lm 1) ∗ Φ (.lm 2) ∗ Φ .sa ∗ Φ .sm ∗ Φ .xa ∗ Φ .xm) :=
  bigSep_univ_eq_bigSepL chs (by decide) (by decide) Φ
/-- The cells in the order of their semaphores. -/
def cls : List Cl := [.bar, .snd (.ra 0), .snd (.ra 1), .snd (.ra 2), .snd (.ra 3), .rcv (.ra 0), .rcv (.ra 1), .rcv (.ra 2), .rcv (.ra 3), .snd (.rm 0), .snd (.rm 1), .snd (.rm 2), .snd (.rm 3), .rcv (.rm 0), .rcv (.rm 1), .rcv (.rm 2), .rcv (.rm 3), .snd (.la 0), .snd (.la 1), .snd (.la 2), .rcv (.la 0), .rcv (.la 1), .rcv (.la 2), .snd (.lm 0), .snd (.lm 1), .snd (.lm 2), .rcv (.lm 0), .rcv (.lm 1), .rcv (.lm 2), .snd .sa, .rcv .sa, .snd .sm, .rcv .sm, .snd .xa, .rcv .xa, .snd .xm, .rcv .xm]
set_option maxRecDepth 4000 in
theorem sep_cl (Φ : Cl → sProp 𝕄) : bigSep Finset.univ Φ = iprop(Φ .bar ∗ Φ (.snd (.ra 0)) ∗ Φ (.snd (.ra 1)) ∗ Φ (.snd (.ra 2)) ∗ Φ (.snd (.ra 3)) ∗ Φ (.rcv (.ra 0)) ∗ Φ (.rcv (.ra 1)) ∗ Φ (.rcv (.ra 2)) ∗ Φ (.rcv (.ra 3)) ∗ Φ (.snd (.rm 0)) ∗ Φ (.snd (.rm 1)) ∗ Φ (.snd (.rm 2)) ∗ Φ (.snd (.rm 3)) ∗ Φ (.rcv (.rm 0)) ∗ Φ (.rcv (.rm 1)) ∗ Φ (.rcv (.rm 2)) ∗ Φ (.rcv (.rm 3)) ∗ Φ (.snd (.la 0)) ∗ Φ (.snd (.la 1)) ∗ Φ (.snd (.la 2)) ∗ Φ (.rcv (.la 0)) ∗ Φ (.rcv (.la 1)) ∗ Φ (.rcv (.la 2)) ∗ Φ (.snd (.lm 0)) ∗ Φ (.snd (.lm 1)) ∗ Φ (.snd (.lm 2)) ∗ Φ (.rcv (.lm 0)) ∗ Φ (.rcv (.lm 1)) ∗ Φ (.rcv (.lm 2)) ∗ Φ (.snd .sa) ∗ Φ (.rcv .sa) ∗ Φ (.snd .sm) ∗ Φ (.rcv .sm) ∗ Φ (.snd .xa) ∗ Φ (.rcv .xa) ∗ Φ (.snd .xm) ∗ Φ (.rcv .xm)) :=
  bigSep_univ_eq_bigSepL cls (by decide) (by decide) Φ
end Lists

end Cert.SparseRing

end
-- ==== Proof.Sends.lean ====
/- One rule per remote send of the kernel: the source is lent, the destination handed over. -/
module

public import proofs.«01_k».proof.Proof.Steps

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds

variable {F : FTy → Type} [FloatOps F]

local notation "𝕄" => MT nD τ sig Unit (Elt F) ℕ UU ℕ

variable (V : Vals F) (K : Dev nD × Cl → ℕ)

/-! ### The credit of each copy -/

theorem amt_mRa (h : Fin 5) : (mRa h).view.dmaCredit = amtA := rfl
theorem amt_mRm (h : Fin 5) : (mRm h).view.dmaCredit = amtM := rfl
theorem amt_mLa (h : Fin 4) : (mLa h).view.dmaCredit = amtA := rfl
theorem amt_mLm (h : Fin 4) : (mLm h).view.dmaCredit = amtM := rfl
theorem amt_bXa : bXa.view.dmaCredit = amtA := rfl
theorem amt_bXm : bXm.view.dmaCredit = amtM := rfl

/-! ### The hops of the rings -/

omit [FloatOps F] in
theorem pay_ra (h : Fin 4) (c : Dev nD) (fd) : ((mRa h.succ).view.loc (rt c : Thread nD τ) ↦[(mRa h.succ).view.set]{fullShare}
      (mRa h.succ).view.write (Elt F) fd ((mRa h.castSucc).view.read (Elt F) (spA5 (V.pa (lf^[h.val] c)))) Finset.univ : sProp 𝕄)
    = rcvPay V (.ra h) (rt c) := by
  show _ = RaP (rt c) h.succ fullShare (spA5 (V.pa (lf^[h.val + 1] (rt c))))
  rw [Function.iterate_succ_apply, lf_rt, RaP_eq]
  exact pts_written ((rt c : Dev nD) : Thread nD τ) fullShare (mRa h.succ).view fd (spA5 (V.pa (lf^[h.val] c))) _
    (by rw [read_mRa, read_mRa])

theorem wp_send_ra (h : Fin 4) (c n : Dev nD) (hn : n = rt c) {sS sR : SemLoc sig} (hS : sS = csem (.snd (.ra h))) (hR : sR = csem (.rcv (.ra h)))
    {hsc : (mRa h.succ : Memref sig (Dev.tc n : Thread nD τ).2.kind .vmem _ _).view.ref.isScScratch = false}
    {hsrc : (mRa h.castSucc).view.WordExact} {hdst : (mRa h.succ).view.WordExact}
    {hsem : DmaTarget.Typed .vmem sR (.remote (Dev.tc n : Thread nD τ) (mRa h.succ) sS hsc)}
    {α : Type} {Q : α → sProp 𝕄} {k : PUnit → Prog (TpuEff nD τ sig (Elt F) Λ₀ .tc) α} (l : List Ch) :
    iprop(records V K ∗ RaP c h.castSucc fullShare.right (spA5 (V.pa (lf^[h.val] c))) ∗ RaE (F := F) (rt c) h.succ ∗ ow c (.ra h :: l) ∗ pend (.ra h) c)
      ⊢ iprop(((lent (.ra h) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mRa h.castSucc) (.remote (Dev.tc n : Thread nD τ) (mRa h.succ) sS hsc) sR hsrc hdst hsem) k) Q) := by
  unfold RaE
  iintro ⟨#HR, Hs, ⟨%fd, Hd⟩, HO, Hp⟩
  have hg := wp_send_gen V K (.ra h) c n hn rfl hS hR (src := mRa h.castSucc) (dst' := mRa h.succ) (hsc := hsc) (hsrc := hsrc) (hdst := hdst)
    (hsem := hsem) (Q := Q) (k := k) (q := fullShare.right) (spA5 (V.pa (lf^[h.val] c))) fd (amt_mRa h.succ)
    (Entails.of_eq (RaP_eq c _ _ _).symm) (Entails.of_eq (pay_ra V h c fd)) l
  iapply hg $$ [Hs Hd HO Hp]
  isplitr; · iexact HR
  isplitl [Hs]; · iapply (Entails.of_eq (RaP_eq c _ _ _)); iexact Hs
  isplitl [Hd]; · iapply (Entails.of_eq (RaP_eq (rt c) _ _ _)); iexact Hd
  isplitl [HO] <;> iassumption

omit [FloatOps F] in
theorem pay_rm (h : Fin 4) (c : Dev nD) (fd) : ((mRm h.succ).view.loc (rt c : Thread nD τ) ↦[(mRm h.succ).view.set]{fullShare}
      (mRm h.succ).view.write (Elt F) fd ((mRm h.castSucc).view.read (Elt F) (spM5 (V.pm (lf^[h.val] c)))) Finset.univ : sProp 𝕄)
    = rcvPay V (.rm h) (rt c) := by
  show _ = RmP (rt c) h.succ fullShare (spM5 (V.pm (lf^[h.val + 1] (rt c))))
  rw [Function.iterate_succ_apply, lf_rt, RmP_eq]
  exact pts_written ((rt c : Dev nD) : Thread nD τ) fullShare (mRm h.succ).view fd (spM5 (V.pm (lf^[h.val] c))) _
    (by rw [read_mRm, read_mRm])

theorem wp_send_rm (h : Fin 4) (c n : Dev nD) (hn : n = rt c) {sS sR : SemLoc sig} (hS : sS = csem (.snd (.rm h))) (hR : sR = csem (.rcv (.rm h)))
    {hsc : (mRm h.succ : Memref sig (Dev.tc n : Thread nD τ).2.kind .vmem _ _).view.ref.isScScratch = false}
    {hsrc : (mRm h.castSucc).view.WordExact} {hdst : (mRm h.succ).view.WordExact}
    {hsem : DmaTarget.Typed .vmem sR (.remote (Dev.tc n : Thread nD τ) (mRm h.succ) sS hsc)}
    {α : Type} {Q : α → sProp 𝕄} {k : PUnit → Prog (TpuEff nD τ sig (Elt F) Λ₀ .tc) α} (l : List Ch) :
    iprop(records V K ∗ RmP c h.castSucc fullShare.right (spM5 (V.pm (lf^[h.val] c))) ∗ RmE (F := F) (rt c) h.succ ∗ ow c (.rm h :: l) ∗ pend (.rm h) c)
      ⊢ iprop(((lent (.rm h) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mRm h.castSucc) (.remote (Dev.tc n : Thread nD τ) (mRm h.succ) sS hsc) sR hsrc hdst hsem) k) Q) := by
  unfold RmE
  iintro ⟨#HR, Hs, ⟨%fd, Hd⟩, HO, Hp⟩
  have hg := wp_send_gen V K (.rm h) c n hn rfl hS hR (src := mRm h.castSucc) (dst' := mRm h.succ) (hsc := hsc) (hsrc := hsrc) (hdst := hdst)
    (hsem := hsem) (Q := Q) (k := k) (q := fullShare.right) (spM5 (V.pm (lf^[h.val] c))) fd (amt_mRm h.succ)
    (Entails.of_eq (RmP_eq c _ _ _).symm) (Entails.of_eq (pay_rm V h c fd)) l
  iapply hg $$ [Hs Hd HO Hp]
  isplitr; · iexact HR
  isplitl [Hs]; · iapply (Entails.of_eq (RmP_eq c _ _ _)); iexact Hs
  isplitl [Hd]; · iapply (Entails.of_eq (RmP_eq (rt c) _ _ _)); iexact Hd
  isplitl [HO] <;> iassumption

omit [FloatOps F] in
theorem pay_la (h : Fin 3) (c : Dev nD) (fd) : ((mLa h.succ).view.loc (lf c : Thread nD τ) ↦[(mLa h.succ).view.set]{fullShare}
      (mLa h.succ).view.write (Elt F) fd ((mLa h.castSucc).view.read (Elt F) (spA4 (V.pa (rt^[h.val] c)))) Finset.univ : sProp 𝕄)
    = rcvPay V (.la h) (lf c) := by
  show _ = LaP (lf c) h.succ fullShare (spA4 (V.pa (rt^[h.val + 1] (lf c))))
  rw [Function.iterate_succ_apply, rt_lf, LaP_eq]
  exact pts_written ((lf c : Dev nD) : Thread nD τ) fullShare (mLa h.succ).view fd (spA4 (V.pa (rt^[h.val] c))) _
    (by rw [read_mLa, read_mLa])

theorem wp_send_la (h : Fin 3) (c n : Dev nD) (hn : n = lf c) {sS sR : SemLoc sig} (hS : sS = csem (.snd (.la h))) (hR : sR = csem (.rcv (.la h)))
    {hsc : (mLa h.succ : Memref sig (Dev.tc n : Thread nD τ).2.kind .vmem _ _).view.ref.isScScratch = false}
    {hsrc : (mLa h.castSucc).view.WordExact} {hdst : (mLa h.succ).view.WordExact}
    {hsem : DmaTarget.Typed .vmem sR (.remote (Dev.tc n : Thread nD τ) (mLa h.succ) sS hsc)}
    {α : Type} {Q : α → sProp 𝕄} {k : PUnit → Prog (TpuEff nD τ sig (Elt F) Λ₀ .tc) α} (l : List Ch) :
    iprop(records V K ∗ LaP c h.castSucc fullShare.right (spA4 (V.pa (rt^[h.val] c))) ∗ LaE (F := F) (lf c) h.succ ∗ ow c (.la h :: l) ∗ pend (.la h) c)
      ⊢ iprop(((lent (.la h) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mLa h.castSucc) (.remote (Dev.tc n : Thread nD τ) (mLa h.succ) sS hsc) sR hsrc hdst hsem) k) Q) := by
  unfold LaE
  iintro ⟨#HR, Hs, ⟨%fd, Hd⟩, HO, Hp⟩
  have hg := wp_send_gen V K (.la h) c n hn rfl hS hR (src := mLa h.castSucc) (dst' := mLa h.succ) (hsc := hsc) (hsrc := hsrc) (hdst := hdst)
    (hsem := hsem) (Q := Q) (k := k) (q := fullShare.right) (spA4 (V.pa (rt^[h.val] c))) fd (amt_mLa h.succ)
    (Entails.of_eq (LaP_eq c _ _ _).symm) (Entails.of_eq (pay_la V h c fd)) l
  iapply hg $$ [Hs Hd HO Hp]
  isplitr; · iexact HR
  isplitl [Hs]; · iapply (Entails.of_eq (LaP_eq c _ _ _)); iexact Hs
  isplitl [Hd]; · iapply (Entails.of_eq (LaP_eq (lf c) _ _ _)); iexact Hd
  isplitl [HO] <;> iassumption

omit [FloatOps F] in
theorem pay_lm (h : Fin 3) (c : Dev nD) (fd) : ((mLm h.succ).view.loc (lf c : Thread nD τ) ↦[(mLm h.succ).view.set]{fullShare}
      (mLm h.succ).view.write (Elt F) fd ((mLm h.castSucc).view.read (Elt F) (spM4 (V.pm (rt^[h.val] c)))) Finset.univ : sProp 𝕄)
    = rcvPay V (.lm h) (lf c) := by
  show _ = LmP (lf c) h.succ fullShare (spM4 (V.pm (rt^[h.val + 1] (lf c))))
  rw [Function.iterate_succ_apply, rt_lf, LmP_eq]
  exact pts_written ((lf c : Dev nD) : Thread nD τ) fullShare (mLm h.succ).view fd (spM4 (V.pm (rt^[h.val] c))) _
    (by rw [read_mLm, read_mLm])

theorem wp_send_lm (h : Fin 3) (c n : Dev nD) (hn : n = lf c) {sS sR : SemLoc sig} (hS : sS = csem (.snd (.lm h))) (hR : sR = csem (.rcv (.lm h)))
    {hsc : (mLm h.succ : Memref sig (Dev.tc n : Thread nD τ).2.kind .vmem _ _).view.ref.isScScratch = false}
    {hsrc : (mLm h.castSucc).view.WordExact} {hdst : (mLm h.succ).view.WordExact}
    {hsem : DmaTarget.Typed .vmem sR (.remote (Dev.tc n : Thread nD τ) (mLm h.succ) sS hsc)}
    {α : Type} {Q : α → sProp 𝕄} {k : PUnit → Prog (TpuEff nD τ sig (Elt F) Λ₀ .tc) α} (l : List Ch) :
    iprop(records V K ∗ LmP c h.castSucc fullShare.right (spM4 (V.pm (rt^[h.val] c))) ∗ LmE (F := F) (lf c) h.succ ∗ ow c (.lm h :: l) ∗ pend (.lm h) c)
      ⊢ iprop(((lent (.lm h) c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mLm h.castSucc) (.remote (Dev.tc n : Thread nD τ) (mLm h.succ) sS hsc) sR hsrc hdst hsem) k) Q) := by
  unfold LmE
  iintro ⟨#HR, Hs, ⟨%fd, Hd⟩, HO, Hp⟩
  have hg := wp_send_gen V K (.lm h) c n hn rfl hS hR (src := mLm h.castSucc) (dst' := mLm h.succ) (hsc := hsc) (hsrc := hsrc) (hdst := hdst)
    (hsem := hsem) (Q := Q) (k := k) (q := fullShare.right) (spM4 (V.pm (rt^[h.val] c))) fd (amt_mLm h.succ)
    (Entails.of_eq (LmP_eq c _ _ _).symm) (Entails.of_eq (pay_lm V h c fd)) l
  iapply hg $$ [Hs Hd HO Hp]
  isplitr; · iexact HR
  isplitl [Hs]; · iapply (Entails.of_eq (LmP_eq c _ _ _)); iexact Hs
  isplitl [Hd]; · iapply (Entails.of_eq (LmP_eq (lf c) _ _ _)); iexact Hd
  isplitl [HO] <;> iassumption

/-! ### The seeds -/

omit [FloatOps F] in
theorem pay_sa (c : Dev nD) (v : FVec F S512x64 .bf16) (hv : V.pa (pt c) = v) (fd) : ((mRa 0).view.loc (pt c : Thread nD τ) ↦[(mRa 0).view.set]{fullShare}
      (mRa 0).view.write (Elt F) fd (bSsa.view.read (Elt F) v) Finset.univ : sProp 𝕄)
    = rcvPay V .sa (pt c) := by
  show _ = RaP (pt c) 0 fullShare (spA5 (V.pa (pt c)))
  rw [hv, RaP_eq]
  exact pts_written ((pt c : Dev nD) : Thread nD τ) fullShare (mRa 0).view fd (spA5 v) _ (by rw [read_mRa]; rfl)

theorem wp_send_sa (c n : Dev nD) (he : even c = true) (hn : n = pt c) {sS sR : SemLoc sig} (hS : sS = csem (.snd .sa)) (hR : sR = csem (.rcv .sa))
    {v : FVec F S512x64 .bf16} (hv : V.pa (pt c) = v)
    {hsc : (mRa 0 : Memref sig (Dev.tc n : Thread nD τ).2.kind .vmem _ _).view.ref.isScScratch = false}
    {hsrc : bSsa.view.WordExact} {hdst : (mRa 0).view.WordExact}
    {hsem : DmaTarget.Typed .vmem sR (.remote (Dev.tc n : Thread nD τ) (mRa 0) sS hsc)}
    {α : Type} {Q : α → sProp 𝕄} {k : PUnit → Prog (TpuEff nD τ sig (Elt F) Λ₀ .tc) α} (l : List Ch) :
    iprop(records V K ∗ (bSsa.view.loc (c : Thread nD τ) ↦{fullShare} (v : Buf (Elt F) (bSsa.view.loc (c : Thread nD τ)))) ∗ RaE (F := F) (pt c) 0 ∗ ow c (.sa :: l) ∗ pend .sa c)
      ⊢ iprop(((lent .sa c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bSsa (.remote (Dev.tc n : Thread nD τ) (mRa 0) sS hsc) sR hsrc hdst hsem) k) Q) := by
  unfold RaE
  iintro ⟨#HR, Hs, ⟨%fd, Hd⟩, HO, Hp⟩
  have hg := wp_send_gen V K .sa c n hn he hS hR (src := bSsa) (dst' := mRa 0) (hsc := hsc) (hsrc := hsrc) (hdst := hdst)
    (hsem := hsem) (Q := Q) (k := k) (q := fullShare) v fd (amt_mRa 0)
    (by
      show _ ⊢ SsaE c
      unfold SsaE; rw [View.set_whole]; iintro H; iexists _; iexact H)
    (Entails.of_eq (pay_sa V c v hv fd)) l
  iapply hg $$ [Hs Hd HO Hp]
  isplitr; · iexact HR
  isplitl [Hs]; · rw [View.set_whole]; iexact Hs
  isplitl [Hd]; · iapply (Entails.of_eq (RaP_eq (pt c) _ _ _)); iexact Hd
  isplitl [HO] <;> iassumption

omit [FloatOps F] in
theorem pay_sm (c : Dev nD) (v : FVec F S2x4x128 .f32) (hv : V.pm (pt c) = v) (fd) : ((mRm 0).view.loc (pt c : Thread nD τ) ↦[(mRm 0).view.set]{fullShare}
      (mRm 0).view.write (Elt F) fd (bSsm.view.read (Elt F) v) Finset.univ : sProp 𝕄)
    = rcvPay V .sm (pt c) := by
  show _ = RmP (pt c) 0 fullShare (spM5 (V.pm (pt c)))
  rw [hv, RmP_eq]
  exact pts_written ((pt c : Dev nD) : Thread nD τ) fullShare (mRm 0).view fd (spM5 v) _ (by rw [read_mRm]; rfl)

theorem wp_send_sm (c n : Dev nD) (he : even c = true) (hn : n = pt c) {sS sR : SemLoc sig} (hS : sS = csem (.snd .sm)) (hR : sR = csem (.rcv .sm))
    {v : FVec F S2x4x128 .f32} (hv : V.pm (pt c) = v)
    {hsc : (mRm 0 : Memref sig (Dev.tc n : Thread nD τ).2.kind .vmem _ _).view.ref.isScScratch = false}
    {hsrc : bSsm.view.WordExact} {hdst : (mRm 0).view.WordExact}
    {hsem : DmaTarget.Typed .vmem sR (.remote (Dev.tc n : Thread nD τ) (mRm 0) sS hsc)}
    {α : Type} {Q : α → sProp 𝕄} {k : PUnit → Prog (TpuEff nD τ sig (Elt F) Λ₀ .tc) α} (l : List Ch) :
    iprop(records V K ∗ (bSsm.view.loc (c : Thread nD τ) ↦{fullShare} (v : Buf (Elt F) (bSsm.view.loc (c : Thread nD τ)))) ∗ RmE (F := F) (pt c) 0 ∗ ow c (.sm :: l) ∗ pend .sm c)
      ⊢ iprop(((lent .sm c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bSsm (.remote (Dev.tc n : Thread nD τ) (mRm 0) sS hsc) sR hsrc hdst hsem) k) Q) := by
  unfold RmE
  iintro ⟨#HR, Hs, ⟨%fd, Hd⟩, HO, Hp⟩
  have hg := wp_send_gen V K .sm c n hn he hS hR (src := bSsm) (dst' := mRm 0) (hsc := hsc) (hsrc := hsrc) (hdst := hdst)
    (hsem := hsem) (Q := Q) (k := k) (q := fullShare) v fd (amt_mRm 0)
    (by
      show _ ⊢ SsmE c
      unfold SsmE; rw [View.set_whole]; iintro H; iexists _; iexact H)
    (Entails.of_eq (pay_sm V c v hv fd)) l
  iapply hg $$ [Hs Hd HO Hp]
  isplitr; · iexact HR
  isplitl [Hs]; · rw [View.set_whole]; iexact Hs
  isplitl [Hd]; · iapply (Entails.of_eq (RmP_eq (pt c) _ _ _)); iexact Hd
  isplitl [HO] <;> iassumption

/-! ### The exchange -/

omit [FloatOps F] in
theorem pay_xa (c : Dev nD) (fd) : (bXa.view.loc (pt c : Thread nD τ) ↦[bXa.view.set]{fullShare}
      bXa.view.write (Elt F) fd (bSxa.view.read (Elt F) (V.xa c)) Finset.univ : sProp 𝕄)
    = rcvPay V .xa (pt c) := by
  show _ = XaP (pt c) (V.xa (pt (pt c)))
  rw [pt_pt]; unfold XaP
  refine (pts_written ((pt c : Dev nD) : Thread nD τ) fullShare bXa.view fd (V.xa c) _ rfl).trans ?_
  rw [View.set_whole]

theorem wp_send_xa (c n : Dev nD) (hn : n = pt c) {sS sR : SemLoc sig} (hS : sS = csem (.snd .xa)) (hR : sR = csem (.rcv .xa))
    {hsc : (bXa : Memref sig (Dev.tc n : Thread nD τ).2.kind .vmem _ _).view.ref.isScScratch = false}
    {hsrc : bSxa.view.WordExact} {hdst : bXa.view.WordExact}
    {hsem : DmaTarget.Typed .vmem sR (.remote (Dev.tc n : Thread nD τ) bXa sS hsc)}
    {α : Type} {Q : α → sProp 𝕄} {k : PUnit → Prog (TpuEff nD τ sig (Elt F) Λ₀ .tc) α} (l : List Ch) :
    iprop(records V K ∗ (bSxa.view.loc (c : Thread nD τ) ↦{fullShare} (V.xa c : Buf (Elt F) (bSxa.view.loc (c : Thread nD τ)))) ∗ XaE (F := F) (pt c) ∗ ow c (.xa :: l) ∗ pend .xa c)
      ⊢ iprop(((lent .xa c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bSxa (.remote (Dev.tc n : Thread nD τ) bXa sS hsc) sR hsrc hdst hsem) k) Q) := by
  unfold XaE
  iintro ⟨#HR, Hs, ⟨%fd, Hd⟩, HO, Hp⟩
  have hg := wp_send_gen V K .xa c n hn rfl hS hR (src := bSxa) (dst' := bXa) (hsc := hsc) (hsrc := hsrc) (hdst := hdst)
    (hsem := hsem) (Q := Q) (k := k) (q := fullShare) (V.xa c) fd amt_bXa
    (by show _ ⊢ SxaE c; unfold SxaE; rw [View.set_whole]; iintro H; iexists _; iexact H)
    (Entails.of_eq (pay_xa V c fd)) l
  iapply hg $$ [Hs Hd HO Hp]
  isplitr; · iexact HR
  isplitl [Hs]; · rw [View.set_whole]; iexact Hs
  isplitl [Hd]; · rw [View.set_whole]; iexact Hd
  isplitl [HO] <;> iassumption

omit [FloatOps F] in
theorem pay_xm (c : Dev nD) (fd) : (bXm.view.loc (pt c : Thread nD τ) ↦[bXm.view.set]{fullShare}
      bXm.view.write (Elt F) fd (bMl.view.read (Elt F) (V.xm c)) Finset.univ : sProp 𝕄)
    = rcvPay V .xm (pt c) := by
  show _ = XmP (pt c) (V.xm (pt (pt c)))
  rw [pt_pt]; unfold XmP
  refine (pts_written ((pt c : Dev nD) : Thread nD τ) fullShare bXm.view fd (V.xm c) _ rfl).trans ?_
  rw [View.set_whole]

theorem wp_send_xm (c n : Dev nD) (hn : n = pt c) {sS sR : SemLoc sig} (hS : sS = csem (.snd .xm)) (hR : sR = csem (.rcv .xm))
    {hsc : (bXm : Memref sig (Dev.tc n : Thread nD τ).2.kind .vmem _ _).view.ref.isScScratch = false}
    {hsrc : bMl.view.WordExact} {hdst : bXm.view.WordExact}
    {hsem : DmaTarget.Typed .vmem sR (.remote (Dev.tc n : Thread nD τ) bXm sS hsc)}
    {α : Type} {Q : α → sProp 𝕄} {k : PUnit → Prog (TpuEff nD τ sig (Elt F) Λ₀ .tc) α} (l : List Ch) :
    iprop(records V K ∗ (bMl.view.loc (c : Thread nD τ) ↦{fullShare.right} (V.xm c : Buf (Elt F) (bMl.view.loc (c : Thread nD τ)))) ∗ XmE (F := F) (pt c) ∗ ow c (.xm :: l) ∗ pend .xm c)
      ⊢ iprop(((lent .xm c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bMl (.remote (Dev.tc n : Thread nD τ) bXm sS hsc) sR hsrc hdst hsem) k) Q) := by
  unfold XmE
  iintro ⟨#HR, Hs, ⟨%fd, Hd⟩, HO, Hp⟩
  have hg := wp_send_gen V K .xm c n hn rfl hS hR (src := bMl) (dst' := bXm) (hsc := hsc) (hsrc := hsrc) (hdst := hdst)
    (hsem := hsem) (Q := Q) (k := k) (q := fullShare.right) (V.xm c) fd amt_bXm
    (by show _ ⊢ MlP c _ _; unfold MlP; rw [View.set_whole])
    (Entails.of_eq (pay_xm V c fd)) l
  iapply hg $$ [Hs Hd HO Hp]
  isplitr; · iexact HR
  isplitl [Hs]; · rw [View.set_whole]; iexact Hs
  isplitl [Hd]; · rw [View.set_whole]; iexact Hd
  isplitl [HO] <;> iassumption

/-! ## Signals to a barrier cell -/

theorem wp_signal_bar (d : Fin 3) (c n : Dev nD) {q : Sem sig} (hq : q = barS) (T : CellTallies nD τ sig Unit) (W : Waits sig Unit)
    {α : Type} {Q : α → sProp 𝕄} {f : PUnit → Prog (TpuEff nD τ sig (Elt F) Λ₀ .tc) α} :
    iprop(records V K ∗ owes (c : Thread nD τ) (T + tallyAt (kcell (n, .bar)) () 1) W ∗ dutyTok ER (kcell (n, .bar)) 0 d ∗ barPay (F := F) n d)
      ⊢ iprop((owes (c : Thread nD τ) T W -∗ wp frame (wpE (defs₀ (F := F)) 𝒱₀ (c : Thread nD τ) none) Set.univ (f ⟨⟩) Q)
          -∗ wp frame (wpE (defs₀ (F := F)) 𝒱₀ (c : Thread nD τ) none) Set.univ (.op (.semSignal (n : Thread nD τ) q 1) f) Q) := by
  subst hq
  iintro ⟨#HR, HO, Ht, Hpay⟩ Hk
  iapply (Rounds.wp_signal 𝒱₀ ER (Rd V) (c : Thread nD τ) none (dst := (n : Thread nD τ)) (κ := K (n, .bar)) (r := 0) (d := d)
      (by rw [show ((n : Thread nD τ), SemLoc.reg barS) = kcell (n, .bar) from rfl, duties_eq]; exact Finset.mem_univ _)
      ((amount_eq V n .bar d).trans (by decide)) () T rfl) $$ [HO Ht Hpay]
  · isplitr; · iapply (records_inv V K (n, .bar)); iexact HR
    isplitl [HO]; · iexact HO
    isplitl [Ht]; · iexact Ht
    isplitl [Hpay]
    · iapply (show barPay (F := F) n d ⊢ (Rd V).payload (kcell (n, .bar)) 0 d from Entails.of_eq (payload_eq V n .bar d).symm); iexact Hpay
    iapply (records_reached V K (n, .bar)); iexact HR
  iexact Hk

end Cert.SparseRing

end
-- ==== Proof.Combine.lean ====
/- The online-softmax combine of two partial results, and what the kernel's combine leaves in the running buffers. -/
module

public import proofs.«01_k».proof.Proof.Sends

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

/-- Row `b` (0: the running maxima, 1: the running denominators) of a statistics buffer. -/
def rowOf (b : Fin 2) (s : FVec F S2x4x128 .f32) : FVec F S4x128 .f32 := fun j => s (ix3 b (j 0) (j 1))
/-- The larger of two rows of maxima. -/
def mxOf (s t : FVec F S2x4x128 .f32) : FVec F S4x128 .f32 := maximumf (rowOf 0 s) (rowOf 0 t)
/-- The factors that rescale the kept and the incoming partial result. -/
def keepF (s t : FVec F S2x4x128 .f32) : FVec F S4x128 .f32 := exp (subf (rowOf 0 s) (mxOf s t))
def joinF (s t : FVec F S2x4x128 .f32) : FVec F S4x128 .f32 := exp (subf (rowOf 0 t) (mxOf s t))
/-- The combined denominators. -/
def sumOf (s t : FVec F S2x4x128 .f32) : FVec F S4x128 .f32 :=
  addf (mulf (rowOf 1 s) (keepF s t)) (mulf (rowOf 1 t) (joinF s t))
/-- The combined statistics. -/
def comM (s t : FVec F S2x4x128 .f32) : FVec F S2x4x128 .f32 := fun i =>
  if (i 0).val = 0 then mxOf s t (ix2 (i 1) (i 2)) else sumOf s t (ix2 (i 1) (i 2))
/-- The place in the accumulator of row `r` of head `b`. -/
def accRow (b : Fin 4) (r : Fin 128) : Fin 512 := ⟨128 * b.val + r.val, by have := b.isLt; have := r.isLt; omega⟩
/-- Block `b` (one head) of an accumulator. -/
def blkOf {φ : FTy} (b : Fin 4) (a : FVec F S512x64 φ) : FVec F S128x64 φ := fun j => a (ix2 (accRow b (j 0)) (j 1))
theorem slices_blk (b : Fin 4) : S4x128.Slices (![b.val, 0] : Fin 2 → ℕ) S1x128 := by revert b; decide
/-- One factor per query row, spread over the head's columns. -/
def spreadF (b : Fin 4) (w : FVec F S4x128 .f32) : FVec F S128x64 .f32 :=
  broadcastTo S128x64 (shapeCast S128x1 (shapeCast S128 (extractStridedSlice S1x128 ![b.val, 0] w (slices_blk b)) shapeCasts_S1x128_S128) shapeCasts_S128_S128x1) broadcasts_S128x1_S128x64
def blkJoin (b : Fin 4) (ao ai : FVec F S4x128 .f32) (A : FVec F S128x64 .f32) (X : FVec F S128x64 .bf16) : FVec F S128x64 .f32 :=
  addf (mulf A (spreadF b ao)) (mulf (extf .f32 X bitsLt_bf16_f32) (spreadF b ai))
def hdOf (i : Fin 512) : Fin 4 := ⟨i.val / 128, by have := i.isLt; omega⟩
def qrOf (i : Fin 512) : Fin 128 := ⟨i.val % 128, Nat.mod_lt _ (by decide)⟩
/-- The combined accumulator. -/
def comA (a : FVec F S512x64 .f32) (s : FVec F S2x4x128 .f32) (x : FVec F S512x64 .bf16) (t : FVec F S2x4x128 .f32) : FVec F S512x64 .f32 := fun i =>
  blkJoin (hdOf (i 0)) (keepF s t) (joinF s t) (blkOf (hdOf (i 0)) a) (blkOf (hdOf (i 0)) x) (ix2 (qrOf (i 0)) (i 1))

theorem hdOf_accRow (b : Fin 4) (r : Fin 128) : hdOf (accRow b r) = b := Fin.ext (by have := r.isLt; simp only [hdOf, accRow]; omega)
theorem qrOf_accRow (b : Fin 4) (r : Fin 128) : qrOf (accRow b r) = r := Fin.ext (by have := r.isLt; simp only [qrOf, accRow]; omega)
theorem accRow_hdOf (i : Fin 512) : accRow (hdOf i) (qrOf i) = i := Fin.ext (by simp only [hdOf, qrOf, accRow]; omega)

/-! ## What the loads read -/

section Loads
omit [FloatOps F]

/-- Two places with the same coordinates are the same place. -/
theorem place_ext {s : Shape} {i j : s.Idx} (h : ∀ a, (i a).val = (j a).val) : i = j := funext fun a => Fin.ext (h a)
/-- A coordinate at a given offset and stride one. -/
theorem off_at (o n : ℕ) : o + 1 * n = o + n := by omega

theorem ld_row (b : Fin 2) (s : FVec F S2x4x128 .f32) (hi : ∀ a, (![b.val, 0, 0] : Fin 3 → ℕ) a + S1x4x128.size a ≤ S2x4x128.size a) :
    shapeCast S4x128 (View.readAt (Elt F) bMl.view (Rect.unit (s := S2x4x128) ![b.val, 0, 0] S1x4x128.size hi).toLoadRect s) shapeCasts_S1x4x128_S4x128 = rowOf b s := by
  funext y; idx_vars y
  refine (ValueIdx.shapeCast_1ab_ab_apply _ _ y0 y1).trans ?_
  refine congrArg s (place_ext fun a => ?_)
  fin_cases a; exacts [off_at b.val 0, unit_at y0.val, unit_at y1.val]
theorem ld_acc (b : Fin 4) (a : FVec F S512x64 .f32) (hi : ∀ x, (![128 * b.val, 0] : Fin 2 → ℕ) x + S128x64.size x ≤ S512x64.size x) :
    View.readAt (Elt F) bAcc.view (Rect.unit (s := S512x64) ![128 * b.val, 0] S128x64.size hi).toLoadRect a = blkOf b a := by
  funext y; idx_vars y
  refine congrArg a (place_ext fun a => ?_)
  fin_cases a; exacts [off_at (128 * b.val) y0.val, unit_at y1.val]
theorem cast_114 (x : FVec F S1x1x4x128 .f32) (i : Fin 4) (j : Fin 128) : shapeCast S4x128 x shapeCasts_S1x1x4x128_S4x128 (ix2 i j) = x (ix4 0 0 i j) :=
  shapeCast_apply x _ _ _ (by
    rw [Shape.rowMajor_val_four, Shape.rowMajor_val_two]
    show ((0 * 1 + 0) * 4 + i.val) * 128 + j.val = i.val * 128 + j.val
    omega)
theorem ld_Rm (h : Fin 5) (b : Fin 2) (t : FVec F S2x4x128 .f32) (hi : ∀ a, (![h.val, b.val, 0, 0] : Fin 4 → ℕ) a + S1x1x4x128.size a ≤ S5x2x4x128.size a) :
    shapeCast S4x128 (View.readAt (Elt F) bRm.view (Rect.unit (s := S5x2x4x128) ![h.val, b.val, 0, 0] S1x1x4x128.size hi).toLoadRect (spM5 t)) shapeCasts_S1x1x4x128_S4x128 = rowOf b t := by
  funext y; idx_vars y
  refine (cast_114 _ y0 y1).trans ?_
  refine congrArg t (place_ext fun a => ?_)
  fin_cases a; exacts [off_at b.val 0, unit_at y0.val, unit_at y1.val]
theorem ld_Ra (h : Fin 5) (b : Fin 4) (x : FVec F S512x64 .bf16) (hi : ∀ a, (![h.val, 128 * b.val, 0] : Fin 3 → ℕ) a + S1x128x64.size a ≤ S5x512x64.size a) :
    shapeCast S128x64 (View.readAt (Elt F) bRa.view (Rect.unit (s := S5x512x64) ![h.val, 128 * b.val, 0] S1x128x64.size hi).toLoadRect (spA5 x)) shapeCasts_S1x128x64_S128x64 = blkOf b x := by
  funext y; idx_vars y
  refine (ValueIdx.shapeCast_1ab_ab_apply _ _ y0 y1).trans ?_
  refine congrArg x (place_ext fun a => ?_)
  fin_cases a; exacts [off_at (128 * b.val) y0.val, unit_at y1.val]
theorem ld_Lm (h : Fin 4) (b : Fin 2) (t : FVec F S2x4x128 .f32) (hi : ∀ a, (![h.val, b.val, 0, 0] : Fin 4 → ℕ) a + S1x1x4x128.size a ≤ S4x2x4x128.size a) :
    shapeCast S4x128 (View.readAt (Elt F) bLm.view (Rect.unit (s := S4x2x4x128) ![h.val, b.val, 0, 0] S1x1x4x128.size hi).toLoadRect (spM4 t)) shapeCasts_S1x1x4x128_S4x128 = rowOf b t := by
  funext y; idx_vars y
  refine (cast_114 _ y0 y1).trans ?_
  refine congrArg t (place_ext fun a => ?_)
  fin_cases a; exacts [off_at b.val 0, unit_at y0.val, unit_at y1.val]
theorem ld_La (h : Fin 4) (b : Fin 4) (x : FVec F S512x64 .bf16) (hi : ∀ a, (![h.val, 128 * b.val, 0] : Fin 3 → ℕ) a + S1x128x64.size a ≤ S4x512x64.size a) :
    shapeCast S128x64 (View.readAt (Elt F) bLa.view (Rect.unit (s := S4x512x64) ![h.val, 128 * b.val, 0] S1x128x64.size hi).toLoadRect (spA4 x)) shapeCasts_S1x128x64_S128x64 = blkOf b x := by
  funext y; idx_vars y
  refine (ValueIdx.shapeCast_1ab_ab_apply _ _ y0 y1).trans ?_
  refine congrArg x (place_ext fun a => ?_)
  fin_cases a; exacts [off_at (128 * b.val) y0.val, unit_at y1.val]
end Loads

/-! ## What the stores leave -/

omit [FloatOps F] in
theorem read_bMl (f : FVec F S2x4x128 .f32) : bMl.view.read (Elt F) f = f := rfl
omit [FloatOps F] in
theorem read_bAcc (f : FVec F S512x64 .f32) : bAcc.view.read (Elt F) f = f := rfl

theorem comM_writes (s t : FVec F S2x4x128 .f32) {S0 S1 T0 T1 : FVec F S4x128 .f32} (h0 : S0 = rowOf 0 s) (h1 : S1 = rowOf 1 s)
    (h2 : T0 = rowOf 0 t) (h3 : T1 = rowOf 1 t) :
    bMl.view.writes (Elt F) s
      [⟨Rect.unit (s := S2x4x128) ![1, 0, 0] S1x4x128.size inb_S2x4x128_S1x4x128_1_0_0, shapeCast S1x4x128 (addf (mulf S1 (exp (subf S0 (maximumf S0 T0)))) (mulf T1 (exp (subf T0 (maximumf S0 T0))))) shapeCasts_S4x128_S1x4x128⟩,
       ⟨Rect.unit (s := S2x4x128) ![0, 0, 0] S1x4x128.size inb_S2x4x128_S1x4x128_0_0_0, shapeCast S1x4x128 (maximumf S0 T0) shapeCasts_S4x128_S1x4x128⟩] = comM s t := by
  subst h0 h1 h2 h3
  funext y
  refine (congrFun (read_bMl _).symm y).trans ?_
  refine View.read_writes_apply_of_pieces (Val := Elt F) bMl.view s (comM s t) _ ?_ y ?_
  swap
  · exact View.cover_of_tiled (Val := Elt F) (e := .f32) (s := S2x4x128) _ S1x4x128.size (by rfl) y
  intro p hp x
  simp only [List.mem_cons, List.not_mem_nil, or_false] at hp
  obtain rfl | rfl := hp
  · revert x; intro (x : S1x4x128.Idx); idx_vars x
    obtain rfl : x0 = 0 := Subsingleton.elim _ _
    have e : (Rect.unit (s := S2x4x128) ![1, 0, 0] S1x4x128.size inb_S2x4x128_S1x4x128_1_0_0).emb (ix3 0 x1 x2) = ix3 1 x1 x2 :=
      place_ext fun a => by fin_cases a; exacts [rfl, unit_at x1.val, unit_at x2.val]
    exact (ValueIdx.shapeCast_ab_1ab_apply _ _ 0 x1 x2).trans (congrArg (comM s t) e.symm)
  · revert x; intro (x : S1x4x128.Idx); idx_vars x
    obtain rfl : x0 = 0 := Subsingleton.elim _ _
    have e : (Rect.unit (s := S2x4x128) ![0, 0, 0] S1x4x128.size inb_S2x4x128_S1x4x128_0_0_0).emb (ix3 0 x1 x2) = ix3 0 x1 x2 :=
      place_ext fun a => by fin_cases a; exacts [rfl, unit_at x1.val, unit_at x2.val]
    exact (ValueIdx.shapeCast_ab_1ab_apply _ _ 0 x1 x2).trans (congrArg (comM s t) e.symm)
theorem comA_writes (a : FVec F S512x64 .f32) (s t : FVec F S2x4x128 .f32) (x : FVec F S512x64 .bf16) {ao ai : FVec F S4x128 .f32} {A0 A1 A2 A3 : FVec F S128x64 .f32}
    {X0 X1 X2 X3 : FVec F S128x64 .bf16} (ho : ao = keepF s t) (hi : ai = joinF s t) (a0 : A0 = blkOf 0 a) (a1 : A1 = blkOf 1 a) (a2 : A2 = blkOf 2 a) (a3 : A3 = blkOf 3 a)
    (x0 : X0 = blkOf 0 x) (x1 : X1 = blkOf 1 x) (x2 : X2 = blkOf 2 x) (x3 : X3 = blkOf 3 x) :
    bAcc.view.writes (Elt F) a
      [⟨Rect.unit (s := S512x64) ![384, 0] S128x64.size inb_S512x64_S128x64_384_0, shapeCast S128x64 (blkJoin 3 ao ai A3 X3) shapeCasts_S128x64_S128x64⟩,
       ⟨Rect.unit (s := S512x64) ![256, 0] S128x64.size inb_S512x64_S128x64_256_0, shapeCast S128x64 (blkJoin 2 ao ai A2 X2) shapeCasts_S128x64_S128x64⟩,
       ⟨Rect.unit (s := S512x64) ![128, 0] S128x64.size inb_S512x64_S128x64_128_0, shapeCast S128x64 (blkJoin 1 ao ai A1 X1) shapeCasts_S128x64_S128x64⟩,
       ⟨Rect.unit (s := S512x64) ![0, 0] S128x64.size inb_S512x64_S128x64_0_0, shapeCast S128x64 (blkJoin 0 ao ai A0 X0) shapeCasts_S128x64_S128x64⟩] = comA a s x t := by
  subst ho hi a0 a1 a2 a3 x0 x1 x2 x3
  funext y
  refine (congrFun (read_bAcc _).symm y).trans ?_
  refine View.read_writes_apply_of_pieces (Val := Elt F) bAcc.view a (comA a s x t) _ ?_ y ?_
  swap
  · exact View.cover_of_tiled (Val := Elt F) (e := .f32) (s := S512x64) _ S128x64.size (by rfl) y
  have key : ∀ (b : Fin 4) (hb : ∀ z, (![128 * b.val, 0] : Fin 2 → ℕ) z + S128x64.size z ≤ S512x64.size z) (z : S128x64.Idx),
      shapeCast S128x64 (blkJoin b (keepF s t) (joinF s t) (blkOf b a) (blkOf b x)) shapeCasts_S128x64_S128x64 z
        = comA a s x t ((Rect.unit (s := S512x64) ![128 * b.val, 0] S128x64.size hb).emb z) := by
    intro b hb z
    idx_vars z
    rw [shapeCast_self]
    have e : (Rect.unit (s := S512x64) ![128 * b.val, 0] S128x64.size hb).emb (ix2 z0 z1) = ix2 (accRow b z0) z1 := by
      exact place_ext fun a => by fin_cases a; exacts [off_at (128 * b.val) z0.val, unit_at z1.val]
    rw [e]
    show _ = blkJoin (hdOf (accRow b z0)) _ _ (blkOf (hdOf (accRow b z0)) a) (blkOf (hdOf (accRow b z0)) x) (ix2 (qrOf (accRow b z0)) z1)
    rw [hdOf_accRow, qrOf_accRow]
  intro p hp
  simp only [List.mem_cons, List.not_mem_nil, or_false] at hp
  obtain rfl | rfl | rfl | rfl := hp
  · exact key 3 inb_S512x64_S128x64_384_0
  · exact key 2 inb_S512x64_S128x64_256_0
  · exact key 1 inb_S512x64_S128x64_128_0
  · exact key 0 inb_S512x64_S128x64_0_0

/-! ## A landed slot, split between reading it and passing it on -/

section Landing
omit [FloatOps F]
variable (V : Vals F)

theorem c4 {P1 P2 P3 P4 R : sProp 𝕄} (h : iprop(P1 ∗ P2 ∗ P3 ∗ P4) ⊢ R) : ⊢ iprop(P1 -∗ P2 -∗ P3 -∗ P4 -∗ R) := by
  iintro H1 H2 H3 H4; iapply h
  isplitl [H1]; · iassumption
  isplitl [H2]; · iassumption
  isplitl [H3] <;> iassumption
theorem c5 {P1 P2 P3 P4 P5 R : sProp 𝕄} (h : iprop(P1 ∗ P2 ∗ P3 ∗ P4 ∗ P5) ⊢ R) : ⊢ iprop(P1 -∗ P2 -∗ P3 -∗ P4 -∗ P5 -∗ R) := by
  iintro H1 H2 H3 H4 H5; iapply h
  isplitl [H1]; · iassumption
  isplitl [H2]; · iassumption
  isplitl [H3]; · iassumption
  isplitl [H4] <;> iassumption
theorem land_ra (h : Fin 4) (c : Dev nD) : rcvPay V (.ra h) c
    ⊢ iprop(RaP c h.succ fullShare.left (spA5 (V.pa (lf^[h.val + 1] c))) ∗ RaP c h.succ fullShare.right (spA5 (V.pa (lf^[h.val + 1] c)))) :=
  (pointsTo_share (PosShare.mem_left_op_right _)).1
/-- A slot's claim as the loads of it use it. -/
theorem open_ra (c : Dev nD) (h : Fin 5) (q : PosShare TreeShare) (f) : RaP (F := F) c h q f ⊢ (bRa.view.loc (c : Thread nD τ) ↦[bRa.view.setOn (slRa h).set]{q} f) := Entails.of_eq rfl
theorem fold_ra (c : Dev nD) (h : Fin 5) (q : PosShare TreeShare) (f) : (bRa.view.loc (c : Thread nD τ) ↦[bRa.view.setOn (slRa h).set]{q} f) ⊢ RaP (F := F) c h q f := Entails.of_eq rfl
theorem land_rm (h : Fin 4) (c : Dev nD) : rcvPay V (.rm h) c
    ⊢ iprop(RmP c h.succ fullShare.left (spM5 (V.pm (lf^[h.val + 1] c))) ∗ RmP c h.succ fullShare.right (spM5 (V.pm (lf^[h.val + 1] c)))) :=
  (pointsTo_share (PosShare.mem_left_op_right _)).1
/-- A slot's claim as the loads of it use it. -/
theorem open_rm (c : Dev nD) (h : Fin 5) (q : PosShare TreeShare) (f) : RmP (F := F) c h q f ⊢ (bRm.view.loc (c : Thread nD τ) ↦[bRm.view.setOn (slRm h).set]{q} f) := Entails.of_eq rfl
theorem fold_rm (c : Dev nD) (h : Fin 5) (q : PosShare TreeShare) (f) : (bRm.view.loc (c : Thread nD τ) ↦[bRm.view.setOn (slRm h).set]{q} f) ⊢ RmP (F := F) c h q f := Entails.of_eq rfl
theorem land_la (h : Fin 3) (c : Dev nD) : rcvPay V (.la h) c
    ⊢ iprop(LaP c h.succ fullShare.left (spA4 (V.pa (rt^[h.val + 1] c))) ∗ LaP c h.succ fullShare.right (spA4 (V.pa (rt^[h.val + 1] c)))) :=
  (pointsTo_share (PosShare.mem_left_op_right _)).1
/-- A slot's claim as the loads of it use it. -/
theorem open_la (c : Dev nD) (h : Fin 4) (q : PosShare TreeShare) (f) : LaP (F := F) c h q f ⊢ (bLa.view.loc (c : Thread nD τ) ↦[bLa.view.setOn (slLa h).set]{q} f) := Entails.of_eq rfl
theorem fold_la (c : Dev nD) (h : Fin 4) (q : PosShare TreeShare) (f) : (bLa.view.loc (c : Thread nD τ) ↦[bLa.view.setOn (slLa h).set]{q} f) ⊢ LaP (F := F) c h q f := Entails.of_eq rfl
theorem land_lm (h : Fin 3) (c : Dev nD) : rcvPay V (.lm h) c
    ⊢ iprop(LmP c h.succ fullShare.left (spM4 (V.pm (rt^[h.val + 1] c))) ∗ LmP c h.succ fullShare.right (spM4 (V.pm (rt^[h.val + 1] c)))) :=
  (pointsTo_share (PosShare.mem_left_op_right _)).1
/-- A slot's claim as the loads of it use it. -/
theorem open_lm (c : Dev nD) (h : Fin 4) (q : PosShare TreeShare) (f) : LmP (F := F) c h q f ⊢ (bLm.view.loc (c : Thread nD τ) ↦[bLm.view.setOn (slLm h).set]{q} f) := Entails.of_eq rfl
theorem fold_lm (c : Dev nD) (h : Fin 4) (q : PosShare TreeShare) (f) : (bLm.view.loc (c : Thread nD τ) ↦[bLm.view.setOn (slLm h).set]{q} f) ⊢ LmP (F := F) c h q f := Entails.of_eq rfl
theorem ml_eq (c : Dev nD) {f g : Buf (Elt F) (bMl.view.loc (c : Thread nD τ))} (h : f = g) :
    (bMl.view.loc (c : Thread nD τ) ↦{fullShare} f : sProp 𝕄) ⊢ (bMl.view.loc (c : Thread nD τ) ↦{fullShare} g) := by rw [h]
theorem acc_eq (c : Dev nD) {f g : Buf (Elt F) (bAcc.view.loc (c : Thread nD τ))} (h : f = g) :
    (bAcc.view.loc (c : Thread nD τ) ↦{fullShare} f : sProp 𝕄) ⊢ (bAcc.view.loc (c : Thread nD τ) ↦{fullShare} g) := by rw [h]

end Landing

end Cert.SparseRing

end
-- ==== Proof.Own.lean ====
/- The partial results that the devices start with, and the buffers that hold them. -/
module

public import proofs.«01_k».proof.Proof.Combine

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

/-! ## The partial result of a batch's rows on one device's block -/

theorem inbX (b : Fin 2) : ∀ a, (![b.val, 0, 0] : Fin 3 → ℕ) a + S1x128x512.size a ≤ S2x128x512.size a := by revert b; decide
theorem inbK (b : Fin 2) (h : Fin 4) : ∀ a, (![b.val, 0, h.val, 0] : Fin 4 → ℕ) a + S1x128x1x64.size a ≤ S2x128x4x64.size a := by revert b h; decide
theorem slQ (h : Fin 4) : S128x256.Slices ![0, 64 * h.val] S128x64 := by revert h; decide

/-- The loads of a batch's rows of `x`, of `Wq`, and of a batch's keys and values of one head. -/
def ldX (b : Fin 2) (x : FVec F S2x128x512 .f32) : Vec F S1x128x512 .f32 :=
  View.readAt (Elt F) bX.view (Rect.unit (s := S2x128x512) ![b.val, 0, 0] S1x128x512.size (inbX b)).toLoadRect x
def ldWq (w : FVec F S512x256 .f32) : Vec F S512x256 .f32 :=
  View.readAt (Elt F) bWq.view (Rect.unit (s := S512x256) ![0, 0] S512x256.size inb_S512x256_S512x256_0_0).toLoadRect w
def ldK (b : Fin 2) (h : Fin 4) (k : FVec F S2x128x4x64 .f32) : Vec F S1x128x1x64 .f32 :=
  View.readAt (Elt F) bK.view (Rect.unit (s := S2x128x4x64) ![b.val, 0, h.val, 0] S1x128x1x64.size (inbK b h)).toLoadRect k
def ldV (b : Fin 2) (h : Fin 4) (k : FVec F S2x128x4x64 .f32) : Vec F S1x128x1x64 .f32 :=
  View.readAt (Elt F) bV.view (Rect.unit (s := S2x128x4x64) ![b.val, 0, h.val, 0] S1x128x1x64.size (inbK b h)).toLoadRect k
/-- The block mask as the kernel computes it from a device's number. -/
def mskOf (v2 : BitVec 32) : IVec S128x128 1 := k0_pay9 k0_pay4 (Scalar.muli v2 2#32) k0_pay5 k0_pay6 k0_pay7 k0_pay8
/-- The queries of one head. -/
def ownQ (b : Fin 2) (h : Fin 4) (x : FVec F S2x128x512 .f32) (wq : FVec F S512x256 .f32) : FVec F S128x64 .f32 :=
  extractStridedSlice S128x64 ![0, 64 * h.val] (k0_pay41 (ldX b x) (ldWq wq)) (slQ h)
/-- The row maxima, the row sums and the numerators of one head. -/
def ownM (v2 : BitVec 32) (x : FVec F S2x128x512 .f32) (wq : FVec F S512x256 .f32) (k : FVec F S2x128x4x64 .f32) (b : Fin 2) (h : Fin 4) : FVec F S128 .f32 :=
  k0_pay44 (mskOf v2) (ownQ b h x wq) (ldK b h k)
def ownL (v2 : BitVec 32) (x : FVec F S2x128x512 .f32) (wq : FVec F S512x256 .f32) (k : FVec F S2x128x4x64 .f32) (b : Fin 2) (h : Fin 4) : FVec F S128 .f32 :=
  k0_pay46 (mskOf v2) (ownQ b h x wq) (ldK b h k)
def ownA (v2 : BitVec 32) (x : FVec F S2x128x512 .f32) (wq : FVec F S512x256 .f32) (k v : FVec F S2x128x4x64 .f32) (b : Fin 2) (h : Fin 4) : FVec F S128x64 .f32 :=
  k0_pay47 (mskOf v2) (ownQ b h x wq) (ldK b h k) (ldV b h v)
def ownH (v2 : BitVec 32) (x : FVec F S2x128x512 .f32) (wq : FVec F S512x256 .f32) (k v : FVec F S2x128x4x64 .f32) (b : Fin 2) (h : Fin 4) : FVec F S128x64 .bf16 :=
  k0_pay48 (mskOf v2) (ownQ b h x wq) (ldK b h k) (ldV b h v)

/-- The four heads of the statistics, and of the numerators, as one buffer. -/
def statOf (m l : Fin 4 → FVec F S128 .f32) : FVec F S2x4x128 .f32 := fun i => if (i 0).val = 0 then m (i 1) (ix1 (i 2)) else l (i 1) (ix1 (i 2))
def accOf {e : EltTy} (a : Fin 4 → Vec F S128x64 e) : Vec F S512x64 e := fun i => a (hdOf (i 0)) (ix2 (qrOf (i 0)) (i 1))

/-! ## What the stores of the heads leave -/

section Stores
omit [FloatOps F]

theorem cast_3 {φ : FTy} (x : FVec F S128 φ) (j : Fin 128) (i0 i1 : Fin 1) : shapeCast S1x1x128 x shapeCasts_S128_S1x1x128 (ix3 i0 i1 j) = x (ix1 j) :=
  shapeCast_apply x _ _ _ (by
    obtain rfl : i0 = 0 := Subsingleton.elim _ _
    obtain rfl : i1 = 0 := Subsingleton.elim _ _
    rw [Shape.rowMajor_val_three, Shape.rowMajor_val_one]
    show j.val = (0 * 1 + 0) * 128 + j.val
    omega)
theorem cast_4 {φ : FTy} (x : FVec F S128 φ) (j : Fin 128) (i0 i1 i2 : Fin 1) : shapeCast S1x1x1x128 x shapeCasts_S128_S1x1x1x128 (ix4 i0 i1 i2 j) = x (ix1 j) :=
  shapeCast_apply x _ _ _ (by
    obtain rfl : i0 = 0 := Subsingleton.elim _ _
    obtain rfl : i1 = 0 := Subsingleton.elim _ _
    obtain rfl : i2 = 0 := Subsingleton.elim _ _
    rw [Shape.rowMajor_val_four, Shape.rowMajor_val_one]
    show j.val = ((0 * 1 + 0) * 1 + 0) * 128 + j.val
    omega)

theorem stat_read (v : View sig .tc .vmem S2x4x128 .f32) (f : v.ty.Contents (Elt F)) (m l : Fin 4 → FVec F S128 .f32) {p13 p03 p12 p02 p11 p01 p10 p00 : FVec F S1x1x128 .f32}
    (h13 : p13 = shapeCast S1x1x128 (l 3) shapeCasts_S128_S1x1x128)
    (h03 : p03 = shapeCast S1x1x128 (m 3) shapeCasts_S128_S1x1x128)
    (h12 : p12 = shapeCast S1x1x128 (l 2) shapeCasts_S128_S1x1x128)
    (h02 : p02 = shapeCast S1x1x128 (m 2) shapeCasts_S128_S1x1x128)
    (h11 : p11 = shapeCast S1x1x128 (l 1) shapeCasts_S128_S1x1x128)
    (h01 : p01 = shapeCast S1x1x128 (m 1) shapeCasts_S128_S1x1x128)
    (h10 : p10 = shapeCast S1x1x128 (l 0) shapeCasts_S128_S1x1x128)
    (h00 : p00 = shapeCast S1x1x128 (m 0) shapeCasts_S128_S1x1x128) :
    v.read (Elt F) (v.writes (Elt F) f
      [⟨Rect.unit (s := S2x4x128) ![1, 3, 0] S1x1x128.size inb_S2x4x128_S1x1x128_1_3_0, p13⟩,
       ⟨Rect.unit (s := S2x4x128) ![0, 3, 0] S1x1x128.size inb_S2x4x128_S1x1x128_0_3_0, p03⟩,
       ⟨Rect.unit (s := S2x4x128) ![1, 2, 0] S1x1x128.size inb_S2x4x128_S1x1x128_1_2_0, p12⟩,
       ⟨Rect.unit (s := S2x4x128) ![0, 2, 0] S1x1x128.size inb_S2x4x128_S1x1x128_0_2_0, p02⟩,
       ⟨Rect.unit (s := S2x4x128) ![1, 1, 0] S1x1x128.size inb_S2x4x128_S1x1x128_1_1_0, p11⟩,
       ⟨Rect.unit (s := S2x4x128) ![0, 1, 0] S1x1x128.size inb_S2x4x128_S1x1x128_0_1_0, p01⟩,
       ⟨Rect.unit (s := S2x4x128) ![1, 0, 0] S1x1x128.size inb_S2x4x128_S1x1x128_1_0_0, p10⟩,
       ⟨Rect.unit (s := S2x4x128) ![0, 0, 0] S1x1x128.size inb_S2x4x128_S1x1x128_0_0_0, p00⟩]) = statOf m l := by
  subst h13 h03 h12 h02 h11 h01 h10 h00
  funext y
  refine View.read_writes_apply_of_pieces (Val := Elt F) v f (statOf m l) _ ?_ y ?_
  swap
  · exact View.cover_of_tiled (Val := Elt F) (e := .f32) (s := S2x4x128) _ S1x1x128.size (by rfl) y
  have emb (b : Fin 2) (h : Fin 4) (hb : ∀ z, (![b.val, h.val, 0] : Fin 3 → ℕ) z + S1x1x128.size z ≤ S2x4x128.size z) (x0 x1 : Fin 1) (x2 : Fin 128) :
      (Rect.unit (s := S2x4x128) ![b.val, h.val, 0] S1x1x128.size hb).emb (ix3 x0 x1 x2) = ix3 b h x2 := by
    obtain rfl : x0 = 0 := Subsingleton.elim _ _
    obtain rfl : x1 = 0 := Subsingleton.elim _ _
    exact place_ext fun a => by fin_cases a; exacts [off_at b.val 0, off_at h.val 0, unit_at x2.val]
  have key0 (h : Fin 4) (hb) (x : S1x1x128.Idx) : shapeCast S1x1x128 (m h) shapeCasts_S128_S1x1x128 x
      = statOf m l ((Rect.unit (s := S2x4x128) ![(0 : Fin 2).val, h.val, 0] S1x1x128.size hb).emb x) := by
    idx_vars x; rw [emb 0 h]; exact cast_3 _ _ _ _
  have key1 (h : Fin 4) (hb) (x : S1x1x128.Idx) : shapeCast S1x1x128 (l h) shapeCasts_S128_S1x1x128 x
      = statOf m l ((Rect.unit (s := S2x4x128) ![(1 : Fin 2).val, h.val, 0] S1x1x128.size hb).emb x) := by
    idx_vars x; rw [emb 1 h]; exact cast_3 _ _ _ _
  intro p hp
  simp only [List.mem_cons, List.not_mem_nil, _root_.or_false] at hp
  obtain rfl | rfl | rfl | rfl | rfl | rfl | rfl | rfl := hp
  · exact key1 3 inb_S2x4x128_S1x1x128_1_3_0
  · exact key0 3 inb_S2x4x128_S1x1x128_0_3_0
  · exact key1 2 inb_S2x4x128_S1x1x128_1_2_0
  · exact key0 2 inb_S2x4x128_S1x1x128_0_2_0
  · exact key1 1 inb_S2x4x128_S1x1x128_1_1_0
  · exact key0 1 inb_S2x4x128_S1x1x128_0_1_0
  · exact key1 0 inb_S2x4x128_S1x1x128_1_0_0
  · exact key0 0 inb_S2x4x128_S1x1x128_0_0_0

theorem acc_read {e : EltTy} (v : View sig .tc .vmem S512x64 e) (f : v.ty.Contents (Elt F)) (a : Fin 4 → Vec F S128x64 e) {p3 p2 p1 p0 : Vec F S128x64 e}
    (h3 : p3 = shapeCast S128x64 (a 3) shapeCasts_S128x64_S128x64)
    (h2 : p2 = shapeCast S128x64 (a 2) shapeCasts_S128x64_S128x64)
    (h1 : p1 = shapeCast S128x64 (a 1) shapeCasts_S128x64_S128x64)
    (h0 : p0 = shapeCast S128x64 (a 0) shapeCasts_S128x64_S128x64) :
    v.read (Elt F) (v.writes (Elt F) f
      [⟨Rect.unit (s := S512x64) ![384, 0] S128x64.size inb_S512x64_S128x64_384_0, p3⟩,
       ⟨Rect.unit (s := S512x64) ![256, 0] S128x64.size inb_S512x64_S128x64_256_0, p2⟩,
       ⟨Rect.unit (s := S512x64) ![128, 0] S128x64.size inb_S512x64_S128x64_128_0, p1⟩,
       ⟨Rect.unit (s := S512x64) ![0, 0] S128x64.size inb_S512x64_S128x64_0_0, p0⟩]) = accOf a := by
  subst h3 h2 h1 h0
  funext y
  refine View.read_writes_apply_of_pieces (Val := Elt F) v f (accOf a) _ ?_ y ?_
  swap
  · exact View.cover_of_tiled (Val := Elt F) (e := e) (s := S512x64) _ S128x64.size (by rfl) y
  have key (b : Fin 4) (hb : ∀ z, (![128 * b.val, 0] : Fin 2 → ℕ) z + S128x64.size z ≤ S512x64.size z) (z : S128x64.Idx) :
      shapeCast S128x64 (a b) shapeCasts_S128x64_S128x64 z = accOf a ((Rect.unit (s := S512x64) ![128 * b.val, 0] S128x64.size hb).emb z) := by
    idx_vars z
    rw [shapeCast_self]
    have ee : (Rect.unit (s := S512x64) ![128 * b.val, 0] S128x64.size hb).emb (ix2 z0 z1) = ix2 (accRow b z0) z1 :=
      place_ext fun a => by fin_cases a; exacts [off_at (128 * b.val) z0.val, unit_at z1.val]
    rw [ee]
    show _ = a (hdOf (accRow b z0)) (ix2 (qrOf (accRow b z0)) z1)
    rw [hdOf_accRow, qrOf_accRow]
  intro p hp
  simp only [List.mem_cons, List.not_mem_nil, _root_.or_false] at hp
  obtain rfl | rfl | rfl | rfl := hp
  · exact key 3 inb_S512x64_S128x64_384_0
  · exact key 2 inb_S512x64_S128x64_256_0
  · exact key 1 inb_S512x64_S128x64_128_0
  · exact key 0 inb_S512x64_S128x64_0_0

theorem stat_slot (n : ℕ) (v : View sig .tc .vmem ⟨4, ![n, 2, 4, 128]⟩ .f32) (f : v.ty.Contents (Elt F)) (m l : Fin 4 → FVec F S128 .f32) {p13 p03 p12 p02 p11 p01 p10 p00 : FVec F S1x1x1x128 .f32}
    {i13 : ∀ a, (![0, 1, 3, 0] : Fin 4 → ℕ) a + S1x1x1x128.size a ≤ (⟨4, ![n, 2, 4, 128]⟩ : Shape).size a}
    {i03 : ∀ a, (![0, 0, 3, 0] : Fin 4 → ℕ) a + S1x1x1x128.size a ≤ (⟨4, ![n, 2, 4, 128]⟩ : Shape).size a}
    {i12 : ∀ a, (![0, 1, 2, 0] : Fin 4 → ℕ) a + S1x1x1x128.size a ≤ (⟨4, ![n, 2, 4, 128]⟩ : Shape).size a}
    {i02 : ∀ a, (![0, 0, 2, 0] : Fin 4 → ℕ) a + S1x1x1x128.size a ≤ (⟨4, ![n, 2, 4, 128]⟩ : Shape).size a}
    {i11 : ∀ a, (![0, 1, 1, 0] : Fin 4 → ℕ) a + S1x1x1x128.size a ≤ (⟨4, ![n, 2, 4, 128]⟩ : Shape).size a}
    {i01 : ∀ a, (![0, 0, 1, 0] : Fin 4 → ℕ) a + S1x1x1x128.size a ≤ (⟨4, ![n, 2, 4, 128]⟩ : Shape).size a}
    {i10 : ∀ a, (![0, 1, 0, 0] : Fin 4 → ℕ) a + S1x1x1x128.size a ≤ (⟨4, ![n, 2, 4, 128]⟩ : Shape).size a}
    {i00 : ∀ a, (![0, 0, 0, 0] : Fin 4 → ℕ) a + S1x1x1x128.size a ≤ (⟨4, ![n, 2, 4, 128]⟩ : Shape).size a}
    (h13 : p13 = shapeCast S1x1x1x128 (l 3) shapeCasts_S128_S1x1x1x128)
    (h03 : p03 = shapeCast S1x1x1x128 (m 3) shapeCasts_S128_S1x1x1x128)
    (h12 : p12 = shapeCast S1x1x1x128 (l 2) shapeCasts_S128_S1x1x1x128)
    (h02 : p02 = shapeCast S1x1x1x128 (m 2) shapeCasts_S128_S1x1x1x128)
    (h11 : p11 = shapeCast S1x1x1x128 (l 1) shapeCasts_S128_S1x1x1x128)
    (h01 : p01 = shapeCast S1x1x1x128 (m 1) shapeCasts_S128_S1x1x1x128)
    (h10 : p10 = shapeCast S1x1x1x128 (l 0) shapeCasts_S128_S1x1x1x128)
    (h00 : p00 = shapeCast S1x1x1x128 (m 0) shapeCasts_S128_S1x1x1x128)
    (y : (⟨4, ![n, 2, 4, 128]⟩ : Shape).Idx) (hy : (y 0).val = 0) :
    v.read (Elt F) (v.writes (Elt F) f
      [⟨Rect.unit (s := ⟨4, ![n, 2, 4, 128]⟩) ![0, 1, 3, 0] S1x1x1x128.size i13, p13⟩,
       ⟨Rect.unit (s := ⟨4, ![n, 2, 4, 128]⟩) ![0, 0, 3, 0] S1x1x1x128.size i03, p03⟩,
       ⟨Rect.unit (s := ⟨4, ![n, 2, 4, 128]⟩) ![0, 1, 2, 0] S1x1x1x128.size i12, p12⟩,
       ⟨Rect.unit (s := ⟨4, ![n, 2, 4, 128]⟩) ![0, 0, 2, 0] S1x1x1x128.size i02, p02⟩,
       ⟨Rect.unit (s := ⟨4, ![n, 2, 4, 128]⟩) ![0, 1, 1, 0] S1x1x1x128.size i11, p11⟩,
       ⟨Rect.unit (s := ⟨4, ![n, 2, 4, 128]⟩) ![0, 0, 1, 0] S1x1x1x128.size i01, p01⟩,
       ⟨Rect.unit (s := ⟨4, ![n, 2, 4, 128]⟩) ![0, 1, 0, 0] S1x1x1x128.size i10, p10⟩,
       ⟨Rect.unit (s := ⟨4, ![n, 2, 4, 128]⟩) ![0, 0, 0, 0] S1x1x1x128.size i00, p00⟩]) y = statOf m l (ix3 (y 1) (y 2) (y 3)) := by
  subst h13 h03 h12 h02 h11 h01 h10 h00
  refine View.read_writes_apply_of_pieces (Val := Elt F) v f (fun y => statOf m l (ix3 (y 1) (y 2) (y 3))) _ ?_ y ?_
  · have emb (b : Fin 2) (h : Fin 4) (hb : ∀ z, (![0, b.val, h.val, 0] : Fin 4 → ℕ) z + S1x1x1x128.size z ≤ (⟨4, ![n, 2, 4, 128]⟩ : Shape).size z) (x : S1x1x1x128.Idx) :
        (fun y : (⟨4, ![n, 2, 4, 128]⟩ : Shape).Idx => ix3 (y 1) (y 2) (y 3)) ((Rect.unit (s := ⟨4, ![n, 2, 4, 128]⟩) ![0, b.val, h.val, 0] S1x1x1x128.size hb).emb x) = (ix3 b h (x 3) : S2x4x128.Idx) := by
      have e1 : (x 1).val = 0 := Nat.lt_one_iff.1 (x 1).isLt
      have e2 : (x 2).val = 0 := Nat.lt_one_iff.1 (x 2).isLt
      refine place_ext fun a => ?_
      fin_cases a
      · show b.val + 1 * (x 1).val = b.val; rw [e1]; exact off_at b.val 0
      · show h.val + 1 * (x 2).val = h.val; rw [e2]; exact off_at h.val 0
      · exact unit_at (x 3).val
    have key0 (h : Fin 4) (hb) (x : S1x1x1x128.Idx) : shapeCast S1x1x1x128 (m h) shapeCasts_S128_S1x1x1x128 x
        = (fun y : (⟨4, ![n, 2, 4, 128]⟩ : Shape).Idx => statOf m l (ix3 (y 1) (y 2) (y 3))) ((Rect.unit (s := ⟨4, ![n, 2, 4, 128]⟩) ![0, (0 : Fin 2).val, h.val, 0] S1x1x1x128.size hb).emb x) := by
      refine Eq.trans ?_ (congrArg (statOf m l) (emb 0 h hb x)).symm
      idx_vars x; exact cast_4 _ _ _ _ _
    have key1 (h : Fin 4) (hb) (x : S1x1x1x128.Idx) : shapeCast S1x1x1x128 (l h) shapeCasts_S128_S1x1x1x128 x
        = (fun y : (⟨4, ![n, 2, 4, 128]⟩ : Shape).Idx => statOf m l (ix3 (y 1) (y 2) (y 3))) ((Rect.unit (s := ⟨4, ![n, 2, 4, 128]⟩) ![0, (1 : Fin 2).val, h.val, 0] S1x1x1x128.size hb).emb x) := by
      refine Eq.trans ?_ (congrArg (statOf m l) (emb 1 h hb x)).symm
      idx_vars x; exact cast_4 _ _ _ _ _
    intro p hp
    simp only [List.mem_cons, List.not_mem_nil, _root_.or_false] at hp
    obtain rfl | rfl | rfl | rfl | rfl | rfl | rfl | rfl := hp
    · exact key1 3 i13
    · exact key0 3 i03
    · exact key1 2 i12
    · exact key0 2 i02
    · exact key1 1 i11
    · exact key0 1 i01
    · exact key1 0 i10
    · exact key0 0 i00
  · have mem (b : Fin 2) (h : Fin 4) (hb : ∀ z, (![0, b.val, h.val, 0] : Fin 4 → ℕ) z + S1x1x1x128.size z ≤ (⟨4, ![n, 2, 4, 128]⟩ : Shape).size z)
        (h1 : (y 1).val = b.val) (h2 : (y 2).val = h.val) : y ∈ (Rect.unit (s := ⟨4, ![n, 2, 4, 128]⟩) ![0, b.val, h.val, 0] S1x1x1x128.size hb).set := by
      refine Rect.mem_set_unit.2 fun a => ?_
      have l3 : (y 3).val < 128 := (y 3).isLt
      fin_cases a
      · show 0 ≤ (y 0).val ∧ (y 0).val < 0 + 1; omega
      · show b.val ≤ (y 1).val ∧ (y 1).val < b.val + 1; omega
      · show h.val ≤ (y 2).val ∧ (y 2).val < h.val + 1; omega
      · show 0 ≤ (y 3).val ∧ (y 3).val < 0 + 128; omega
    have c1 : (y 1).val < 2 := (y 1).isLt
    have c2 : (y 2).val < 4 := (y 2).isLt
    have c : ((y 1).val = 0 ∨ (y 1).val = 1) ∧ ((y 2).val = 0 ∨ (y 2).val = 1 ∨ (y 2).val = 2 ∨ (y 2).val = 3) := by omega
    obtain ⟨h1 | h1, h2 | h2 | h2 | h2⟩ := c
    · exact ⟨_, .tail _ (.tail _ (.tail _ (.tail _ (.tail _ (.tail _ (.tail _ (.head _))))))), mem 0 0 i00 h1 h2⟩
    · exact ⟨_, .tail _ (.tail _ (.tail _ (.tail _ (.tail _ (.head _))))), mem 0 1 i01 h1 h2⟩
    · exact ⟨_, .tail _ (.tail _ (.tail _ (.head _))), mem 0 2 i02 h1 h2⟩
    · exact ⟨_, .tail _ (.head _), mem 0 3 i03 h1 h2⟩
    · exact ⟨_, .tail _ (.tail _ (.tail _ (.tail _ (.tail _ (.tail _ (.head _)))))), mem 1 0 i10 h1 h2⟩
    · exact ⟨_, .tail _ (.tail _ (.tail _ (.tail _ (.head _)))), mem 1 1 i11 h1 h2⟩
    · exact ⟨_, .tail _ (.tail _ (.head _)), mem 1 2 i12 h1 h2⟩
    · exact ⟨_, .head _, mem 1 3 i13 h1 h2⟩

theorem acc_slot {e : EltTy} (n : ℕ) (v : View sig .tc .vmem ⟨3, ![n, 512, 64]⟩ e) (f : v.ty.Contents (Elt F)) (a : Fin 4 → Vec F S128x64 e) {p3 p2 p1 p0 : Vec F S1x128x64 e}
    {i3 : ∀ a, (![0, 384, 0] : Fin 3 → ℕ) a + S1x128x64.size a ≤ (⟨3, ![n, 512, 64]⟩ : Shape).size a}
    {i2 : ∀ a, (![0, 256, 0] : Fin 3 → ℕ) a + S1x128x64.size a ≤ (⟨3, ![n, 512, 64]⟩ : Shape).size a}
    {i1 : ∀ a, (![0, 128, 0] : Fin 3 → ℕ) a + S1x128x64.size a ≤ (⟨3, ![n, 512, 64]⟩ : Shape).size a}
    {i0 : ∀ a, (![0, 0, 0] : Fin 3 → ℕ) a + S1x128x64.size a ≤ (⟨3, ![n, 512, 64]⟩ : Shape).size a}
    (h3 : p3 = shapeCast S1x128x64 (a 3) shapeCasts_S128x64_S1x128x64)
    (h2 : p2 = shapeCast S1x128x64 (a 2) shapeCasts_S128x64_S1x128x64)
    (h1 : p1 = shapeCast S1x128x64 (a 1) shapeCasts_S128x64_S1x128x64)
    (h0 : p0 = shapeCast S1x128x64 (a 0) shapeCasts_S128x64_S1x128x64)
    (y : (⟨3, ![n, 512, 64]⟩ : Shape).Idx) (hy : (y 0).val = 0) :
    v.read (Elt F) (v.writes (Elt F) f
      [⟨Rect.unit (s := ⟨3, ![n, 512, 64]⟩) ![0, 384, 0] S1x128x64.size i3, p3⟩,
       ⟨Rect.unit (s := ⟨3, ![n, 512, 64]⟩) ![0, 256, 0] S1x128x64.size i2, p2⟩,
       ⟨Rect.unit (s := ⟨3, ![n, 512, 64]⟩) ![0, 128, 0] S1x128x64.size i1, p1⟩,
       ⟨Rect.unit (s := ⟨3, ![n, 512, 64]⟩) ![0, 0, 0] S1x128x64.size i0, p0⟩]) y = accOf a (ix2 (y 1) (y 2)) := by
  subst h3 h2 h1 h0
  refine View.read_writes_apply_of_pieces (Val := Elt F) v f (fun y => accOf a (ix2 (y 1) (y 2))) _ ?_ y ?_
  · have key (b : Fin 4) (hb : ∀ z, (![0, 128 * b.val, 0] : Fin 3 → ℕ) z + S1x128x64.size z ≤ (⟨3, ![n, 512, 64]⟩ : Shape).size z) (z : S1x128x64.Idx) :
        shapeCast S1x128x64 (a b) shapeCasts_S128x64_S1x128x64 z
          = (fun y : (⟨3, ![n, 512, 64]⟩ : Shape).Idx => accOf a (ix2 (y 1) (y 2))) ((Rect.unit (s := ⟨3, ![n, 512, 64]⟩) ![0, 128 * b.val, 0] S1x128x64.size hb).emb z) := by
      idx_vars z
      have ee : (fun y : (⟨3, ![n, 512, 64]⟩ : Shape).Idx => ix2 (y 1) (y 2)) ((Rect.unit (s := ⟨3, ![n, 512, 64]⟩) ![0, 128 * b.val, 0] S1x128x64.size hb).emb (ix3 z0 z1 z2)) = (ix2 (accRow b z1) z2 : S512x64.Idx) :=
        place_ext fun a => by fin_cases a; exacts [off_at (128 * b.val) z1.val, unit_at z2.val]
      refine Eq.trans ?_ (congrArg (accOf a) ee).symm
      show _ = a (hdOf (accRow b z1)) (ix2 (qrOf (accRow b z1)) z2)
      rw [hdOf_accRow, qrOf_accRow]
      exact ValueIdx.shapeCast_ab_1ab_apply _ _ z0 z1 z2
    intro p hp
    simp only [List.mem_cons, List.not_mem_nil, _root_.or_false] at hp
    obtain rfl | rfl | rfl | rfl := hp
    · exact key 3 i3
    · exact key 2 i2
    · exact key 1 i1
    · exact key 0 i0
  · have mem (b : Fin 4) (hb : ∀ z, (![0, 128 * b.val, 0] : Fin 3 → ℕ) z + S1x128x64.size z ≤ (⟨3, ![n, 512, 64]⟩ : Shape).size z)
        (h1 : (y 1).val / 128 = b.val) : y ∈ (Rect.unit (s := ⟨3, ![n, 512, 64]⟩) ![0, 128 * b.val, 0] S1x128x64.size hb).set := by
      refine Rect.mem_set_unit.2 fun a => ?_
      have l2 : (y 2).val < 64 := (y 2).isLt
      fin_cases a
      · show 0 ≤ (y 0).val ∧ (y 0).val < 0 + 1; omega
      · show 128 * b.val ≤ (y 1).val ∧ (y 1).val < 128 * b.val + 128; omega
      · show 0 ≤ (y 2).val ∧ (y 2).val < 0 + 64; omega
    have c1 : (y 1).val < 512 := (y 1).isLt
    have c : (y 1).val / 128 = 0 ∨ (y 1).val / 128 = 1 ∨ (y 1).val / 128 = 2 ∨ (y 1).val / 128 = 3 := by omega
    obtain h1 | h1 | h1 | h1 := c
    · exact ⟨_, .tail _ (.tail _ (.tail _ (.head _))), mem 0 i0 h1⟩
    · exact ⟨_, .tail _ (.tail _ (.head _)), mem 1 i1 h1⟩
    · exact ⟨_, .tail _ (.head _), mem 2 i2 h1⟩
    · exact ⟨_, .head _, mem 3 i3 h1⟩

/-- A slot's claim restated at contents which agree on the slot. -/
theorem RmP_of (c : Dev nD) (q : PosShare TreeShare) (f : Buf (Elt F) (bRm.view.loc (c : Thread nD τ))) (t : FVec F S2x4x128 .f32)
    (h : ∀ y : S5x2x4x128.Idx, (y 0).val = 0 → bRm.view.read (Elt F) f y = t (ix3 (y 1) (y 2) (y 3))) :
    (bRm.view.loc (c : Thread nD τ) ↦[bRm.view.setOn (slRm 0).set]{q} f) ⊢ RmP (F := F) c 0 q (spM5 t) :=
  Entails.of_eq (pointsTo_congr fun i hi => by
    obtain ⟨y, hy, rfl⟩ := Finset.mem_map.1 hi
    exact h y (by have := (Rect.mem_set_unit.1 hy 0).2; exact Nat.lt_one_iff.1 this))
theorem LmP_of (c : Dev nD) (q : PosShare TreeShare) (f : Buf (Elt F) (bLm.view.loc (c : Thread nD τ))) (t : FVec F S2x4x128 .f32)
    (h : ∀ y : S4x2x4x128.Idx, (y 0).val = 0 → bLm.view.read (Elt F) f y = t (ix3 (y 1) (y 2) (y 3))) :
    (bLm.view.loc (c : Thread nD τ) ↦[bLm.view.setOn (slLm 0).set]{q} f) ⊢ LmP (F := F) c 0 q (spM4 t) :=
  Entails.of_eq (pointsTo_congr fun i hi => by
    obtain ⟨y, hy, rfl⟩ := Finset.mem_map.1 hi
    exact h y (by have := (Rect.mem_set_unit.1 hy 0).2; exact Nat.lt_one_iff.1 this))
theorem RaP_of (c : Dev nD) (q : PosShare TreeShare) (f : Buf (Elt F) (bRa.view.loc (c : Thread nD τ))) (t : FVec F S512x64 .bf16)
    (h : ∀ y : S5x512x64.Idx, (y 0).val = 0 → bRa.view.read (Elt F) f y = t (ix2 (y 1) (y 2))) :
    (bRa.view.loc (c : Thread nD τ) ↦[bRa.view.setOn (slRa 0).set]{q} f) ⊢ RaP (F := F) c 0 q (spA5 t) :=
  Entails.of_eq (pointsTo_congr fun i hi => by
    obtain ⟨y, hy, rfl⟩ := Finset.mem_map.1 hi
    exact h y (by have := (Rect.mem_set_unit.1 hy 0).2; exact Nat.lt_one_iff.1 this))
theorem LaP_of (c : Dev nD) (q : PosShare TreeShare) (f : Buf (Elt F) (bLa.view.loc (c : Thread nD τ))) (t : FVec F S512x64 .bf16)
    (h : ∀ y : S4x512x64.Idx, (y 0).val = 0 → bLa.view.read (Elt F) f y = t (ix2 (y 1) (y 2))) :
    (bLa.view.loc (c : Thread nD τ) ↦[bLa.view.setOn (slLa 0).set]{q} f) ⊢ LaP (F := F) c 0 q (spA4 t) :=
  Entails.of_eq (pointsTo_congr fun i hi => by
    obtain ⟨y, hy, rfl⟩ := Finset.mem_map.1 hi
    exact h y (by have := (Rect.mem_set_unit.1 hy 0).2; exact Nat.lt_one_iff.1 this))
end Stores

end Cert.SparseRing

end
-- ==== Proof.Even.lean ====
/- The first part of the kernel on the even devices. -/
module

public import proofs.«01_k».proof.Proof.Own

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

omit [FloatOps F] in
theorem full_eq {sp : Space} {S : Shape} {e : EltTy} (b : Memref sig .tc sp S e) (c : Dev nD) {f g : Buf (Elt F) (b.view.loc (c : Thread nD τ))} (h : f = g) :
    (b.view.loc (c : Thread nD τ) ↦{fullShare} f : sProp 𝕄) ⊢ (b.view.loc (c : Thread nD τ) ↦{fullShare} g) := by rw [h]
omit [FloatOps F] in
theorem xSlots_odd (c : Dev nD) (h : even c = false) : xSlots (F := F) c ⊢ iprop((XaE (F := F) c ∗ XmE (F := F) c) ∗ (RaE (F := F) c 0 ∗ RmE (F := F) c 0)) := by
  unfold xSlots seedSlots; rw [h]; exact Entails.of_eq rfl

omit [FloatOps F] in
theorem full_wand {sp : Space} {S : Shape} {e : EltTy} (b : Memref sig .tc sp S e) (c : Dev nD) {E : sProp 𝕄} {f g : Buf (Elt F) (b.view.loc (c : Thread nD τ))} (h : f = g) :
    E ⊢ iprop((b.view.loc (c : Thread nD τ) ↦{fullShare} f : sProp 𝕄) -∗ (b.view.loc (c : Thread nD τ) ↦{fullShare} g)) := by
  subst h; iintro - H; iexact H
omit [FloatOps F] in
theorem wand_of {E P Q : sProp 𝕄} (h : P ⊢ Q) : E ⊢ iprop(P -∗ Q) := by iintro - H; iapply h; iexact H

set_option maxHeartbeats 4000000 in
/-- What an even device does first: it computes both batches' partial results on its block, hands the second batch's to its partner and keeps the first's. -/
theorem even_block (c : Dev nD) (he : even c = true) (h1 : k0_cond1 c = 1#1) (v2 v16 : BitVec 32) (x : FVec F S2x128x512 .f32) (wq : FVec F S512x256 .f32) (kk vv : FVec F S2x128x4x64 .f32)
    (s0 : FVec F S2x4x128 .f32) (a0 : FVec F S512x64 .f32)
    (hpa : V.pa (pt c) = accOf (e := .bf16) (ownH v2 x wq kk vv 1)) (hpm : V.pm (pt c) = statOf (ownM v2 x wq kk 1) (ownL v2 x wq kk 1))
    {α : Type} (k : Prog (TpuEff nD τ sig (Elt F) Λ₀ .tc) α) (Q : α → sProp 𝕄) :
    iprop(records V K ∗ levAts L lv ∗ ((bX.view.loc (c : Thread nD τ) ↦{fullShare} (x : Buf (Elt F) (bX.view.loc (c : Thread nD τ)))) ∗ (bWq.view.loc (c : Thread nD τ) ↦{fullShare} (wq : Buf (Elt F) (bWq.view.loc (c : Thread nD τ)))) ∗ (bK.view.loc (c : Thread nD τ) ↦{fullShare} (kk : Buf (Elt F) (bK.view.loc (c : Thread nD τ)))) ∗ (bV.view.loc (c : Thread nD τ) ↦{fullShare} (vv : Buf (Elt F) (bV.view.loc (c : Thread nD τ)))))
      ∗ (SsaE (F := F) c ∗ SsmE (F := F) c) ∗ dueBar c ∗ ow c (.sa :: .sm :: [.ra 0, .rm 0, .la 0, .lm 0, .ra 1, .la 1, .rm 1, .lm 1, .ra 2, .la 2, .rm 2, .lm 2, .ra 3, .rm 3, .xa, .xm]) ∗ (pend .sa c ∗ pend .sm c)
      ∗ (RaE (F := F) c 0 ∗ RmE (F := F) c 0 ∗ LaE (F := F) c 0 ∗ LmE (F := F) c 0) ∗ (bMl.view.loc (c : Thread nD τ) ↦{fullShare} (s0 : Buf (Elt F) (bMl.view.loc (c : Thread nD τ)))) ∗ (bAcc.view.loc (c : Thread nD τ) ↦{fullShare} (a0 : Buf (Elt F) (bAcc.view.loc (c : Thread nD τ)))))
    ⊢ iprop((iprop(((bX.view.loc (c : Thread nD τ) ↦{fullShare} (x : Buf (Elt F) (bX.view.loc (c : Thread nD τ)))) ∗ (bWq.view.loc (c : Thread nD τ) ↦{fullShare} (wq : Buf (Elt F) (bWq.view.loc (c : Thread nD τ)))) ∗ (bK.view.loc (c : Thread nD τ) ↦{fullShare} (kk : Buf (Elt F) (bK.view.loc (c : Thread nD τ)))) ∗ (bV.view.loc (c : Thread nD τ) ↦{fullShare} (vv : Buf (Elt F) (bV.view.loc (c : Thread nD τ)))))
      ∗ shut .bar c ∗ (rSlots (F := F) (rt c) ∗ lSlots (F := F) (lf c) ∗ (XaE (F := F) (pt c) ∗ XmE (F := F) (pt c)))
      ∗ ow c [.ra 0, .rm 0, .la 0, .lm 0, .ra 1, .la 1, .rm 1, .lm 1, .ra 2, .la 2, .rm 2, .lm 2, .ra 3, .rm 3, .xa, .xm] ∗ (lent .sa c ∗ lent .sm c)
      ∗ (RaP c 0 fullShare (spA5 (accOf (e := .bf16) (ownH v2 x wq kk vv 0))) ∗ RmP c 0 fullShare (spM5 (statOf (ownM v2 x wq kk 0) (ownL v2 x wq kk 0)))
        ∗ LaP c 0 fullShare (spA4 (accOf (e := .bf16) (ownH v2 x wq kk vv 0))) ∗ LmP c 0 fullShare (spM4 (statOf (ownM v2 x wq kk 0) (ownL v2 x wq kk 0))))
      ∗ (bMl.view.loc (c : Thread nD τ) ↦{fullShare} (statOf (ownM v2 x wq kk 0) (ownL v2 x wq kk 0) : Buf (Elt F) (bMl.view.loc (c : Thread nD τ)))) ∗ (bAcc.view.loc (c : Thread nD τ) ↦{fullShare} (accOf (e := .f32) (ownA v2 x wq kk vv 0) : Buf (Elt F) (bAcc.view.loc (c : Thread nD τ))))) -∗ wp frame (wpE (defs₀ (F := F)) 𝒱₀ (c : Thread nD τ) none) Set.univ k Q)
      -∗ wp frame (wpE (defs₀ (F := F)) 𝒱₀ (c : Thread nD τ) none) Set.univ (do
          let ⟨v1241, v1242, v1245, v1259, v1261, v1262⟩ : Σ' (v1241 : IVec S128x128 32) (v1242 : BitVec 32) (v1245 : IVec S128x128 32) (v1259 : IVec S128x128 1) (v1261 : IVec S128x128 32), IVec S128x128 32 ← k0_part1 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v2
          let ⟨v1286, v1291, v1299, v1300, v1301⟩ : Σ' (v1286 : IVec S128x128 1) (v1291 : FVec F S128x256 .f32) (v1299 : FVec F S128x128 .f32) (v1300 : FVec F S128 .f32), FVec F S128x1 .f32 ← k0_part2 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1241 v1242 v1245 v1259 v1261 v1262
          let ⟨v1329, v1333, v1334⟩ : Σ' (v1329 : FVec F S128 .f32) (v1333 : FVec F S128x128 .f32), FVec F S128x128 .f32 ← k0_part3 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1286 v1291 v1299 v1300 v1301
          let ⟨v1358, v1364, v1365⟩ : Σ' (v1358 : FVec F S128 .f32) (v1364 : FVec F S128x128 .f32), FVec F S128 .f32 ← k0_part4 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1286 v1291 v1329 v1333 v1334
          let ⟨v1387, v1393, v1394, v1396, cst_1032⟩ : Σ' (v1387 : FVec F S128 .f32) (v1393 : FVec F S128x128 .f32) (v1394 : FVec F S128 .f32) (v1396 : FVec F S128x64 .f32), FVec F S128x64 .f32 ← k0_part5 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1286 v1291 v1358 v1364 v1365
          let ⟨v1420, v1421⟩ : Σ' (v1420 : FVec F S128x256 .f32), FVec F S128x64 .f32 ← k0_part6 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v16 (SemArray.scalar (sig.barrier 0 rfl) : Sems sig S_) h1 v1387 v1393 v1394 v1396 cst_1032
          let ⟨v1429, v1436, v1439, v1440⟩ : Σ' (v1429 : FVec F S128 .f32) (v1436 : FVec F S128 .f32) (v1439 : FVec F S128x64 .f32), FVec F S128x64 .bf16 ← k0_part7 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1286 v1421
          let ⟨v1476, v1482⟩ : Σ' (v1476 : FVec F S128 .f32), FVec F S128x128 .f32 ← k0_part8 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1286 v1420 v1429 v1436 v1439 v1440
          let ⟨v1486, v1487⟩ : Σ' (v1486 : FVec F S128x64 .f32), FVec F S128x64 .bf16 ← k0_part9 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1476 v1482
          let ⟨v1523, v1530, v1533, v1534⟩ : Σ' (v1523 : FVec F S128 .f32) (v1530 : FVec F S128 .f32) (v1533 : FVec F S128x64 .f32), FVec F S128x64 .bf16 ← k0_part10 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1286 v1420 v1486 v1487
          let v1562 : FVec F S128x64 .f32 ← k0_part11 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1420 v1523 v1530 v1533 v1534
          let ⟨v1570, v1577, v1580, v1581⟩ : Σ' (v1570 : FVec F S128 .f32) (v1577 : FVec F S128 .f32) (v1580 : FVec F S128x64 .f32), FVec F S128x64 .bf16 ← k0_part12 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v1286 v1562
          let v1591 : Vec F S1x1x1x128 .f32 ← Prog.lift (.load bLm (Rect.unit (s := S4x2x4x128) ![0, 1, 3, 0] S1x1x1x128.size inb_S4x2x4x128_S1x1x1x128_0_1_3_0).toLoadRect (View.loadsAt_vmem h_S1x1x1x128))
          Prog.lift (.store bLm (Rect.unit (s := S4x2x4x128) ![0, 1, 3, 0] S1x1x1x128.size inb_S4x2x4x128_S1x1x1x128_0_1_3_0) (k0_pay101 v1577) Finset.univ (View.stores_vmem_bits_univ h_S1x1x1x128 rfl) (.inl rfl))
          let v1594 : Vec F S1x1x128 .f32 ← Prog.lift (.load bMl (Rect.unit (s := S2x4x128) ![0, 3, 0] S1x1x128.size inb_S2x4x128_S1x1x128_0_3_0).toLoadRect (View.loadsAt_vmem h_S1x1x128))
          Prog.lift (.store bMl (Rect.unit (s := S2x4x128) ![0, 3, 0] S1x1x128.size inb_S2x4x128_S1x1x128_0_3_0) (k0_pay102 v1570) Finset.univ (View.stores_vmem_bits_univ h_S1x1x128 rfl) (.inl rfl))
          let v1597 : Vec F S1x1x128 .f32 ← Prog.lift (.load bMl (Rect.unit (s := S2x4x128) ![1, 3, 0] S1x1x128.size inb_S2x4x128_S1x1x128_1_3_0).toLoadRect (View.loadsAt_vmem h_S1x1x128))
          Prog.lift (.store bMl (Rect.unit (s := S2x4x128) ![1, 3, 0] S1x1x128.size inb_S2x4x128_S1x1x128_1_3_0) (k0_pay103 v1577) Finset.univ (View.stores_vmem_bits_univ h_S1x1x128 rfl) (.inl rfl))
          let v1600 : Vec F S1x128x64 .bf16 ← Prog.lift (.load bRa (Rect.unit (s := S5x512x64) ![0, 384, 0] S1x128x64.size inb_S5x512x64_S1x128x64_0_384_0).toLoadRect (View.loadsAt_vmem h_S1x128x64))
          Prog.lift (.store bRa (Rect.unit (s := S5x512x64) ![0, 384, 0] S1x128x64.size inb_S5x512x64_S1x128x64_0_384_0) (k0_pay104 v1581) Finset.univ (View.stores_vmem h_S1x128x64 ((Memref.isWhole_whole bRa.view.ref).storeExact_slice rfl _ packedbf16_S5x512x64_S1x128x64_0_384_0) (fun _ => rfl)) (.inl rfl))
          let v1603 : Vec F S1x128x64 .bf16 ← Prog.lift (.load bLa (Rect.unit (s := S4x512x64) ![0, 384, 0] S1x128x64.size inb_S4x512x64_S1x128x64_0_384_0).toLoadRect (View.loadsAt_vmem h_S1x128x64))
          Prog.lift (.store bLa (Rect.unit (s := S4x512x64) ![0, 384, 0] S1x128x64.size inb_S4x512x64_S1x128x64_0_384_0) (k0_pay105 v1581) Finset.univ (View.stores_vmem h_S1x128x64 ((Memref.isWhole_whole bLa.view.ref).storeExact_slice rfl _ packedbf16_S4x512x64_S1x128x64_0_384_0) (fun _ => rfl)) (.inl rfl))
          let v1606 : Vec F S128x64 .f32 ← Prog.lift (.load bAcc (Rect.unit (s := S512x64) ![384, 0] S128x64.size inb_S512x64_S128x64_384_0).toLoadRect (View.loadsAt_vmem h_S128x64))
          Prog.lift (.store bAcc (Rect.unit (s := S512x64) ![384, 0] S128x64.size inb_S512x64_S128x64_384_0) (k0_pay106 v1580) Finset.univ (View.stores_vmem_bits_univ h_S128x64 rfl) (.inl rfl))
          k) Q) := by
  unfold SsaE SsmE RaE RmE LaE LmE
  iintro ⟨#HR, #Hlev, ⟨Hx, Hwq, Hk, Hv⟩, ⟨⟨%fa, Hsa⟩, ⟨%fm, Hsm⟩⟩, Hbar, HO, ⟨Psa, Psm⟩, ⟨⟨%f1, Hra⟩, ⟨%f2, Hrm⟩, ⟨%f3, Hla⟩, ⟨%f4, Hlm⟩⟩, Hml, Hacc⟩ Hk0
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  sl_exec
  iapply (c4 (wp_wait_bar V K c _ (by decide) rfl)) $$ HR Hbar HO Hlev
  iintro ⟨⟨HrS, HlS, HxS⟩, Zbar, HO⟩
  icases (xSlots_odd (pt c) (by rw [even_pt, he]; rfl)) $$ HxS with ⟨HX, ⟨Ha0, Hm0⟩⟩
  sl_exec
  ihave Hsa1 : (bSsa.view.loc (c : Thread nD τ) ↦{fullShare} (accOf (e := .bf16) (ownH v2 x wq kk vv 1) : Buf (Elt F) (bSsa.view.loc (c : Thread nD τ)))) $$ [Hsa]
  · irevert Hsa; refine full_wand bSsa c ?_; exact acc_read bSsa.view fa (ownH v2 x wq kk vv 1) rfl rfl rfl rfl
  ihave Hsm1 : (bSsm.view.loc (c : Thread nD τ) ↦{fullShare} (statOf (ownM v2 x wq kk 1) (ownL v2 x wq kk 1) : Buf (Elt F) (bSsm.view.loc (c : Thread nD τ)))) $$ [Hsm]
  · irevert Hsm; refine full_wand bSsm c ?_; exact stat_read bSsm.view fm (ownM v2 x wq kk 1) (ownL v2 x wq kk 1) rfl rfl rfl rfl rfl rfl rfl rfl
  iapply (c5 (wp_send_sa V K c _ he (dev4_eq c h1) rfl rfl hpa _)) $$ HR [Hsa1] [Ha0] HO Psa; · iexact Hsa1
  · iexact Ha0
  iintro ⟨Csa, HO⟩
  sl_exec
  iapply (c5 (wp_send_sm V K c _ he (dev5_eq c h1) rfl rfl hpm _)) $$ HR [Hsm1] [Hm0] HO Psm; · iexact Hsm1
  · iexact Hm0
  iintro ⟨Csm, HO⟩
  ihave Hra := (open_ra c 0 fullShare _) $$ Hra
  ihave Hrm := (open_rm c 0 fullShare _) $$ Hrm
  ihave Hla := (open_la c 0 fullShare _) $$ Hla
  ihave Hlm := (open_lm c 0 fullShare _) $$ Hlm
  sl_exec
  ihave Hra1 : RaP c 0 fullShare (spA5 (accOf (e := .bf16) (ownH v2 x wq kk vv 0))) $$ [Hra]
  · irevert Hra; refine wand_of (RaP_of c fullShare _ (accOf (e := .bf16) (ownH v2 x wq kk vv 0)) ?_); exact acc_slot 5 bRa.view f1 (ownH v2 x wq kk vv 0) rfl rfl rfl rfl
  ihave Hla1 : LaP c 0 fullShare (spA4 (accOf (e := .bf16) (ownH v2 x wq kk vv 0))) $$ [Hla]
  · irevert Hla; refine wand_of (LaP_of c fullShare _ (accOf (e := .bf16) (ownH v2 x wq kk vv 0)) ?_); exact acc_slot 4 bLa.view f3 (ownH v2 x wq kk vv 0) rfl rfl rfl rfl
  ihave Hrm1 : RmP c 0 fullShare (spM5 (statOf (ownM v2 x wq kk 0) (ownL v2 x wq kk 0))) $$ [Hrm]
  · irevert Hrm; refine wand_of (RmP_of c fullShare _ (statOf (ownM v2 x wq kk 0) (ownL v2 x wq kk 0)) ?_); exact stat_slot 5 bRm.view f2 (ownM v2 x wq kk 0) (ownL v2 x wq kk 0) rfl rfl rfl rfl rfl rfl rfl rfl
  ihave Hlm1 : LmP c 0 fullShare (spM4 (statOf (ownM v2 x wq kk 0) (ownL v2 x wq kk 0))) $$ [Hlm]
  · irevert Hlm; refine wand_of (LmP_of c fullShare _ (statOf (ownM v2 x wq kk 0) (ownL v2 x wq kk 0)) ?_); exact stat_slot 4 bLm.view f4 (ownM v2 x wq kk 0) (ownL v2 x wq kk 0) rfl rfl rfl rfl rfl rfl rfl rfl
  ihave Hml1 : (bMl.view.loc (c : Thread nD τ) ↦{fullShare} (statOf (ownM v2 x wq kk 0) (ownL v2 x wq kk 0) : Buf (Elt F) (bMl.view.loc (c : Thread nD τ)))) $$ [Hml]
  · irevert Hml; refine full_wand bMl c ?_; exact stat_read bMl.view s0 (ownM v2 x wq kk 0) (ownL v2 x wq kk 0) rfl rfl rfl rfl rfl rfl rfl rfl
  ihave Hacc1 : (bAcc.view.loc (c : Thread nD τ) ↦{fullShare} (accOf (e := .f32) (ownA v2 x wq kk vv 0) : Buf (Elt F) (bAcc.view.loc (c : Thread nD τ)))) $$ [Hacc]
  · irevert Hacc; refine full_wand bAcc c ?_; exact acc_read bAcc.view a0 (ownA v2 x wq kk vv 0) rfl rfl rfl rfl
  iapply Hk0
  iframe

end Cert.SparseRing

end
-- ==== Proof.Odd.lean ====
/- The first part of the kernel on the odd devices. -/
module

public import proofs.«01_k».proof.Proof.Even

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

omit [FloatOps F] in
theorem xSlots_even (c : Dev nD) (h : even c = true) : xSlots (F := F) c ⊢ iprop(XaE (F := F) c ∗ XmE (F := F) c) := by
  unfold xSlots; rw [h]; iintro ⟨H, -⟩; iexact H

/-! ## What the copies of a received slot come to -/

section Copies

/-- The first slot of a buffer of statistics, loaded. -/
theorem ld_slotM (t : FVec F S2x4x128 .f32) (j : S1x2x4x128.Idx) :
    View.readAt (Elt F) bRm.view (Rect.unit (s := S5x2x4x128) ![0, 0, 0, 0] S1x2x4x128.size inb_S5x2x4x128_S1x2x4x128_0_0_0_0).toLoadRect (spM5 t) j = t (ix3 (j 1) (j 2) (j 3)) := by
  refine congrArg t (place_ext fun a => ?_)
  fin_cases a; exacts [unit_at (j 1).val, unit_at (j 2).val, unit_at (j 3).val]
theorem ld_slotA (t : FVec F S512x64 .bf16) (j : S1x512x64.Idx) :
    View.readAt (Elt F) bRa.view (Rect.unit (s := S5x512x64) ![0, 0, 0] S1x512x64.size inb_S5x512x64_S1x512x64_0_0_0).toLoadRect (spA5 t) j = t (ix2 (j 1) (j 2)) := by
  refine congrArg t (place_ext fun a => ?_)
  fin_cases a; exacts [unit_at (j 1).val, unit_at (j 2).val]

theorem pay100_eq (v : Vec F S1x512x64 .bf16) : k0_pay100 v = extf .f32 (shapeCast S512x64 v shapeCasts_S1x512x64_S512x64) bitsLt_bf16_f32 :=
  shapeCast_self (extf .f32 (shapeCast S512x64 v shapeCasts_S1x512x64_S512x64) bitsLt_bf16_f32) shapeCasts_S512x64_S512x64
theorem pay107_eq (v : Vec F S1x2x4x128 .f32) : k0_pay107 v = shapeCast S2x4x128 v shapeCasts_S1x2x4x128_S2x4x128 :=
  shapeCast_self (shapeCast S2x4x128 v shapeCasts_S1x2x4x128_S2x4x128) shapeCasts_S2x4x128_S2x4x128

theorem got_a (t : FVec F S512x64 .bf16) :
    shapeCast S512x64 (View.readAt (Elt F) bRa.view (Rect.unit (s := S5x512x64) ![0, 0, 0] S1x512x64.size inb_S5x512x64_S1x512x64_0_0_0).toLoadRect (spA5 t)) shapeCasts_S1x512x64_S512x64 = t := by
  funext x; idx_vars x
  exact (ValueIdx.shapeCast_1ab_ab_apply _ _ x0 x1).trans (ld_slotA t _)

theorem copy_a (f : bLa.view.ty.Contents (Elt F)) (t : FVec F S512x64 .bf16) (y : S4x512x64.Idx) (hy : (y 0).val = 0) {p : FVec F S1x512x64 .bf16}
    (hp : p = k0_pay98 (View.readAt (Elt F) bRa.view (Rect.unit (s := S5x512x64) ![0, 0, 0] S1x512x64.size inb_S5x512x64_S1x512x64_0_0_0).toLoadRect (spA5 t))) :
    bLa.view.read (Elt F) (bLa.view.writes (Elt F) f [⟨Rect.unit (s := S4x512x64) ![0, 0, 0] S1x512x64.size inb_S4x512x64_S1x512x64_0_0_0, p⟩]) y = t (ix2 (y 1) (y 2)) := by
  subst hp
  refine View.read_writes_apply_of_pieces (Val := Elt F) bLa.view f (fun i => t (ix2 (i 1) (i 2))) _ ?_ y ?_
  · intro g hg; rw [List.mem_singleton] at hg; subst hg
    intro x; idx_vars x
    refine (ValueIdx.shapeCast_ab_1ab_apply _ _ x0 x1 x2).trans ((ValueIdx.shapeCast_1ab_ab_apply _ _ x1 x2).trans ((ld_slotA t _).trans ?_))
    refine congrArg t (place_ext fun a => ?_)
    fin_cases a; exacts [(unit_at x1.val).symm, (unit_at x2.val).symm]
  · refine ⟨_, List.mem_singleton_self _, ?_⟩
    show y ∈ (Rect.unit (s := S4x512x64) ![0, 0, 0] S1x512x64.size inb_S4x512x64_S1x512x64_0_0_0).set
    rw [Rect.mem_set_unit]; intro a
    fin_cases a; exacts [⟨Nat.zero_le _, lt_of_eq_of_lt hy Nat.one_pos⟩, ⟨Nat.zero_le _, (y 1).isLt.trans_eq (Nat.zero_add _).symm⟩, ⟨Nat.zero_le _, (y 2).isLt.trans_eq (Nat.zero_add _).symm⟩]
theorem copy_m (f : bLm.view.ty.Contents (Elt F)) (t : FVec F S2x4x128 .f32) (y : S4x2x4x128.Idx) (hy : (y 0).val = 0) {p : FVec F S1x2x4x128 .f32}
    (hp : p = k0_pay99 (View.readAt (Elt F) bRm.view (Rect.unit (s := S5x2x4x128) ![0, 0, 0, 0] S1x2x4x128.size inb_S5x2x4x128_S1x2x4x128_0_0_0_0).toLoadRect (spM5 t))) :
    bLm.view.read (Elt F) (bLm.view.writes (Elt F) f [⟨Rect.unit (s := S4x2x4x128) ![0, 0, 0, 0] S1x2x4x128.size inb_S4x2x4x128_S1x2x4x128_0_0_0_0, p⟩]) y = t (ix3 (y 1) (y 2) (y 3)) := by
  subst hp
  refine View.read_writes_apply_of_pieces (Val := Elt F) bLm.view f (fun i => t (ix3 (i 1) (i 2) (i 3))) _ ?_ y ?_
  · intro g hg; rw [List.mem_singleton] at hg; subst hg
    intro x; idx_vars x
    refine (ValueIdx.shapeCast_abc_1abc_apply _ _ x0 x1 x2 x3).trans ((ValueIdx.shapeCast_1abc_abc_apply _ _ x1 x2 x3).trans ((ld_slotM t _).trans ?_))
    refine congrArg t (place_ext fun a => ?_)
    fin_cases a; exacts [(unit_at x1.val).symm, (unit_at x2.val).symm, (unit_at x3.val).symm]
  · refine ⟨_, List.mem_singleton_self _, ?_⟩
    show y ∈ (Rect.unit (s := S4x2x4x128) ![0, 0, 0, 0] S1x2x4x128.size inb_S4x2x4x128_S1x2x4x128_0_0_0_0).set
    rw [Rect.mem_set_unit]; intro a
    fin_cases a; exacts [⟨Nat.zero_le _, lt_of_eq_of_lt hy Nat.one_pos⟩, ⟨Nat.zero_le _, (y 1).isLt.trans_eq (Nat.zero_add _).symm⟩, ⟨Nat.zero_le _, (y 2).isLt.trans_eq (Nat.zero_add _).symm⟩, ⟨Nat.zero_le _, (y 3).isLt.trans_eq (Nat.zero_add _).symm⟩]
theorem copy_acc (f : bAcc.view.ty.Contents (Elt F)) (t : FVec F S512x64 .bf16) {p : FVec F S512x64 .f32}
    (hp : p = k0_pay100 (View.readAt (Elt F) bRa.view (Rect.unit (s := S5x512x64) ![0, 0, 0] S1x512x64.size inb_S5x512x64_S1x512x64_0_0_0).toLoadRect (spA5 t))) :
    bAcc.view.read (Elt F) (bAcc.view.writes (Elt F) f [⟨Rect.unit (s := S512x64) ![0, 0] S512x64.size inb_S512x64_S512x64_0_0, p⟩]) = extf .f32 t bitsLt_bf16_f32 := by
  subst hp; funext y
  refine View.read_writes_apply_of_pieces (Val := Elt F) bAcc.view f (extf .f32 t bitsLt_bf16_f32) _ ?_ y ?_
  · intro g hg; rw [List.mem_singleton] at hg; subst hg
    intro x; idx_vars x
    refine (congrFun ((pay100_eq _).trans (congrArg (fun z => extf .f32 z bitsLt_bf16_f32) (got_a t))) _).trans ?_
    refine congrArg (extf .f32 t bitsLt_bf16_f32) (place_ext fun a => ?_)
    fin_cases a; exacts [(unit_at x0.val).symm, (unit_at x1.val).symm]
  · exact View.cover_of_tiled (Val := Elt F) (e := .f32) (s := S512x64) _ S512x64.size (by rfl) y
theorem copy_ml (f : bMl.view.ty.Contents (Elt F)) (t : FVec F S2x4x128 .f32) {p : FVec F S2x4x128 .f32}
    (hp : p = k0_pay107 (View.readAt (Elt F) bRm.view (Rect.unit (s := S5x2x4x128) ![0, 0, 0, 0] S1x2x4x128.size inb_S5x2x4x128_S1x2x4x128_0_0_0_0).toLoadRect (spM5 t))) :
    bMl.view.read (Elt F) (bMl.view.writes (Elt F) f [⟨Rect.unit (s := S2x4x128) ![0, 0, 0] S2x4x128.size inb_S2x4x128_S2x4x128_0_0_0, p⟩]) = t := by
  subst hp; funext y
  refine View.read_writes_apply_of_pieces (Val := Elt F) bMl.view f t _ ?_ y ?_
  · intro g hg; rw [List.mem_singleton] at hg; subst hg
    intro x; idx_vars x
    refine (congrFun (pay107_eq _) _).trans ?_
    refine (ValueIdx.shapeCast_1abc_abc_apply _ _ x0 x1 x2).trans ((ld_slotM t _).trans ?_)
    refine congrArg t (place_ext fun a => ?_)
    fin_cases a; exacts [(unit_at x0.val).symm, (unit_at x1.val).symm, (unit_at x2.val).symm]
  · exact View.cover_of_tiled (Val := Elt F) (e := .f32) (s := S2x4x128) _ S2x4x128.size (by rfl) y

end Copies

set_option maxHeartbeats 4000000 in
/-- What an odd device does first: it receives its partner's partial result of the second batch, and starts from that. -/
theorem odd_block (c : Dev nD) (he : even c = false) (v16 : BitVec 32)
    (s0 : FVec F S2x4x128 .f32) (a0 : FVec F S512x64 .f32) (pa : FVec F S512x64 .bf16) (pm : FVec F S2x4x128 .f32) (hpa : V.pa c = pa) (hpm : V.pm c = pm)
    {α : Type} (k : Prog (TpuEff nD τ sig (Elt F) Λ₀ .tc) α) (Q : α → sProp 𝕄) :
    iprop(records V K ∗ levAts L lv ∗ dueBar c ∗ ow c [.ra 0, .rm 0, .la 0, .lm 0, .ra 1, .la 1, .rm 1, .lm 1, .ra 2, .la 2, .rm 2, .lm 2, .ra 3, .rm 3, .xa, .xm] ∗ (due .sa c ∗ due .sm c)
      ∗ (LaE (F := F) c 0 ∗ LmE (F := F) c 0) ∗ (bMl.view.loc (c : Thread nD τ) ↦{fullShare} (s0 : Buf (Elt F) (bMl.view.loc (c : Thread nD τ)))) ∗ (bAcc.view.loc (c : Thread nD τ) ↦{fullShare} (a0 : Buf (Elt F) (bAcc.view.loc (c : Thread nD τ)))))
    ⊢ iprop((iprop(shut .bar c ∗ (rSlots (F := F) (rt c) ∗ lSlots (F := F) (lf c) ∗ (XaE (F := F) (pt c) ∗ XmE (F := F) (pt c)))
      ∗ ow c [.ra 0, .rm 0, .la 0, .lm 0, .ra 1, .la 1, .rm 1, .lm 1, .ra 2, .la 2, .rm 2, .lm 2, .ra 3, .rm 3, .xa, .xm] ∗ (shut (.rcv .sa) c ∗ shut (.rcv .sm) c)
      ∗ (RaP c 0 fullShare (spA5 pa) ∗ RmP c 0 fullShare (spM5 pm) ∗ LaP c 0 fullShare (spA4 pa) ∗ LmP c 0 fullShare (spM4 pm))
      ∗ (bMl.view.loc (c : Thread nD τ) ↦{fullShare} (pm : Buf (Elt F) (bMl.view.loc (c : Thread nD τ)))) ∗ (bAcc.view.loc (c : Thread nD τ) ↦{fullShare} (extf .f32 pa bitsLt_bf16_f32 : Buf (Elt F) (bAcc.view.loc (c : Thread nD τ))))) -∗ wp frame (wpE (defs₀ (F := F)) 𝒱₀ (c : Thread nD τ) none) Set.univ k Q)
      -∗ wp frame (wpE (defs₀ (F := F)) 𝒱₀ (c : Thread nD τ) none) Set.univ (do
          k0_part13 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v16 (SemArray.scalar (sig.barrier 0 rfl) : Sems sig S_)
          let v1241 : Vec F S1x2x4x128 .f32 ← Prog.lift (.load bRm (Rect.unit (s := S5x2x4x128) ![0, 0, 0, 0] S1x2x4x128.size inb_S5x2x4x128_S1x2x4x128_0_0_0_0).toLoadRect (View.loadsAt_vmem h_S1x2x4x128))
          let v1243 : Vec F S2x4x128 .f32 ← Prog.lift (.load bMl (Rect.unit (s := S2x4x128) ![0, 0, 0] S2x4x128.size inb_S2x4x128_S2x4x128_0_0_0).toLoadRect (View.loadsAt_vmem h_S2x4x128))
          Prog.lift (.store bMl (Rect.unit (s := S2x4x128) ![0, 0, 0] S2x4x128.size inb_S2x4x128_S2x4x128_0_0_0) (k0_pay107 v1241) Finset.univ (View.stores_vmem_bits_univ h_S2x4x128 rfl) (.inl rfl))
          k) Q) := by
  unfold LaE LmE
  iintro ⟨#HR, #Hlev, Hbar, HO, ⟨Dsa, Dsm⟩, ⟨⟨%f3, Hla⟩, ⟨%f4, Hlm⟩⟩, Hml, Hacc⟩ Hk0
  rw [k0_part13_eq_skeleton]
  unfold k0_part13_skel
  sl_exec
  iapply (c4 (wp_wait_bar V K c _ (by decide) rfl)) $$ HR Hbar HO Hlev
  iintro ⟨⟨HrS, HlS, HxS⟩, Zbar, HO⟩
  ihave HX := (xSlots_even (pt c) (by rw [even_pt, he]; rfl)) $$ HxS
  icases HX with ⟨HXa, HXm⟩
  sl_exec
  iapply (c4 (wp_wait_rcv V K .sa c (by show (!even c) = true; rw [he]; rfl) _ (by decide) rfl (amt_mRa 0))) $$ HR Dsa HO Hlev
  iintro ⟨Hra, Zsa, HO⟩
  sl_exec
  iapply (c4 (wp_wait_rcv V K .sm c (by show (!even c) = true; rw [he]; rfl) _ (by decide) rfl (amt_mRm 0))) $$ HR Dsm HO Hlev
  iintro ⟨Hrm, Zsm, HO⟩
  ihave Hra := (show rcvPay V .sa c ⊢ RaP c 0 fullShare (spA5 pa) from Entails.of_eq (by rw [← hpa]; rfl)) $$ Hra
  ihave Hrm := (show rcvPay V .sm c ⊢ RmP c 0 fullShare (spM5 pm) from Entails.of_eq (by rw [← hpm]; rfl)) $$ Hrm
  ihave Hra := (open_ra c 0 fullShare _) $$ Hra
  ihave Hrm := (open_rm c 0 fullShare _) $$ Hrm
  ihave Hla := (open_la c 0 fullShare _) $$ Hla
  ihave Hlm := (open_lm c 0 fullShare _) $$ Hlm
  sl_exec
  ihave Hla1 : LaP c 0 fullShare (spA4 pa) $$ [Hla]
  · irevert Hla; refine wand_of (LaP_of c fullShare _ pa ?_); exact fun y hy => copy_a f3 pa y hy rfl
  ihave Hlm1 : LmP c 0 fullShare (spM4 pm) $$ [Hlm]
  · irevert Hlm; refine wand_of (LmP_of c fullShare _ pm ?_); exact fun y hy => copy_m f4 pm y hy rfl
  ihave Hml1 : (bMl.view.loc (c : Thread nD τ) ↦{fullShare} (pm : Buf (Elt F) (bMl.view.loc (c : Thread nD τ)))) $$ [Hml]
  · irevert Hml; refine full_wand bMl c ?_; exact copy_ml s0 pm rfl
  ihave Hacc1 : (bAcc.view.loc (c : Thread nD τ) ↦{fullShare} (extf .f32 pa bitsLt_bf16_f32 : Buf (Elt F) (bAcc.view.loc (c : Thread nD τ)))) $$ [Hacc]
  · irevert Hacc; refine full_wand bAcc c ?_; exact copy_acc a0 pa rfl
  ihave Hra := (fold_ra c 0 fullShare _) $$ Hra
  ihave Hrm := (fold_rm c 0 fullShare _) $$ Hrm
  iapply Hk0
  iframe

end Cert.SparseRing

end
-- ==== Proof.Start.lean ====
/- The kernel up to its first hop: the barrier, then the device's own part, then the two sends of slot zero to the right. -/
module

public import proofs.«01_k».proof.Proof.Odd

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

/-! ## The device's own words -/

/-- A device's number, as the kernel computes it. -/
def devW (c : Dev nD) : BitVec 32 := Scalar.remsi (Scalar.divsi (Dev.word c) 1#32) 16#32
/-- The parity bit of a device. -/
def parB (c : Dev nD) : BitVec 1 := if even c then 1#1 else 0#1

section Words

set_option maxRecDepth 4000 in
theorem part14_run (c : Dev nD) {α : Type} (k : (Σ' (d0 : Dev nD) (v2 : BitVec 32) (v12 : BitVec 32) (v13 : BitVec 1) (v16 : BitVec 32) (v27 : BitVec 1) (c4_i32_13 : BitVec 32) (v28 : BitVec 32) (v33 : BitVec 32) (v35 : BitVec 32), BitVec 32) → Prog (TpuEff nD τ sig (Elt F) Λ₀ .tc) α) (Q : α → sProp 𝕄) (E : sProp 𝕄)
    (h : ∀ (v12 : BitVec 32) (v13 : BitVec 1) (v16 : BitVec 32) (v27 : BitVec 1) (v28 v33 v35 : BitVec 32), v13 = parB c → E ⊢ wp frame (wpE (defs₀ (F := F)) 𝒱₀ (c : Thread nD τ) none) Set.univ (k ⟨c, devW c, v12, v13, v16, v27, 4#32, v28, v33, v35, 0#32⟩) Q) :
    E ⊢ wp frame (wpE (defs₀ (F := F)) 𝒱₀ (c : Thread nD τ) none) Set.univ (k0_part14 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) >>= k) Q := by
  rw [k0_part14_eq_skeleton]; unfold k0_part14_skel
  iintro H
  sl_exec
  istop
  exact h _ _ _ _ _ _ _ (by clear h; revert c; decide)

theorem part15_run (c : Dev nD) (v2 v12 : BitVec 32) (v27 : BitVec 1) (c4 v28 v33 v35 c0 : BitVec 32) {α : Type} (k : (Σ' (v65 : BitVec 32) (v76 : BitVec 32), BitVec 32) → Prog (TpuEff nD τ sig (Elt F) Λ₀ .tc) α) (Q : α → sProp 𝕄) (E : sProp 𝕄)
    (h : ∀ (v65 v76 : BitVec 32), E ⊢ wp frame (wpE (defs₀ (F := F)) 𝒱₀ (c : Thread nD τ) none) Set.univ (k ⟨v65, v76, 3#32⟩) Q) :
    E ⊢ wp frame (wpE (defs₀ (F := F)) 𝒱₀ (c : Thread nD τ) none) Set.univ (k0_part15 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v2 v12 v27 c4 v28 v33 v35 c0 >>= k) Q := by
  rw [k0_part15_eq_skeleton]; unfold k0_part15_skel
  iintro H
  sl_exec
  iapply (h _ _)
  iexact H

end Words

/-- The barrier's three signals: each hands a neighbour, or the partner, the memory which it will write. -/
theorem part16_run (c : Dev nD) (W : Waits sig Unit) (v12 : BitVec 32) (v13 : BitVec 1) (v16 v65 v76 c3 : BitVec 32) {α : Type} (k : (Σ' (v82 : BitVec 32) (v99 : BitVec 32) (v100 : Sems sig S_) (v107 : BitVec 32), BitVec 32) → Prog (TpuEff nD τ sig (Elt F) Λ₀ .tc) α) (Q : α → sProp 𝕄) (E : sProp 𝕄)
    (h : ∀ (v82 v99 : BitVec 32), iprop(records V K ∗ ow c (todo c) ∗ E) ⊢ wp frame (wpE (defs₀ (F := F)) 𝒱₀ (c : Thread nD τ) none) Set.univ (k ⟨v82, v99, (SemArray.scalar (sig.barrier 0 rfl) : Sems sig S_), Scalar.extui v13, 0#32⟩) Q) :
    iprop(records V K ∗ owes (c : Thread nD τ) (O₀ c) W
      ∗ (dutyTok ER (kcell (lf c, .bar)) 0 0 ∗ dutyTok ER (kcell (rt c, .bar)) 0 1 ∗ dutyTok ER (kcell (pt c, .bar)) 0 2)
      ∗ (rSlots (F := F) c ∗ lSlots (F := F) c ∗ xSlots (F := F) c) ∗ E)
    ⊢ wp frame (wpE (defs₀ (F := F)) 𝒱₀ (c : Thread nD τ) none) Set.univ (k0_part16 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v12 v13 v16 v65 v76 c3 >>= k) Q := by
  rw [k0_part16_eq_skeleton]; unfold k0_part16_skel
  iintro ⟨#HR, HO, ⟨T0, T1, T2⟩, ⟨HrS, HlS, HxS⟩, HE⟩
  ihave HrS := (show rSlots (F := F) c ⊢ barPay (F := F) (lf c) 0 from Entails.of_eq (by show _ = rSlots (rt (lf c)); rw [rt_lf])) $$ HrS
  ihave HlS := (show lSlots (F := F) c ⊢ barPay (F := F) (rt c) 1 from Entails.of_eq (by show _ = lSlots (lf (rt c)); rw [lf_rt])) $$ HlS
  ihave HxS := (show xSlots (F := F) c ⊢ barPay (F := F) (pt c) 2 from Entails.of_eq (by show _ = xSlots (pt (pt c)); rw [pt_pt])) $$ HxS
  unfold O₀
  sl_exec
  rw [show (⟨k0_dev1 c, k0_dev1_lt c⟩ : Dev nD) = lf c from dev1_eq c, show (⟨k0_dev2 c, k0_dev2_lt c⟩ : Dev nD) = rt c from dev2_eq c, show (⟨k0_dev3 c, k0_dev3_lt c⟩ : Dev nD) = pt c from dev3_eq c]
  iapply (c4 (wp_signal_bar V K 0 c (lf c) rfl _ W)) $$ HR HO T0 HrS
  iintro HO
  sl_exec
  iapply (c4 (wp_signal_bar V K 1 c (rt c) rfl _ W)) $$ HR HO T1 HlS
  iintro HO
  sl_exec
  iapply (c4 (wp_signal_bar V K 2 c (pt c) rfl _ W)) $$ HR HO T2 HxS
  iintro HO
  sl_exec
  iapply (h _ _)
  isplitr; · iexact HR
  isplitl [HO]; · unfold ow; iexists W; iexact HO
  iexact HE

/-! ## The first hop -/

section Splits
omit [FloatOps F]
theorem split_ra (c : Dev nD) (f) : RaP (F := F) c 0 fullShare f ⊢ iprop(RaP c 0 fullShare.left f ∗ RaP c 0 fullShare.right f) := (pointsTo_share (PosShare.mem_left_op_right _)).1
theorem split_rm (c : Dev nD) (f) : RmP (F := F) c 0 fullShare f ⊢ iprop(RmP c 0 fullShare.left f ∗ RmP c 0 fullShare.right f) := (pointsTo_share (PosShare.mem_left_op_right _)).1
theorem split_la (c : Dev nD) (f) : LaP (F := F) c 0 fullShare f ⊢ iprop(LaP c 0 fullShare.left f ∗ LaP c 0 fullShare.right f) := (pointsTo_share (PosShare.mem_left_op_right _)).1
theorem split_lm (c : Dev nD) (f) : LmP (F := F) c 0 fullShare f ⊢ iprop(LmP c 0 fullShare.left f ∗ LmP c 0 fullShare.right f) := (pointsTo_share (PosShare.mem_left_op_right _)).1
theorem open_rSlots (c : Dev nD) : rSlots (F := F) c ⊢ iprop((RaE (F := F) c 1 ∗ RaE (F := F) c 2 ∗ RaE (F := F) c 3 ∗ RaE (F := F) c 4) ∗ (RmE (F := F) c 1 ∗ RmE (F := F) c 2 ∗ RmE (F := F) c 3 ∗ RmE (F := F) c 4)) := Entails.of_eq rfl
theorem open_lSlots (c : Dev nD) : lSlots (F := F) c ⊢ iprop((LaE (F := F) c 1 ∗ LaE (F := F) c 2 ∗ LaE (F := F) c 3) ∗ (LmE (F := F) c 1 ∗ LmE (F := F) c 2 ∗ LmE (F := F) c 3)) := Entails.of_eq rfl
end Splits

set_option maxHeartbeats 1000000 in
/-- An even device's block and first hop. -/
theorem part17_even (c : Dev nD) (he : even c = true) (v2 v16 v82 v99 v107 c0 : BitVec 32) (x : FVec F S2x128x512 .f32) (wq : FVec F S512x256 .f32) (kk vv : FVec F S2x128x4x64 .f32)
    (s0 : FVec F S2x4x128 .f32) (a0 : FVec F S512x64 .f32)
    (hpa : V.pa (pt c) = accOf (e := .bf16) (ownH v2 x wq kk vv 1)) (hpm : V.pm (pt c) = statOf (ownM v2 x wq kk 1) (ownL v2 x wq kk 1))
    (hpa0 : V.pa c = accOf (e := .bf16) (ownH v2 x wq kk vv 0)) (hpm0 : V.pm c = statOf (ownM v2 x wq kk 0) (ownL v2 x wq kk 0))
    {α : Type} (k : BitVec 32 → Prog (TpuEff nD τ sig (Elt F) Λ₀ .tc) α) (Q : α → sProp 𝕄) :
    iprop(records V K ∗ levAts L lv ∗ ((bX.view.loc (c : Thread nD τ) ↦{fullShare} (x : Buf (Elt F) (bX.view.loc (c : Thread nD τ)))) ∗ (bWq.view.loc (c : Thread nD τ) ↦{fullShare} (wq : Buf (Elt F) (bWq.view.loc (c : Thread nD τ)))) ∗ (bK.view.loc (c : Thread nD τ) ↦{fullShare} (kk : Buf (Elt F) (bK.view.loc (c : Thread nD τ)))) ∗ (bV.view.loc (c : Thread nD τ) ↦{fullShare} (vv : Buf (Elt F) (bV.view.loc (c : Thread nD τ)))))
      ∗ (SsaE (F := F) c ∗ SsmE (F := F) c) ∗ dueBar c ∗ ow c (.sa :: .sm :: [.ra 0, .rm 0, .la 0, .lm 0, .ra 1, .la 1, .rm 1, .lm 1, .ra 2, .la 2, .rm 2, .lm 2, .ra 3, .rm 3, .xa, .xm]) ∗ (pend .sa c ∗ pend .sm c)
      ∗ (RaE (F := F) c 0 ∗ RmE (F := F) c 0 ∗ LaE (F := F) c 0 ∗ LmE (F := F) c 0) ∗ (bMl.view.loc (c : Thread nD τ) ↦{fullShare} (s0 : Buf (Elt F) (bMl.view.loc (c : Thread nD τ)))) ∗ (bAcc.view.loc (c : Thread nD τ) ↦{fullShare} (a0 : Buf (Elt F) (bAcc.view.loc (c : Thread nD τ)))) ∗ (pend (.ra 0) c ∗ pend (.rm 0) c))
    ⊢ iprop((iprop(((bX.view.loc (c : Thread nD τ) ↦{fullShare} (x : Buf (Elt F) (bX.view.loc (c : Thread nD τ)))) ∗ (bWq.view.loc (c : Thread nD τ) ↦{fullShare} (wq : Buf (Elt F) (bWq.view.loc (c : Thread nD τ)))) ∗ (bK.view.loc (c : Thread nD τ) ↦{fullShare} (kk : Buf (Elt F) (bK.view.loc (c : Thread nD τ)))) ∗ (bV.view.loc (c : Thread nD τ) ↦{fullShare} (vv : Buf (Elt F) (bV.view.loc (c : Thread nD τ))))) ∗ (lent .sa c ∗ lent .sm c) ∗ (bAcc.view.loc (c : Thread nD τ) ↦{fullShare} (accOf (e := .f32) (ownA v2 x wq kk vv 0) : Buf (Elt F) (bAcc.view.loc (c : Thread nD τ)))) ∗ shut .bar c ∗ ((RaE (F := F) (rt c) 2 ∗ RaE (F := F) (rt c) 3 ∗ RaE (F := F) (rt c) 4) ∗ (RmE (F := F) (rt c) 2 ∗ RmE (F := F) (rt c) 3 ∗ RmE (F := F) (rt c) 4))
      ∗ ((LaE (F := F) (lf c) 1 ∗ LaE (F := F) (lf c) 2 ∗ LaE (F := F) (lf c) 3) ∗ (LmE (F := F) (lf c) 1 ∗ LmE (F := F) (lf c) 2 ∗ LmE (F := F) (lf c) 3)) ∗ (XaE (F := F) (pt c) ∗ XmE (F := F) (pt c))
      ∗ ow c [.la 0, .lm 0, .ra 1, .la 1, .rm 1, .lm 1, .ra 2, .la 2, .rm 2, .lm 2, .ra 3, .rm 3, .xa, .xm] ∗ (lent (.ra 0) c ∗ lent (.rm 0) c)
      ∗ (RaP c 0 fullShare.left (spA5 (V.pa c)) ∗ RmP c 0 fullShare.left (spM5 (V.pm c)) ∗ LaP c 0 fullShare.left (spA4 (V.pa c)) ∗ LmP c 0 fullShare.left (spM4 (V.pm c)))
      ∗ (LaP c 0 fullShare.right (spA4 (V.pa c)) ∗ LmP c 0 fullShare.right (spM4 (V.pm c))) ∗ (bMl.view.loc (c : Thread nD τ) ↦{fullShare} (V.pm c : Buf (Elt F) (bMl.view.loc (c : Thread nD τ)))))
          -∗ wp frame (wpE (defs₀ (F := F)) 𝒱₀ (c : Thread nD τ) none) Set.univ (k (Scalar.muli v99 1#32)) Q)
      -∗ wp frame (wpE (defs₀ (F := F)) 𝒱₀ (c : Thread nD τ) none) Set.univ (k0_part17 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v2 1#1 v16 v82 v99 (SemArray.scalar (sig.barrier 0 rfl) : Sems sig S_) v107 c0 >>= k) Q) := by
  have h1 : k0_cond1 c = 1#1 := by rw [cond1_eq, he]; rfl
  have hc2 : ¬ Scalar.cmpi .ne (Scalar.extui (Scalar.xori (1#1 : BitVec 1) 1#1) : BitVec 32) 0#32 = 1#1 := by decide
  iintro ⟨#HR, #Hlev, Hin, HSs, Hbar, HO, HPs, Hsl, Hml, Hacc, ⟨Pra0, Prm0⟩⟩ Hk0
  rw [k0_part17_eq_skeleton]
  unfold k0_part17_skel
  rw [wp_bind, dif_pos h1]
  iapply (even_block V K c he h1 v2 v16 x wq kk vv s0 a0 hpa hpm _ _) $$ [Hin HSs Hbar HO HPs Hsl Hml Hacc]
  · iframe HR Hlev Hin HSs Hbar HO HPs Hsl Hml Hacc
  rw [← hpa0, ← hpm0]
  iintro ⟨Hin, Zbar, ⟨HrS, HlS, HXa, HXm⟩, HO, HCs, ⟨Hra, Hrm, Hla, Hlm⟩, Hml, Hacc⟩
  icases (split_ra c _) $$ Hra with ⟨HLra, HRra⟩
  icases (split_rm c _) $$ Hrm with ⟨HLrm, HRrm⟩
  icases (split_la c _) $$ Hla with ⟨HLla, HRla⟩
  icases (split_lm c _) $$ Hlm with ⟨HLlm, HRlm⟩
  icases (open_rSlots (rt c)) $$ HrS with ⟨⟨Ra1, Ra2, Ra3, Ra4⟩, ⟨Rm1, Rm2, Rm3, Rm4⟩⟩
  icases (open_lSlots (lf c)) $$ HlS with ⟨⟨La1, La2, La3⟩, ⟨Lm1, Lm2, Lm3⟩⟩
  sl_exec
  iapply (c5 (wp_send_ra V K 0 c _ (dev6_eq c) rfl rfl _)) $$ HR [HRra] [Ra1] HO Pra0; · iexact HRra
  · iexact Ra1
  iintro ⟨Cra0, HO⟩
  sl_exec
  iapply (c5 (wp_send_rm V K 0 c _ (dev7_eq c) rfl rfl _)) $$ HR [HRrm] [Rm1] HO Prm0; · iexact HRrm
  · iexact Rm1
  iintro ⟨Crm0, HO⟩
  sl_exec
  iapply Hk0
  iframe

set_option maxHeartbeats 1000000 in
/-- An odd device's block and first hop. -/
theorem part17_odd (c : Dev nD) (he : even c = false) (v2 v16 v82 v99 v107 c0 : BitVec 32)
    (s0 : FVec F S2x4x128 .f32) (a0 : FVec F S512x64 .f32)
    {α : Type} (k : BitVec 32 → Prog (TpuEff nD τ sig (Elt F) Λ₀ .tc) α) (Q : α → sProp 𝕄) :
    iprop(records V K ∗ levAts L lv ∗ dueBar c ∗ ow c [.ra 0, .rm 0, .la 0, .lm 0, .ra 1, .la 1, .rm 1, .lm 1, .ra 2, .la 2, .rm 2, .lm 2, .ra 3, .rm 3, .xa, .xm] ∗ (due .sa c ∗ due .sm c)
      ∗ (LaE (F := F) c 0 ∗ LmE (F := F) c 0) ∗ (bMl.view.loc (c : Thread nD τ) ↦{fullShare} (s0 : Buf (Elt F) (bMl.view.loc (c : Thread nD τ)))) ∗ (bAcc.view.loc (c : Thread nD τ) ↦{fullShare} (a0 : Buf (Elt F) (bAcc.view.loc (c : Thread nD τ)))) ∗ (pend (.ra 0) c ∗ pend (.rm 0) c))
    ⊢ iprop((iprop((shut (.rcv .sa) c ∗ shut (.rcv .sm) c) ∗ (bAcc.view.loc (c : Thread nD τ) ↦{fullShare} (extf .f32 (V.pa c) bitsLt_bf16_f32 : Buf (Elt F) (bAcc.view.loc (c : Thread nD τ)))) ∗ shut .bar c ∗ ((RaE (F := F) (rt c) 2 ∗ RaE (F := F) (rt c) 3 ∗ RaE (F := F) (rt c) 4) ∗ (RmE (F := F) (rt c) 2 ∗ RmE (F := F) (rt c) 3 ∗ RmE (F := F) (rt c) 4))
      ∗ ((LaE (F := F) (lf c) 1 ∗ LaE (F := F) (lf c) 2 ∗ LaE (F := F) (lf c) 3) ∗ (LmE (F := F) (lf c) 1 ∗ LmE (F := F) (lf c) 2 ∗ LmE (F := F) (lf c) 3)) ∗ (XaE (F := F) (pt c) ∗ XmE (F := F) (pt c))
      ∗ ow c [.la 0, .lm 0, .ra 1, .la 1, .rm 1, .lm 1, .ra 2, .la 2, .rm 2, .lm 2, .ra 3, .rm 3, .xa, .xm] ∗ (lent (.ra 0) c ∗ lent (.rm 0) c)
      ∗ (RaP c 0 fullShare.left (spA5 (V.pa c)) ∗ RmP c 0 fullShare.left (spM5 (V.pm c)) ∗ LaP c 0 fullShare.left (spA4 (V.pa c)) ∗ LmP c 0 fullShare.left (spM4 (V.pm c)))
      ∗ (LaP c 0 fullShare.right (spA4 (V.pa c)) ∗ LmP c 0 fullShare.right (spM4 (V.pm c))) ∗ (bMl.view.loc (c : Thread nD τ) ↦{fullShare} (V.pm c : Buf (Elt F) (bMl.view.loc (c : Thread nD τ)))))
          -∗ wp frame (wpE (defs₀ (F := F)) 𝒱₀ (c : Thread nD τ) none) Set.univ (k (Scalar.muli v99 1#32)) Q)
      -∗ wp frame (wpE (defs₀ (F := F)) 𝒱₀ (c : Thread nD τ) none) Set.univ (k0_part17 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v2 0#1 v16 v82 v99 (SemArray.scalar (sig.barrier 0 rfl) : Sems sig S_) v107 c0 >>= k) Q) := by
  have h1 : ¬ k0_cond1 c = 1#1 := by rw [cond1_eq, he]; decide
  have hc2 : Scalar.cmpi .ne (Scalar.extui (Scalar.xori (0#1 : BitVec 1) 1#1) : BitVec 32) 0#32 = 1#1 := by decide
  iintro ⟨#HR, #Hlev, Hbar, HO, HDs, Hsl, Hml, Hacc, ⟨Pra0, Prm0⟩⟩ Hk0
  rw [k0_part17_eq_skeleton]
  unfold k0_part17_skel
  rw [dif_neg h1, wp_bind]
  beta_reduce
  rw [dif_pos hc2]
  iapply (odd_block V K c he v16 s0 a0 (V.pa c) (V.pm c) rfl rfl _ _) $$ [Hbar HO HDs Hsl Hml Hacc]
  · iframe HR Hlev Hbar HO HDs Hsl Hml Hacc
  iintro ⟨Zbar, ⟨HrS, HlS, HXa, HXm⟩, HO, HZs, ⟨Hra, Hrm, Hla, Hlm⟩, Hml, Hacc⟩
  icases (split_ra c _) $$ Hra with ⟨HLra, HRra⟩
  icases (split_rm c _) $$ Hrm with ⟨HLrm, HRrm⟩
  icases (split_la c _) $$ Hla with ⟨HLla, HRla⟩
  icases (split_lm c _) $$ Hlm with ⟨HLlm, HRlm⟩
  icases (open_rSlots (rt c)) $$ HrS with ⟨⟨Ra1, Ra2, Ra3, Ra4⟩, ⟨Rm1, Rm2, Rm3, Rm4⟩⟩
  icases (open_lSlots (lf c)) $$ HlS with ⟨⟨La1, La2, La3⟩, ⟨Lm1, Lm2, Lm3⟩⟩
  sl_exec
  iapply (c5 (wp_send_ra V K 0 c _ (dev6_eq c) rfl rfl _)) $$ HR [HRra] [Ra1] HO Pra0; · iexact HRra
  · iexact Ra1
  iintro ⟨Cra0, HO⟩
  sl_exec
  iapply (c5 (wp_send_rm V K 0 c _ (dev7_eq c) rfl rfl _)) $$ HR [HRrm] [Rm1] HO Prm0; · iexact HRrm
  · iexact Rm1
  iintro ⟨Crm0, HO⟩
  sl_exec
  iapply Hk0
  iframe

end Cert.SparseRing

end
-- ==== Proof.Stage1.lean ====
/- The first two hops of both rings. -/
module

public import proofs.«01_k».proof.Proof.Combine

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

theorem keep_of {s t : FVec F S2x4x128 .f32} {S0 T0 : FVec F S4x128 .f32} (h0 : S0 = rowOf 0 s) (h2 : T0 = rowOf 0 t) :
    exp (subf S0 (maximumf S0 T0)) = keepF s t := by subst h0 h2; rfl
theorem join_of {s t : FVec F S2x4x128 .f32} {S0 T0 : FVec F S4x128 .f32} (h0 : S0 = rowOf 0 s) (h2 : T0 = rowOf 0 t) :
    exp (subf T0 (maximumf S0 T0)) = joinF s t := by subst h0 h2; rfl

set_option maxHeartbeats 4000000 in
/-- Hops 0 and 1 of both rings and the combines of the first neighbours' partial results. -/
theorem stage1 (c : Dev nD) (v82 v99 v132 : BitVec 32) (s : FVec F S2x4x128 .f32) (a : FVec F S512x64 .f32)
    {α : Type} (k : Prog (TpuEff nD τ sig (Elt F) Λ₀ .tc) α) (Q : α → sProp 𝕄) :
    iprop(records V K ∗ levAts L lv
      ∗ (LaP c 0 fullShare.right (spA4 (V.pa c)) ∗ LmP c 0 fullShare.right (spM4 (V.pm c)))
      ∗ (LaE (F := F) (lf c) 1 ∗ LmE (F := F) (lf c) 1) ∗ (RaE (F := F) (rt c) 2 ∗ RmE (F := F) (rt c) 2) ∗ (LaE (F := F) (lf c) 2 ∗ LmE (F := F) (lf c) 2)
      ∗ (pend (.la 0) c ∗ pend (.lm 0) c) ∗ (pend (.ra 1) c ∗ pend (.rm 1) c) ∗ (pend (.la 1) c ∗ pend (.lm 1) c)
      ∗ (due (.ra 0) c ∗ due (.rm 0) c ∗ due (.la 0) c ∗ due (.lm 0) c) ∗ due (.ra 1) c
      ∗ ow c (.la 0 :: .lm 0 :: .ra 1 :: .la 1 :: .rm 1 :: .lm 1 :: [.ra 2, .la 2, .rm 2, .lm 2, .ra 3, .rm 3, .xa, .xm])
      ∗ (bMl.view.loc (c : Thread nD τ) ↦{fullShare} (s : Buf (Elt F) (bMl.view.loc (c : Thread nD τ)))) ∗ (bAcc.view.loc (c : Thread nD τ) ↦{fullShare} (a : Buf (Elt F) (bAcc.view.loc (c : Thread nD τ)))))
    ⊢ iprop((iprop((bMl.view.loc (c : Thread nD τ) ↦{fullShare} ((comM (comM s (V.pm (lf^[1] c))) (V.pm (rt^[1] c))) : Buf (Elt F) (bMl.view.loc (c : Thread nD τ))))
      ∗ (bAcc.view.loc (c : Thread nD τ) ↦{fullShare} ((comA (comA a s (V.pa (lf^[1] c)) (V.pm (lf^[1] c))) (comM s (V.pm (lf^[1] c))) (V.pa (rt^[1] c)) (V.pm (rt^[1] c))) : Buf (Elt F) (bAcc.view.loc (c : Thread nD τ))))
      ∗ ow c [.ra 2, .la 2, .rm 2, .lm 2, .ra 3, .rm 3, .xa, .xm]
      ∗ (lent (.la 0) c ∗ lent (.lm 0) c ∗ lent (.ra 1) c ∗ lent (.rm 1) c ∗ lent (.la 1) c ∗ lent (.lm 1) c)
      ∗ (shut (.rcv (.ra 0)) c ∗ shut (.rcv (.rm 0)) c ∗ shut (.rcv (.la 0)) c ∗ shut (.rcv (.lm 0)) c ∗ shut (.rcv (.ra 1)) c)
      ∗ (RaP c (Fin.succ 0) fullShare.left (spA5 (V.pa (lf^[(0 : Fin 4).val + 1] c))) ∗ RmP c (Fin.succ 0) fullShare.left (spM5 (V.pm (lf^[(0 : Fin 4).val + 1] c))) ∗ LaP c (Fin.succ 0) fullShare.left (spA4 (V.pa (rt^[(0 : Fin 3).val + 1] c))) ∗ LmP c (Fin.succ 0) fullShare.left (spM4 (V.pm (rt^[(0 : Fin 3).val + 1] c))))
      ∗ (RaP c (Fin.succ 1) fullShare.left (spA5 (V.pa (lf^[(1 : Fin 4).val + 1] c))) ∗ RaP c (Fin.succ 1) fullShare.right (spA5 (V.pa (lf^[(1 : Fin 4).val + 1] c))))) -∗ wp frame (wpE (defs₀ (F := F)) 𝒱₀ (c : Thread nD τ) none) Set.univ k Q)
      -∗ wp frame (wpE (defs₀ (F := F)) 𝒱₀ (c : Thread nD τ) none) Set.univ (do
        k0_part18 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99 v132
        k0_part19 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        k0_part20 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        let ⟨v227, v231, v234, v236⟩ : Σ' (v227 : FVec F S4x128 .f32) (v231 : FVec F S4x128 .f32) (v234 : FVec F S4x128 .f32), FVec F S4x128 .f32 ← k0_part21 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v99
        let v278 : FVec F S128x64 .f32 ← k0_part22 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v227 v231 v234 v236
        let v319 : FVec F S4x128 .f32 ← k0_part23 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v234 v236 v278
        let ⟨v328, v330, v354⟩ : Σ' (v328 : FVec F S4x128 .f32) (v330 : FVec F S4x128 .f32), FVec F S128x64 .f32 ← k0_part24 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v319
        let ⟨v394, v395⟩ : Σ' (v394 : Vec F S128x64 .f32), FVec F S1x128 .f32 ← k0_part25 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v328 v330 v354
        k0_part26 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v82 v330 v394 v395
        k) Q) := by
  iintro ⟨#HR, #Hlev, ⟨HLa0, HLm0⟩, ⟨La1, Lm1⟩, ⟨Ra2, Rm2⟩, ⟨La2, Lm2⟩, ⟨Pla0, Plm0⟩, ⟨Pra1, Prm1⟩, ⟨Pla1, Plm1⟩, ⟨Dra0, Drm0, Dla0, Dlm0⟩, Dra1, HO, Hml, Hacc⟩ Hk
  rw [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part18_skel k0_part19_skel k0_part20_skel k0_part21_skel k0_part22_skel k0_part23_skel k0_part24_skel k0_part25_skel k0_part26_skel
  sl_exec
  iapply (c5 (wp_send_la V K 0 c _ (dev8_eq c) rfl rfl _)) $$ HR [HLa0] [La1] HO Pla0; · iexact HLa0
  · iexact La1
  iintro ⟨Cla0, HO⟩
  sl_exec
  iapply (c5 (wp_send_lm V K 0 c _ (dev9_eq c) rfl rfl _)) $$ HR [HLm0] [Lm1] HO Plm0; · iexact HLm0
  · iexact Lm1
  iintro ⟨Clm0, HO⟩
  sl_exec
  iapply (c4 (wp_wait_rcv V K (.ra 0) c rfl _ (by decide) rfl (amt_mRa 1))) $$ HR Dra0 HO Hlev
  iintro ⟨Hra0, Zra0, HO⟩
  icases (land_ra V 0 c) $$ Hra0 with ⟨HLra0, HRra0⟩
  sl_exec
  iapply (c5 (wp_send_ra V K 1 c _ (dev10_eq c) rfl rfl _)) $$ HR [HRra0] [Ra2] HO Pra1; · iexact HRra0
  · iexact Ra2
  iintro ⟨Cra1, HO⟩
  sl_exec
  iapply (c4 (wp_wait_rcv V K (.la 0) c rfl _ (by decide) rfl (amt_mLa 1))) $$ HR Dla0 HO Hlev
  iintro ⟨Hla0, Zla0, HO⟩
  icases (land_la V 0 c) $$ Hla0 with ⟨HLla0, HRla0⟩
  sl_exec
  iapply (c5 (wp_send_la V K 1 c _ (dev11_eq c) rfl rfl _)) $$ HR [HRla0] [La2] HO Pla1; · iexact HRla0
  · iexact La2
  iintro ⟨Cla1, HO⟩
  sl_exec
  iapply (c4 (wp_wait_rcv V K (.rm 0) c rfl _ (by decide) rfl (amt_mRm 1))) $$ HR Drm0 HO Hlev
  iintro ⟨Hrm0, Zrm0, HO⟩
  icases (land_rm V 0 c) $$ Hrm0 with ⟨HLrm0, HRrm0⟩
  sl_exec
  iapply (c5 (wp_send_rm V K 1 c _ (dev12_eq c) rfl rfl _)) $$ HR [HRrm0] [Rm2] HO Prm1; · iexact HRrm0
  · iexact Rm2
  iintro ⟨Crm1, HO⟩
  sl_exec
  iapply (c4 (wp_wait_rcv V K (.lm 0) c rfl _ (by decide) rfl (amt_mLm 1))) $$ HR Dlm0 HO Hlev
  iintro ⟨Hlm0, Zlm0, HO⟩
  icases (land_lm V 0 c) $$ Hlm0 with ⟨HLlm0, HRlm0⟩
  sl_exec
  iapply (c5 (wp_send_lm V K 1 c _ (dev13_eq c) rfl rfl _)) $$ HR [HRlm0] [Lm2] HO Plm1; · iexact HRlm0
  · iexact Lm2
  iintro ⟨Clm1, HO⟩
  ihave HOra0 := (open_ra c (Fin.succ 0) fullShare.left _) $$ HLra0
  ihave HOrm0 := (open_rm c (Fin.succ 0) fullShare.left _) $$ HLrm0
  sl_exec
  ihave Hml1 : (bMl.view.loc (c : Thread nD τ) ↦{fullShare} ((comM s (V.pm (lf^[1] c))) : Buf (Elt F) (bMl.view.loc (c : Thread nD τ)))) $$ [Hml]
  · rw [← comM_writes s (V.pm (lf^[1] c)) (ld_row 0 _ inb_S2x4x128_S1x4x128_0_0_0) (ld_row 1 _ inb_S2x4x128_S1x4x128_1_0_0) (ld_Rm 1 0 _ inb_S5x2x4x128_S1x1x4x128_1_0_0_0) (ld_Rm 1 1 _ inb_S5x2x4x128_S1x1x4x128_1_1_0_0)]
    iexact Hml
  ihave Hacc1 : (bAcc.view.loc (c : Thread nD τ) ↦{fullShare} ((comA a s (V.pa (lf^[1] c)) (V.pm (lf^[1] c))) : Buf (Elt F) (bAcc.view.loc (c : Thread nD τ)))) $$ [Hacc]
  · rw [← comA_writes a s (V.pm (lf^[1] c)) (V.pa (lf^[1] c)) (keep_of (ld_row 0 _ inb_S2x4x128_S1x4x128_0_0_0) (ld_Rm 1 0 _ inb_S5x2x4x128_S1x1x4x128_1_0_0_0)) (join_of (ld_row 0 _ inb_S2x4x128_S1x4x128_0_0_0) (ld_Rm 1 0 _ inb_S5x2x4x128_S1x1x4x128_1_0_0_0))
      (ld_acc 0 _ inb_S512x64_S128x64_0_0) (ld_acc 1 _ inb_S512x64_S128x64_128_0) (ld_acc 2 _ inb_S512x64_S128x64_256_0) (ld_acc 3 _ inb_S512x64_S128x64_384_0)
      (ld_Ra 1 0 _ inb_S5x512x64_S1x128x64_1_0_0) (ld_Ra 1 1 _ inb_S5x512x64_S1x128x64_1_128_0) (ld_Ra 1 2 _ inb_S5x512x64_S1x128x64_1_256_0) (ld_Ra 1 3 _ inb_S5x512x64_S1x128x64_1_384_0)]
    iexact Hacc
  irename Hml1 => Hml
  irename Hacc1 => Hacc
  ihave HOla0 := (open_la c (Fin.succ 0) fullShare.left _) $$ HLla0
  ihave HOlm0 := (open_lm c (Fin.succ 0) fullShare.left _) $$ HLlm0
  sl_exec
  ihave Hml1 : (bMl.view.loc (c : Thread nD τ) ↦{fullShare} ((comM (comM s (V.pm (lf^[1] c))) (V.pm (rt^[1] c))) : Buf (Elt F) (bMl.view.loc (c : Thread nD τ)))) $$ [Hml]
  · rw [← comM_writes (comM s (V.pm (lf^[1] c))) (V.pm (rt^[1] c)) (ld_row 0 _ inb_S2x4x128_S1x4x128_0_0_0) (ld_row 1 _ inb_S2x4x128_S1x4x128_1_0_0) (ld_Lm 1 0 _ inb_S4x2x4x128_S1x1x4x128_1_0_0_0) (ld_Lm 1 1 _ inb_S4x2x4x128_S1x1x4x128_1_1_0_0)]
    iexact Hml
  ihave Hacc1 : (bAcc.view.loc (c : Thread nD τ) ↦{fullShare} ((comA (comA a s (V.pa (lf^[1] c)) (V.pm (lf^[1] c))) (comM s (V.pm (lf^[1] c))) (V.pa (rt^[1] c)) (V.pm (rt^[1] c))) : Buf (Elt F) (bAcc.view.loc (c : Thread nD τ)))) $$ [Hacc]
  · rw [← comA_writes (comA a s (V.pa (lf^[1] c)) (V.pm (lf^[1] c))) (comM s (V.pm (lf^[1] c))) (V.pm (rt^[1] c)) (V.pa (rt^[1] c)) (keep_of (ld_row 0 _ inb_S2x4x128_S1x4x128_0_0_0) (ld_Lm 1 0 _ inb_S4x2x4x128_S1x1x4x128_1_0_0_0)) (join_of (ld_row 0 _ inb_S2x4x128_S1x4x128_0_0_0) (ld_Lm 1 0 _ inb_S4x2x4x128_S1x1x4x128_1_0_0_0))
      (ld_acc 0 _ inb_S512x64_S128x64_0_0) (ld_acc 1 _ inb_S512x64_S128x64_128_0) (ld_acc 2 _ inb_S512x64_S128x64_256_0) (ld_acc 3 _ inb_S512x64_S128x64_384_0)
      (ld_La 1 0 _ inb_S4x512x64_S1x128x64_1_0_0) (ld_La 1 1 _ inb_S4x512x64_S1x128x64_1_128_0) (ld_La 1 2 _ inb_S4x512x64_S1x128x64_1_256_0) (ld_La 1 3 _ inb_S4x512x64_S1x128x64_1_384_0)]
    iexact Hacc
  irename Hml1 => Hml
  irename Hacc1 => Hacc
  iapply (c4 (wp_wait_rcv V K (.ra 1) c rfl _ (by decide) rfl (amt_mRa 2))) $$ HR Dra1 HO Hlev
  iintro ⟨Hra1, Zra1, HO⟩
  icases (land_ra V 1 c) $$ Hra1 with ⟨HLra1, HRra1⟩

  ihave HLra0 := (fold_ra c (Fin.succ 0) fullShare.left _) $$ HOra0
  ihave HLrm0 := (fold_rm c (Fin.succ 0) fullShare.left _) $$ HOrm0
  ihave HLla0 := (fold_la c (Fin.succ 0) fullShare.left _) $$ HOla0
  ihave HLlm0 := (fold_lm c (Fin.succ 0) fullShare.left _) $$ HOlm0
  iapply Hk
  iframe

end Cert.SparseRing

end
-- ==== Proof.Stage2.lean ====
/- The third hop of both rings. -/
module

public import proofs.«01_k».proof.Proof.Stage1

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

set_option maxHeartbeats 4000000 in
/-- Hop 2 of both rings and the combines of what came two hops. -/
theorem stage2 (c : Dev nD) (v82 v99 : BitVec 32) (s : FVec F S2x4x128 .f32) (a : FVec F S512x64 .f32)
    {α : Type} (k : Prog (TpuEff nD τ sig (Elt F) Λ₀ .tc) α) (Q : α → sProp 𝕄) :
    iprop(records V K ∗ levAts L lv
      ∗ (RaP c (Fin.succ 1) fullShare.left (spA5 (V.pa (lf^[(1 : Fin 4).val + 1] c))) ∗ RaP c (Fin.succ 1) fullShare.right (spA5 (V.pa (lf^[(1 : Fin 4).val + 1] c))))
      ∗ (RaE (F := F) (rt c) 3 ∗ RmE (F := F) (rt c) 3) ∗ (LaE (F := F) (lf c) 3 ∗ LmE (F := F) (lf c) 3) ∗ RaE (F := F) (rt c) 4
      ∗ (pend (.ra 2) c ∗ pend (.rm 2) c) ∗ (pend (.la 2) c ∗ pend (.lm 2) c) ∗ pend (.ra 3) c
      ∗ (due (.rm 1) c ∗ due (.la 1) c ∗ due (.lm 1) c) ∗ due (.ra 2) c
      ∗ ow c [.ra 2, .la 2, .rm 2, .lm 2, .ra 3, .rm 3, .xa, .xm]
      ∗ (bMl.view.loc (c : Thread nD τ) ↦{fullShare} (s : Buf (Elt F) (bMl.view.loc (c : Thread nD τ)))) ∗ (bAcc.view.loc (c : Thread nD τ) ↦{fullShare} (a : Buf (Elt F) (bAcc.view.loc (c : Thread nD τ)))))
    ⊢ iprop((iprop((bMl.view.loc (c : Thread nD τ) ↦{fullShare} ((comM (comM s (V.pm (lf^[2] c))) (V.pm (rt^[2] c))) : Buf (Elt F) (bMl.view.loc (c : Thread nD τ))))
      ∗ (bAcc.view.loc (c : Thread nD τ) ↦{fullShare} ((comA (comA a s (V.pa (lf^[2] c)) (V.pm (lf^[2] c))) (comM s (V.pm (lf^[2] c))) (V.pa (rt^[2] c)) (V.pm (rt^[2] c))) : Buf (Elt F) (bAcc.view.loc (c : Thread nD τ))))
      ∗ ow c [.rm 3, .xa, .xm]
      ∗ (lent (.ra 2) c ∗ lent (.rm 2) c ∗ lent (.la 2) c ∗ lent (.lm 2) c ∗ lent (.ra 3) c)
      ∗ (shut (.rcv (.rm 1)) c ∗ shut (.rcv (.la 1)) c ∗ shut (.rcv (.lm 1)) c ∗ shut (.rcv (.ra 2)) c)
      ∗ (RaP c (Fin.succ 1) fullShare.left (spA5 (V.pa (lf^[(1 : Fin 4).val + 1] c))) ∗ RmP c (Fin.succ 1) fullShare.left (spM5 (V.pm (lf^[(1 : Fin 4).val + 1] c))) ∗ LaP c (Fin.succ 1) fullShare.left (spA4 (V.pa (rt^[(1 : Fin 3).val + 1] c))) ∗ LmP c (Fin.succ 1) fullShare.left (spM4 (V.pm (rt^[(1 : Fin 3).val + 1] c))))
      ∗ RaP c (Fin.succ 2) fullShare.left (spA5 (V.pa (lf^[(2 : Fin 4).val + 1] c)))) -∗ wp frame (wpE (defs₀ (F := F)) 𝒱₀ (c : Thread nD τ) none) Set.univ k Q)
      -∗ wp frame (wpE (defs₀ (F := F)) 𝒱₀ (c : Thread nD τ) none) Set.univ (do
        k0_part27 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        k0_part28 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        let ⟨v494, v496, v506, v509⟩ : Σ' (v494 : FVec F S4x128 .f32) (v496 : FVec F S4x128 .f32) (v506 : Vec F S128x64 .f32), FVec F S128x1 .f32 ← k0_part29 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c
        let ⟨v547, v550⟩ : Σ' (v547 : FVec F S128x64 .f32), FVec F S128x64 .f32 ← k0_part30 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v494 v496 v506 v509
        let ⟨v579, v581, v583, v585⟩ : Σ' (v579 : FVec F S4x128 .f32) (v581 : FVec F S4x128 .f32) (v583 : FVec F S4x128 .f32), FVec F S4x128 .f32 ← k0_part31 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v494 v496 v547 v550
        let ⟨v588, v590, v623, v624⟩ : Σ' (v588 : FVec F S4x128 .f32) (v590 : FVec F S4x128 .f32) (v623 : FVec F S128x64 .f32), Vec F S1x128x64 .bf16 ← k0_part32 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v579 v581 v583 v585
        let v668 : FVec F S128x64 .f32 ← k0_part33 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v588 v590 v623 v624
        k0_part34 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99 v668
        k) Q) := by
  iintro ⟨#HR, #Hlev, ⟨HLra1, HRra1⟩, ⟨Ra3, Rm3⟩, ⟨La3, Lm3⟩, Ra4, ⟨Pra2, Prm2⟩, ⟨Pla2, Plm2⟩, Pra3, ⟨Drm1, Dla1, Dlm1⟩, Dra2, HO, Hml, Hacc⟩ Hk
  rw [k0_part27_eq_skeleton, k0_part28_eq_skeleton, k0_part29_eq_skeleton, k0_part30_eq_skeleton, k0_part31_eq_skeleton, k0_part32_eq_skeleton, k0_part33_eq_skeleton, k0_part34_eq_skeleton]
  unfold k0_part27_skel k0_part28_skel k0_part29_skel k0_part30_skel k0_part31_skel k0_part32_skel k0_part33_skel k0_part34_skel
  sl_exec
  iapply (c5 (wp_send_ra V K 2 c _ (dev14_eq c) rfl rfl _)) $$ HR [HRra1] [Ra3] HO Pra2; · iexact HRra1
  · iexact Ra3
  iintro ⟨Cra2, HO⟩
  sl_exec
  iapply (c4 (wp_wait_rcv V K (.la 1) c rfl _ (by decide) rfl (amt_mLa 2))) $$ HR Dla1 HO Hlev
  iintro ⟨Hla1, Zla1, HO⟩
  icases (land_la V 1 c) $$ Hla1 with ⟨HLla1, HRla1⟩
  sl_exec
  iapply (c5 (wp_send_la V K 2 c _ (dev15_eq c) rfl rfl _)) $$ HR [HRla1] [La3] HO Pla2; · iexact HRla1
  · iexact La3
  iintro ⟨Cla2, HO⟩
  sl_exec
  iapply (c4 (wp_wait_rcv V K (.rm 1) c rfl _ (by decide) rfl (amt_mRm 2))) $$ HR Drm1 HO Hlev
  iintro ⟨Hrm1, Zrm1, HO⟩
  icases (land_rm V 1 c) $$ Hrm1 with ⟨HLrm1, HRrm1⟩
  sl_exec
  iapply (c5 (wp_send_rm V K 2 c _ (dev16_eq c) rfl rfl _)) $$ HR [HRrm1] [Rm3] HO Prm2; · iexact HRrm1
  · iexact Rm3
  iintro ⟨Crm2, HO⟩
  sl_exec
  iapply (c4 (wp_wait_rcv V K (.lm 1) c rfl _ (by decide) rfl (amt_mLm 2))) $$ HR Dlm1 HO Hlev
  iintro ⟨Hlm1, Zlm1, HO⟩
  icases (land_lm V 1 c) $$ Hlm1 with ⟨HLlm1, HRlm1⟩
  sl_exec
  iapply (c5 (wp_send_lm V K 2 c _ (dev17_eq c) rfl rfl _)) $$ HR [HRlm1] [Lm3] HO Plm2; · iexact HRlm1
  · iexact Lm3
  iintro ⟨Clm2, HO⟩
  ihave HOra1 := (open_ra c (Fin.succ 1) fullShare.left _) $$ HLra1
  ihave HOrm1 := (open_rm c (Fin.succ 1) fullShare.left _) $$ HLrm1
  sl_exec
  ihave Hml1 : (bMl.view.loc (c : Thread nD τ) ↦{fullShare} ((comM s (V.pm (lf^[2] c))) : Buf (Elt F) (bMl.view.loc (c : Thread nD τ)))) $$ [Hml]
  · rw [← comM_writes s (V.pm (lf^[2] c)) (ld_row 0 _ inb_S2x4x128_S1x4x128_0_0_0) (ld_row 1 _ inb_S2x4x128_S1x4x128_1_0_0) (ld_Rm 2 0 _ inb_S5x2x4x128_S1x1x4x128_2_0_0_0) (ld_Rm 2 1 _ inb_S5x2x4x128_S1x1x4x128_2_1_0_0)]
    iexact Hml
  ihave Hacc1 : (bAcc.view.loc (c : Thread nD τ) ↦{fullShare} ((comA a s (V.pa (lf^[2] c)) (V.pm (lf^[2] c))) : Buf (Elt F) (bAcc.view.loc (c : Thread nD τ)))) $$ [Hacc]
  · rw [← comA_writes a s (V.pm (lf^[2] c)) (V.pa (lf^[2] c)) (keep_of (ld_row 0 _ inb_S2x4x128_S1x4x128_0_0_0) (ld_Rm 2 0 _ inb_S5x2x4x128_S1x1x4x128_2_0_0_0)) (join_of (ld_row 0 _ inb_S2x4x128_S1x4x128_0_0_0) (ld_Rm 2 0 _ inb_S5x2x4x128_S1x1x4x128_2_0_0_0))
      (ld_acc 0 _ inb_S512x64_S128x64_0_0) (ld_acc 1 _ inb_S512x64_S128x64_128_0) (ld_acc 2 _ inb_S512x64_S128x64_256_0) (ld_acc 3 _ inb_S512x64_S128x64_384_0)
      (ld_Ra 2 0 _ inb_S5x512x64_S1x128x64_2_0_0) (ld_Ra 2 1 _ inb_S5x512x64_S1x128x64_2_128_0) (ld_Ra 2 2 _ inb_S5x512x64_S1x128x64_2_256_0) (ld_Ra 2 3 _ inb_S5x512x64_S1x128x64_2_384_0)]
    iexact Hacc
  irename Hml1 => Hml
  irename Hacc1 => Hacc
  ihave HOla1 := (open_la c (Fin.succ 1) fullShare.left _) $$ HLla1
  ihave HOlm1 := (open_lm c (Fin.succ 1) fullShare.left _) $$ HLlm1
  sl_exec
  ihave Hml1 : (bMl.view.loc (c : Thread nD τ) ↦{fullShare} ((comM (comM s (V.pm (lf^[2] c))) (V.pm (rt^[2] c))) : Buf (Elt F) (bMl.view.loc (c : Thread nD τ)))) $$ [Hml]
  · rw [← comM_writes (comM s (V.pm (lf^[2] c))) (V.pm (rt^[2] c)) (ld_row 0 _ inb_S2x4x128_S1x4x128_0_0_0) (ld_row 1 _ inb_S2x4x128_S1x4x128_1_0_0) (ld_Lm 2 0 _ inb_S4x2x4x128_S1x1x4x128_2_0_0_0) (ld_Lm 2 1 _ inb_S4x2x4x128_S1x1x4x128_2_1_0_0)]
    iexact Hml
  ihave Hacc1 : (bAcc.view.loc (c : Thread nD τ) ↦{fullShare} ((comA (comA a s (V.pa (lf^[2] c)) (V.pm (lf^[2] c))) (comM s (V.pm (lf^[2] c))) (V.pa (rt^[2] c)) (V.pm (rt^[2] c))) : Buf (Elt F) (bAcc.view.loc (c : Thread nD τ)))) $$ [Hacc]
  · rw [← comA_writes (comA a s (V.pa (lf^[2] c)) (V.pm (lf^[2] c))) (comM s (V.pm (lf^[2] c))) (V.pm (rt^[2] c)) (V.pa (rt^[2] c)) (keep_of (ld_row 0 _ inb_S2x4x128_S1x4x128_0_0_0) (ld_Lm 2 0 _ inb_S4x2x4x128_S1x1x4x128_2_0_0_0)) (join_of (ld_row 0 _ inb_S2x4x128_S1x4x128_0_0_0) (ld_Lm 2 0 _ inb_S4x2x4x128_S1x1x4x128_2_0_0_0))
      (ld_acc 0 _ inb_S512x64_S128x64_0_0) (ld_acc 1 _ inb_S512x64_S128x64_128_0) (ld_acc 2 _ inb_S512x64_S128x64_256_0) (ld_acc 3 _ inb_S512x64_S128x64_384_0)
      (ld_La 2 0 _ inb_S4x512x64_S1x128x64_2_0_0) (ld_La 2 1 _ inb_S4x512x64_S1x128x64_2_128_0) (ld_La 2 2 _ inb_S4x512x64_S1x128x64_2_256_0) (ld_La 2 3 _ inb_S4x512x64_S1x128x64_2_384_0)]
    iexact Hacc
  irename Hml1 => Hml
  irename Hacc1 => Hacc
  iapply (c4 (wp_wait_rcv V K (.ra 2) c rfl _ (by decide) rfl (amt_mRa 3))) $$ HR Dra2 HO Hlev
  iintro ⟨Hra2, Zra2, HO⟩
  icases (land_ra V 2 c) $$ Hra2 with ⟨HLra2, HRra2⟩
  sl_exec
  iapply (c5 (wp_send_ra V K 3 c _ (dev18_eq c) rfl rfl _)) $$ HR [HRra2] [Ra4] HO Pra3; · iexact HRra2
  · iexact Ra4
  iintro ⟨Cra3, HO⟩
  ihave HLra1 := (fold_ra c (Fin.succ 1) fullShare.left _) $$ HOra1
  ihave HLrm1 := (fold_rm c (Fin.succ 1) fullShare.left _) $$ HOrm1
  ihave HLla1 := (fold_la c (Fin.succ 1) fullShare.left _) $$ HOla1
  ihave HLlm1 := (fold_lm c (Fin.succ 1) fullShare.left _) $$ HOlm1
  iapply Hk
  iframe

end Cert.SparseRing

end
-- ==== Proof.Stage3.lean ====
/- The last hops of both rings and the waits for what was sent. -/
module

public import proofs.«01_k».proof.Proof.Stage1

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

set_option maxHeartbeats 8000000 in
/-- The last hops, their combines, and the waits for the ring's sends (all but the last). -/
theorem stage3 (c : Dev nD) (v82 v99 : BitVec 32) (s : FVec F S2x4x128 .f32) (a : FVec F S512x64 .f32)
    {α : Type} (k : Prog (TpuEff nD τ sig (Elt F) Λ₀ .tc) α) (Q : α → sProp 𝕄) :
    iprop(records V K ∗ levAts L lv
      ∗ RaP c (Fin.succ 2) fullShare.left (spA5 (V.pa (lf^[(2 : Fin 4).val + 1] c)))
      ∗ RmE (F := F) (rt c) 4 ∗ pend (.rm 3) c
      ∗ (due (.rm 2) c ∗ due (.la 2) c ∗ due (.lm 2) c ∗ due (.ra 3) c ∗ due (.rm 3) c)
      ∗ (lent (.ra 0) c ∗ lent (.rm 0) c ∗ lent (.ra 1) c ∗ lent (.rm 1) c ∗ lent (.ra 2) c ∗ lent (.rm 2) c ∗ lent (.ra 3) c ∗ lent (.la 0) c ∗ lent (.lm 0) c ∗ lent (.la 1) c ∗ lent (.lm 1) c ∗ lent (.la 2) c)
      ∗ ow c [.rm 3, .xa, .xm]
      ∗ (bMl.view.loc (c : Thread nD τ) ↦{fullShare} (s : Buf (Elt F) (bMl.view.loc (c : Thread nD τ)))) ∗ (bAcc.view.loc (c : Thread nD τ) ↦{fullShare} (a : Buf (Elt F) (bAcc.view.loc (c : Thread nD τ)))))
    ⊢ iprop((iprop((bMl.view.loc (c : Thread nD τ) ↦{fullShare} ((comM (comM (comM s (V.pm (lf^[3] c))) (V.pm (rt^[3] c))) (V.pm (lf^[4] c))) : Buf (Elt F) (bMl.view.loc (c : Thread nD τ))))
      ∗ (bAcc.view.loc (c : Thread nD τ) ↦{fullShare} ((comA (comA (comA a s (V.pa (lf^[3] c)) (V.pm (lf^[3] c))) (comM s (V.pm (lf^[3] c))) (V.pa (rt^[3] c)) (V.pm (rt^[3] c))) (comM (comM s (V.pm (lf^[3] c))) (V.pm (rt^[3] c))) (V.pa (lf^[4] c)) (V.pm (lf^[4] c))) : Buf (Elt F) (bAcc.view.loc (c : Thread nD τ))))
      ∗ ow c [.xa, .xm]
      ∗ (shut (.rcv (.rm 2)) c ∗ shut (.rcv (.la 2)) c ∗ shut (.rcv (.lm 2)) c ∗ shut (.rcv (.ra 3)) c ∗ shut (.rcv (.rm 3)) c)
      ∗ (shut (.snd (.ra 0)) c ∗ shut (.snd (.rm 0)) c ∗ shut (.snd (.ra 1)) c ∗ shut (.snd (.rm 1)) c ∗ shut (.snd (.ra 2)) c ∗ shut (.snd (.rm 2)) c ∗ shut (.snd (.ra 3)) c ∗ shut (.snd (.rm 3)) c ∗ shut (.snd (.la 0)) c ∗ shut (.snd (.lm 0)) c ∗ shut (.snd (.la 1)) c ∗ shut (.snd (.lm 1)) c ∗ shut (.snd (.la 2)) c)
      ∗ (RaP c (Fin.succ 2) fullShare.left (spA5 (V.pa (lf^[(2 : Fin 4).val + 1] c))) ∗ RmP c (Fin.succ 2) fullShare.left (spM5 (V.pm (lf^[(2 : Fin 4).val + 1] c))) ∗ LaP c (Fin.succ 2) fullShare.left (spA4 (V.pa (rt^[(2 : Fin 3).val + 1] c))) ∗ LmP c (Fin.succ 2) fullShare.left (spM4 (V.pm (rt^[(2 : Fin 3).val + 1] c))))
      ∗ (LaP c (Fin.succ 2) fullShare.right (spA4 (V.pa (rt^[(2 : Fin 3).val + 1] c))) ∗ LmP c (Fin.succ 2) fullShare.right (spM4 (V.pm (rt^[(2 : Fin 3).val + 1] c))))
      ∗ (RaP c (Fin.succ 3) fullShare.left (spA5 (V.pa (lf^[(3 : Fin 4).val + 1] c))) ∗ RmP c (Fin.succ 3) fullShare.left (spM5 (V.pm (lf^[(3 : Fin 4).val + 1] c))) ∗ RaP c (Fin.succ 3) fullShare.right (spA5 (V.pa (lf^[(3 : Fin 4).val + 1] c))) ∗ RmP c (Fin.succ 3) fullShare.right (spM5 (V.pm (lf^[(3 : Fin 4).val + 1] c))))
      ∗ (sndPay V (.ra 0) c ∗ sndPay V (.rm 0) c ∗ sndPay V (.ra 1) c ∗ sndPay V (.rm 1) c ∗ sndPay V (.ra 2) c ∗ sndPay V (.rm 2) c ∗ sndPay V (.ra 3) c ∗ sndPay V (.rm 3) c ∗ sndPay V (.la 0) c ∗ sndPay V (.lm 0) c ∗ sndPay V (.la 1) c ∗ sndPay V (.lm 1) c ∗ sndPay V (.la 2) c)) -∗ wp frame (wpE (defs₀ (F := F)) 𝒱₀ (c : Thread nD τ) none) Set.univ k Q)
      -∗ wp frame (wpE (defs₀ (F := F)) 𝒱₀ (c : Thread nD τ) none) Set.univ (do
        k0_part35 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        let ⟨v734, v736, v746, v749⟩ : Σ' (v734 : FVec F S4x128 .f32) (v736 : FVec F S4x128 .f32) (v746 : Vec F S128x64 .f32), FVec F S128x1 .f32 ← k0_part36 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)
        let ⟨v787, v790⟩ : Σ' (v787 : FVec F S128x64 .f32), FVec F S128x64 .f32 ← k0_part37 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v734 v736 v746 v749
        let ⟨v819, v821, v823, v825⟩ : Σ' (v819 : FVec F S4x128 .f32) (v821 : FVec F S4x128 .f32) (v823 : FVec F S4x128 .f32), FVec F S4x128 .f32 ← k0_part38 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v734 v736 v787 v790
        let ⟨v828, v830, v863, v864⟩ : Σ' (v828 : FVec F S4x128 .f32) (v830 : FVec F S4x128 .f32) (v863 : FVec F S128x64 .f32), Vec F S1x128x64 .bf16 ← k0_part39 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v819 v821 v823 v825
        let v908 : FVec F S128x64 .f32 ← k0_part40 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v828 v830 v863 v864
        let ⟨v929, v931⟩ : Σ' (v929 : FVec F S4x128 .f32), FVec F S4x128 .f32 ← k0_part41 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v82 v908
        let ⟨v938, v940, v968, v969⟩ : Σ' (v938 : FVec F S4x128 .f32) (v940 : FVec F S4x128 .f32) (v968 : Vec F S128x64 .f32), FVec F S1x128 .f32 ← k0_part42 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v929 v931
        let ⟨v1009, v1010⟩ : Σ' (v1009 : FVec F S128x64 .f32), Vec F S1x128x64 .bf16 ← k0_part43 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v938 v940 v968 v969
        k0_part44 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v940 v1009 v1010
        k0_part45 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)
        k0_part46 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)
        k0_part47 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)
        k) Q) := by
  iintro ⟨#HR, #Hlev, HLra2, Rm4, Prm3, ⟨Drm2, Dla2, Dlm2, Dra3, Drm3⟩, ⟨Cra0, Crm0, Cra1, Crm1, Cra2, Crm2, Cra3, Cla0, Clm0, Cla1, Clm1, Cla2⟩, HO, Hml, Hacc⟩ Hk
  rw [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold k0_part35_skel k0_part36_skel k0_part37_skel k0_part38_skel k0_part39_skel k0_part40_skel k0_part41_skel k0_part42_skel k0_part43_skel k0_part44_skel k0_part45_skel k0_part46_skel k0_part47_skel
  sl_exec
  iapply (c4 (wp_wait_rcv V K (.la 2) c rfl _ (by decide) rfl (amt_mLa 3))) $$ HR Dla2 HO Hlev
  iintro ⟨Hla2, Zla2, HO⟩
  icases (land_la V 2 c) $$ Hla2 with ⟨HLla2, HRla2⟩
  sl_exec
  iapply (c4 (wp_wait_rcv V K (.rm 2) c rfl _ (by decide) rfl (amt_mRm 3))) $$ HR Drm2 HO Hlev
  iintro ⟨Hrm2, Zrm2, HO⟩
  icases (land_rm V 2 c) $$ Hrm2 with ⟨HLrm2, HRrm2⟩
  sl_exec
  iapply (c5 (wp_send_rm V K 3 c _ (dev19_eq c) rfl rfl _)) $$ HR [HRrm2] [Rm4] HO Prm3; · iexact HRrm2
  · iexact Rm4
  iintro ⟨Crm3, HO⟩
  sl_exec
  iapply (c4 (wp_wait_rcv V K (.lm 2) c rfl _ (by decide) rfl (amt_mLm 3))) $$ HR Dlm2 HO Hlev
  iintro ⟨Hlm2, Zlm2, HO⟩
  icases (land_lm V 2 c) $$ Hlm2 with ⟨HLlm2, HRlm2⟩
  ihave HOra2 := (open_ra c (Fin.succ 2) fullShare.left _) $$ HLra2
  ihave HOrm2 := (open_rm c (Fin.succ 2) fullShare.left _) $$ HLrm2
  sl_exec
  ihave Hml1 : (bMl.view.loc (c : Thread nD τ) ↦{fullShare} ((comM s (V.pm (lf^[3] c))) : Buf (Elt F) (bMl.view.loc (c : Thread nD τ)))) $$ [Hml]
  · rw [← comM_writes s (V.pm (lf^[3] c)) (ld_row 0 _ inb_S2x4x128_S1x4x128_0_0_0) (ld_row 1 _ inb_S2x4x128_S1x4x128_1_0_0) (ld_Rm 3 0 _ inb_S5x2x4x128_S1x1x4x128_3_0_0_0) (ld_Rm 3 1 _ inb_S5x2x4x128_S1x1x4x128_3_1_0_0)]
    iexact Hml
  ihave Hacc1 : (bAcc.view.loc (c : Thread nD τ) ↦{fullShare} ((comA a s (V.pa (lf^[3] c)) (V.pm (lf^[3] c))) : Buf (Elt F) (bAcc.view.loc (c : Thread nD τ)))) $$ [Hacc]
  · rw [← comA_writes a s (V.pm (lf^[3] c)) (V.pa (lf^[3] c)) (keep_of (ld_row 0 _ inb_S2x4x128_S1x4x128_0_0_0) (ld_Rm 3 0 _ inb_S5x2x4x128_S1x1x4x128_3_0_0_0)) (join_of (ld_row 0 _ inb_S2x4x128_S1x4x128_0_0_0) (ld_Rm 3 0 _ inb_S5x2x4x128_S1x1x4x128_3_0_0_0))
      (ld_acc 0 _ inb_S512x64_S128x64_0_0) (ld_acc 1 _ inb_S512x64_S128x64_128_0) (ld_acc 2 _ inb_S512x64_S128x64_256_0) (ld_acc 3 _ inb_S512x64_S128x64_384_0)
      (ld_Ra 3 0 _ inb_S5x512x64_S1x128x64_3_0_0) (ld_Ra 3 1 _ inb_S5x512x64_S1x128x64_3_128_0) (ld_Ra 3 2 _ inb_S5x512x64_S1x128x64_3_256_0) (ld_Ra 3 3 _ inb_S5x512x64_S1x128x64_3_384_0)]
    iexact Hacc
  irename Hml1 => Hml
  irename Hacc1 => Hacc
  ihave HOla2 := (open_la c (Fin.succ 2) fullShare.left _) $$ HLla2
  ihave HOlm2 := (open_lm c (Fin.succ 2) fullShare.left _) $$ HLlm2
  sl_exec
  ihave Hml1 : (bMl.view.loc (c : Thread nD τ) ↦{fullShare} ((comM (comM s (V.pm (lf^[3] c))) (V.pm (rt^[3] c))) : Buf (Elt F) (bMl.view.loc (c : Thread nD τ)))) $$ [Hml]
  · rw [← comM_writes (comM s (V.pm (lf^[3] c))) (V.pm (rt^[3] c)) (ld_row 0 _ inb_S2x4x128_S1x4x128_0_0_0) (ld_row 1 _ inb_S2x4x128_S1x4x128_1_0_0) (ld_Lm 3 0 _ inb_S4x2x4x128_S1x1x4x128_3_0_0_0) (ld_Lm 3 1 _ inb_S4x2x4x128_S1x1x4x128_3_1_0_0)]
    iexact Hml
  ihave Hacc1 : (bAcc.view.loc (c : Thread nD τ) ↦{fullShare} ((comA (comA a s (V.pa (lf^[3] c)) (V.pm (lf^[3] c))) (comM s (V.pm (lf^[3] c))) (V.pa (rt^[3] c)) (V.pm (rt^[3] c))) : Buf (Elt F) (bAcc.view.loc (c : Thread nD τ)))) $$ [Hacc]
  · rw [← comA_writes (comA a s (V.pa (lf^[3] c)) (V.pm (lf^[3] c))) (comM s (V.pm (lf^[3] c))) (V.pm (rt^[3] c)) (V.pa (rt^[3] c)) (keep_of (ld_row 0 _ inb_S2x4x128_S1x4x128_0_0_0) (ld_Lm 3 0 _ inb_S4x2x4x128_S1x1x4x128_3_0_0_0)) (join_of (ld_row 0 _ inb_S2x4x128_S1x4x128_0_0_0) (ld_Lm 3 0 _ inb_S4x2x4x128_S1x1x4x128_3_0_0_0))
      (ld_acc 0 _ inb_S512x64_S128x64_0_0) (ld_acc 1 _ inb_S512x64_S128x64_128_0) (ld_acc 2 _ inb_S512x64_S128x64_256_0) (ld_acc 3 _ inb_S512x64_S128x64_384_0)
      (ld_La 3 0 _ inb_S4x512x64_S1x128x64_3_0_0) (ld_La 3 1 _ inb_S4x512x64_S1x128x64_3_128_0) (ld_La 3 2 _ inb_S4x512x64_S1x128x64_3_256_0) (ld_La 3 3 _ inb_S4x512x64_S1x128x64_3_384_0)]
    iexact Hacc
  irename Hml1 => Hml
  irename Hacc1 => Hacc
  iapply (c4 (wp_wait_rcv V K (.ra 3) c rfl _ (by decide) rfl (amt_mRa 4))) $$ HR Dra3 HO Hlev
  iintro ⟨Hra3, Zra3, HO⟩
  icases (land_ra V 3 c) $$ Hra3 with ⟨HLra3, HRra3⟩
  sl_exec
  iapply (c4 (wp_wait_rcv V K (.rm 3) c rfl _ (by decide) rfl (amt_mRm 4))) $$ HR Drm3 HO Hlev
  iintro ⟨Hrm3, Zrm3, HO⟩
  icases (land_rm V 3 c) $$ Hrm3 with ⟨HLrm3, HRrm3⟩
  ihave HLra2 := (fold_ra c (Fin.succ 2) fullShare.left _) $$ HOra2
  ihave HLrm2 := (fold_rm c (Fin.succ 2) fullShare.left _) $$ HOrm2
  ihave HOra3 := (open_ra c (Fin.succ 3) fullShare.left _) $$ HLra3
  ihave HOrm3 := (open_rm c (Fin.succ 3) fullShare.left _) $$ HLrm3
  sl_exec
  ihave Hml1 : (bMl.view.loc (c : Thread nD τ) ↦{fullShare} ((comM (comM (comM s (V.pm (lf^[3] c))) (V.pm (rt^[3] c))) (V.pm (lf^[4] c))) : Buf (Elt F) (bMl.view.loc (c : Thread nD τ)))) $$ [Hml]
  · rw [← comM_writes (comM (comM s (V.pm (lf^[3] c))) (V.pm (rt^[3] c))) (V.pm (lf^[4] c)) (ld_row 0 _ inb_S2x4x128_S1x4x128_0_0_0) (ld_row 1 _ inb_S2x4x128_S1x4x128_1_0_0) (ld_Rm 4 0 _ inb_S5x2x4x128_S1x1x4x128_4_0_0_0) (ld_Rm 4 1 _ inb_S5x2x4x128_S1x1x4x128_4_1_0_0)]
    iexact Hml
  ihave Hacc1 : (bAcc.view.loc (c : Thread nD τ) ↦{fullShare} ((comA (comA (comA a s (V.pa (lf^[3] c)) (V.pm (lf^[3] c))) (comM s (V.pm (lf^[3] c))) (V.pa (rt^[3] c)) (V.pm (rt^[3] c))) (comM (comM s (V.pm (lf^[3] c))) (V.pm (rt^[3] c))) (V.pa (lf^[4] c)) (V.pm (lf^[4] c))) : Buf (Elt F) (bAcc.view.loc (c : Thread nD τ)))) $$ [Hacc]
  · rw [← comA_writes (comA (comA a s (V.pa (lf^[3] c)) (V.pm (lf^[3] c))) (comM s (V.pm (lf^[3] c))) (V.pa (rt^[3] c)) (V.pm (rt^[3] c))) (comM (comM s (V.pm (lf^[3] c))) (V.pm (rt^[3] c))) (V.pm (lf^[4] c)) (V.pa (lf^[4] c)) (keep_of (ld_row 0 _ inb_S2x4x128_S1x4x128_0_0_0) (ld_Rm 4 0 _ inb_S5x2x4x128_S1x1x4x128_4_0_0_0)) (join_of (ld_row 0 _ inb_S2x4x128_S1x4x128_0_0_0) (ld_Rm 4 0 _ inb_S5x2x4x128_S1x1x4x128_4_0_0_0))
      (ld_acc 0 _ inb_S512x64_S128x64_0_0) (ld_acc 1 _ inb_S512x64_S128x64_128_0) (ld_acc 2 _ inb_S512x64_S128x64_256_0) (ld_acc 3 _ inb_S512x64_S128x64_384_0)
      (ld_Ra 4 0 _ inb_S5x512x64_S1x128x64_4_0_0) (ld_Ra 4 1 _ inb_S5x512x64_S1x128x64_4_128_0) (ld_Ra 4 2 _ inb_S5x512x64_S1x128x64_4_256_0) (ld_Ra 4 3 _ inb_S5x512x64_S1x128x64_4_384_0)]
    iexact Hacc
  irename Hml1 => Hml
  irename Hacc1 => Hacc
  iapply (c4 (wp_wait_snd V K (.ra 0) c rfl _ (by decide) rfl (amt_mRa 0))) $$ HR Cra0 HO Hlev
  iintro ⟨HBra0, Yra0, HO⟩
  sl_exec
  iapply (c4 (wp_wait_snd V K (.rm 0) c rfl _ (by decide) rfl (amt_mRm 0))) $$ HR Crm0 HO Hlev
  iintro ⟨HBrm0, Yrm0, HO⟩
  sl_exec
  iapply (c4 (wp_wait_snd V K (.ra 1) c rfl _ (by decide) rfl (amt_mRa 1))) $$ HR Cra1 HO Hlev
  iintro ⟨HBra1, Yra1, HO⟩
  sl_exec
  iapply (c4 (wp_wait_snd V K (.rm 1) c rfl _ (by decide) rfl (amt_mRm 1))) $$ HR Crm1 HO Hlev
  iintro ⟨HBrm1, Yrm1, HO⟩
  sl_exec
  iapply (c4 (wp_wait_snd V K (.ra 2) c rfl _ (by decide) rfl (amt_mRa 2))) $$ HR Cra2 HO Hlev
  iintro ⟨HBra2, Yra2, HO⟩
  sl_exec
  iapply (c4 (wp_wait_snd V K (.rm 2) c rfl _ (by decide) rfl (amt_mRm 2))) $$ HR Crm2 HO Hlev
  iintro ⟨HBrm2, Yrm2, HO⟩
  sl_exec
  iapply (c4 (wp_wait_snd V K (.ra 3) c rfl _ (by decide) rfl (amt_mRa 3))) $$ HR Cra3 HO Hlev
  iintro ⟨HBra3, Yra3, HO⟩
  sl_exec
  iapply (c4 (wp_wait_snd V K (.rm 3) c rfl _ (by decide) rfl (amt_mRm 3))) $$ HR Crm3 HO Hlev
  iintro ⟨HBrm3, Yrm3, HO⟩
  sl_exec
  iapply (c4 (wp_wait_snd V K (.la 0) c rfl _ (by decide) rfl (amt_mLa 0))) $$ HR Cla0 HO Hlev
  iintro ⟨HBla0, Yla0, HO⟩
  sl_exec
  iapply (c4 (wp_wait_snd V K (.lm 0) c rfl _ (by decide) rfl (amt_mLm 0))) $$ HR Clm0 HO Hlev
  iintro ⟨HBlm0, Ylm0, HO⟩
  sl_exec
  iapply (c4 (wp_wait_snd V K (.la 1) c rfl _ (by decide) rfl (amt_mLa 1))) $$ HR Cla1 HO Hlev
  iintro ⟨HBla1, Yla1, HO⟩
  sl_exec
  iapply (c4 (wp_wait_snd V K (.lm 1) c rfl _ (by decide) rfl (amt_mLm 1))) $$ HR Clm1 HO Hlev
  iintro ⟨HBlm1, Ylm1, HO⟩
  sl_exec
  iapply (c4 (wp_wait_snd V K (.la 2) c rfl _ (by decide) rfl (amt_mLa 2))) $$ HR Cla2 HO Hlev
  iintro ⟨HBla2, Yla2, HO⟩
  ihave HLla2 := (fold_la c (Fin.succ 2) fullShare.left _) $$ HOla2
  ihave HLlm2 := (fold_lm c (Fin.succ 2) fullShare.left _) $$ HOlm2
  ihave HLra3 := (fold_ra c (Fin.succ 3) fullShare.left _) $$ HOra3
  ihave HLrm3 := (fold_rm c (Fin.succ 3) fullShare.left _) $$ HOrm3
  iapply Hk
  iframe

end Cert.SparseRing

end
-- ==== Proof.Middle.lean ====
/- The three stages of the rings joined, and the slots got back whole. -/
module

public import proofs.«01_k».proof.Proof.Stage2
public import proofs.«01_k».proof.Proof.Stage3

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

/-- The maxima and sums which the ring leaves on a device that starts with `s`. -/
def finM (c : Dev nD) (s : FVec F S2x4x128 .f32) : FVec F S2x4x128 .f32 :=
  (comM (comM (comM (comM (comM (comM (comM s (V.pm (lf^[1] c))) (V.pm (rt^[1] c))) (V.pm (lf^[2] c))) (V.pm (rt^[2] c))) (V.pm (lf^[3] c))) (V.pm (rt^[3] c))) (V.pm (lf^[4] c)))
/-- The numerators which it leaves. -/
def finA (c : Dev nD) (s : FVec F S2x4x128 .f32) (a : FVec F S512x64 .f32) : FVec F S512x64 .f32 :=
  (comA (comA (comA (comA (comA (comA (comA a s (V.pa (lf^[1] c)) (V.pm (lf^[1] c))) (comM s (V.pm (lf^[1] c))) (V.pa (rt^[1] c)) (V.pm (rt^[1] c))) (comM (comM s (V.pm (lf^[1] c))) (V.pm (rt^[1] c))) (V.pa (lf^[2] c)) (V.pm (lf^[2] c))) (comM (comM (comM s (V.pm (lf^[1] c))) (V.pm (rt^[1] c))) (V.pm (lf^[2] c))) (V.pa (rt^[2] c)) (V.pm (rt^[2] c))) (comM (comM (comM (comM s (V.pm (lf^[1] c))) (V.pm (rt^[1] c))) (V.pm (lf^[2] c))) (V.pm (rt^[2] c))) (V.pa (lf^[3] c)) (V.pm (lf^[3] c))) (comM (comM (comM (comM (comM s (V.pm (lf^[1] c))) (V.pm (rt^[1] c))) (V.pm (lf^[2] c))) (V.pm (rt^[2] c))) (V.pm (lf^[3] c))) (V.pa (rt^[3] c)) (V.pm (rt^[3] c))) (comM (comM (comM (comM (comM (comM s (V.pm (lf^[1] c))) (V.pm (rt^[1] c))) (V.pm (lf^[2] c))) (V.pm (rt^[2] c))) (V.pm (lf^[3] c))) (V.pm (rt^[3] c))) (V.pa (lf^[4] c)) (V.pm (lf^[4] c)))

section Back
omit [FloatOps F]
theorem back_ra (h : Fin 4) (c : Dev nD) (j : Fin 5) (f) (hj : j = h.castSucc) (hf : f = spA5 (V.pa (lf^[h.val] c))) :
    iprop(RaP c j fullShare.left f ∗ sndPay V (.ra h) c) ⊢ RaE (F := F) c j := by
  subst hj hf; dsimp only [sndPay]; unfold RaE RaP; iintro H; iexists _; iapply (pointsTo_share (PosShare.mem_left_op_right _)).2; iexact H
theorem join_ra (c : Dev nD) (j : Fin 5) (f) : iprop(RaP (F := F) c j fullShare.left f ∗ RaP c j fullShare.right f) ⊢ RaE (F := F) c j := by
  unfold RaE RaP; iintro H; iexists _; iapply (pointsTo_share (PosShare.mem_left_op_right _)).2; iexact H
theorem back_rm (h : Fin 4) (c : Dev nD) (j : Fin 5) (f) (hj : j = h.castSucc) (hf : f = spM5 (V.pm (lf^[h.val] c))) :
    iprop(RmP c j fullShare.left f ∗ sndPay V (.rm h) c) ⊢ RmE (F := F) c j := by
  subst hj hf; dsimp only [sndPay]; unfold RmE RmP; iintro H; iexists _; iapply (pointsTo_share (PosShare.mem_left_op_right _)).2; iexact H
theorem join_rm (c : Dev nD) (j : Fin 5) (f) : iprop(RmP (F := F) c j fullShare.left f ∗ RmP c j fullShare.right f) ⊢ RmE (F := F) c j := by
  unfold RmE RmP; iintro H; iexists _; iapply (pointsTo_share (PosShare.mem_left_op_right _)).2; iexact H
theorem back_la (h : Fin 3) (c : Dev nD) (j : Fin 4) (f) (hj : j = h.castSucc) (hf : f = spA4 (V.pa (rt^[h.val] c))) :
    iprop(LaP c j fullShare.left f ∗ sndPay V (.la h) c) ⊢ LaE (F := F) c j := by
  subst hj hf; dsimp only [sndPay]; unfold LaE LaP; iintro H; iexists _; iapply (pointsTo_share (PosShare.mem_left_op_right _)).2; iexact H
theorem join_la (c : Dev nD) (j : Fin 4) (f) : iprop(LaP (F := F) c j fullShare.left f ∗ LaP c j fullShare.right f) ⊢ LaE (F := F) c j := by
  unfold LaE LaP; iintro H; iexists _; iapply (pointsTo_share (PosShare.mem_left_op_right _)).2; iexact H
theorem back_lm (h : Fin 3) (c : Dev nD) (j : Fin 4) (f) (hj : j = h.castSucc) (hf : f = spM4 (V.pm (rt^[h.val] c))) :
    iprop(LmP c j fullShare.left f ∗ sndPay V (.lm h) c) ⊢ LmE (F := F) c j := by
  subst hj hf; dsimp only [sndPay]; unfold LmE LmP; iintro H; iexists _; iapply (pointsTo_share (PosShare.mem_left_op_right _)).2; iexact H
theorem join_lm (c : Dev nD) (j : Fin 4) (f) : iprop(LmP (F := F) c j fullShare.left f ∗ LmP c j fullShare.right f) ⊢ LmE (F := F) c j := by
  unfold LmE LmP; iintro H; iexists _; iapply (pointsTo_share (PosShare.mem_left_op_right _)).2; iexact H
end Back

set_option maxHeartbeats 4000000 in
/-- The rings: all hops and combines. Every slot comes back but the one whose send is waited for later. -/
theorem mid (c : Dev nD) (v82 v99 v132 : BitVec 32) (s : FVec F S2x4x128 .f32) (a : FVec F S512x64 .f32)
    {α : Type} (k : Prog (TpuEff nD τ sig (Elt F) Λ₀ .tc) α) (Q : α → sProp 𝕄) :
    iprop(records V K ∗ levAts L lv
      ∗ ((RaE (F := F) (rt c) 2 ∗ RaE (F := F) (rt c) 3 ∗ RaE (F := F) (rt c) 4) ∗ (RmE (F := F) (rt c) 2 ∗ RmE (F := F) (rt c) 3 ∗ RmE (F := F) (rt c) 4))
      ∗ ((LaE (F := F) (lf c) 1 ∗ LaE (F := F) (lf c) 2 ∗ LaE (F := F) (lf c) 3) ∗ (LmE (F := F) (lf c) 1 ∗ LmE (F := F) (lf c) 2 ∗ LmE (F := F) (lf c) 3))
      ∗ ow c [.la 0, .lm 0, .ra 1, .la 1, .rm 1, .lm 1, .ra 2, .la 2, .rm 2, .lm 2, .ra 3, .rm 3, .xa, .xm] ∗ (lent (.ra 0) c ∗ lent (.rm 0) c)
      ∗ (RaP c 0 fullShare.left (spA5 (V.pa c)) ∗ RmP c 0 fullShare.left (spM5 (V.pm c)) ∗ LaP c 0 fullShare.left (spA4 (V.pa c)) ∗ LmP c 0 fullShare.left (spM4 (V.pm c)))
      ∗ (LaP c 0 fullShare.right (spA4 (V.pa c)) ∗ LmP c 0 fullShare.right (spM4 (V.pm c)))
      ∗ (pend (.la 0) c ∗ pend (.lm 0) c ∗ pend (.ra 1) c ∗ pend (.rm 1) c ∗ pend (.la 1) c ∗ pend (.lm 1) c ∗ pend (.ra 2) c ∗ pend (.rm 2) c ∗ pend (.la 2) c ∗ pend (.lm 2) c ∗ pend (.ra 3) c ∗ pend (.rm 3) c)
      ∗ (due (.ra 0) c ∗ due (.ra 1) c ∗ due (.ra 2) c ∗ due (.ra 3) c ∗ due (.rm 0) c ∗ due (.rm 1) c ∗ due (.rm 2) c ∗ due (.rm 3) c ∗ due (.la 0) c ∗ due (.la 1) c ∗ due (.la 2) c ∗ due (.lm 0) c ∗ due (.lm 1) c ∗ due (.lm 2) c)
      ∗ (bMl.view.loc (c : Thread nD τ) ↦{fullShare} (s : Buf (Elt F) (bMl.view.loc (c : Thread nD τ)))) ∗ (bAcc.view.loc (c : Thread nD τ) ↦{fullShare} (a : Buf (Elt F) (bAcc.view.loc (c : Thread nD τ)))))
    ⊢ iprop((iprop((bMl.view.loc (c : Thread nD τ) ↦{fullShare} (finM V c s : Buf (Elt F) (bMl.view.loc (c : Thread nD τ)))) ∗ (bAcc.view.loc (c : Thread nD τ) ↦{fullShare} (finA V c s a : Buf (Elt F) (bAcc.view.loc (c : Thread nD τ))))
      ∗ ow c [.xa, .xm] ∗ lent (.lm 2) c ∗ LmP c (Fin.succ 1) fullShare.left (spM4 (V.pm (rt^[(1 : Fin 3).val + 1] c)))
      ∗ (shut (.rcv (.ra 0)) c ∗ shut (.rcv (.ra 1)) c ∗ shut (.rcv (.ra 2)) c ∗ shut (.rcv (.ra 3)) c ∗ shut (.rcv (.rm 0)) c ∗ shut (.rcv (.rm 1)) c ∗ shut (.rcv (.rm 2)) c ∗ shut (.rcv (.rm 3)) c ∗ shut (.rcv (.la 0)) c ∗ shut (.rcv (.la 1)) c ∗ shut (.rcv (.la 2)) c ∗ shut (.rcv (.lm 0)) c ∗ shut (.rcv (.lm 1)) c ∗ shut (.rcv (.lm 2)) c)
      ∗ (shut (.snd (.ra 0)) c ∗ shut (.snd (.rm 0)) c ∗ shut (.snd (.ra 1)) c ∗ shut (.snd (.rm 1)) c ∗ shut (.snd (.ra 2)) c ∗ shut (.snd (.rm 2)) c ∗ shut (.snd (.ra 3)) c ∗ shut (.snd (.rm 3)) c ∗ shut (.snd (.la 0)) c ∗ shut (.snd (.lm 0)) c ∗ shut (.snd (.la 1)) c ∗ shut (.snd (.lm 1)) c ∗ shut (.snd (.la 2)) c)
      ∗ (RaE (F := F) c 0 ∗ RaE (F := F) c 1 ∗ RaE (F := F) c 2 ∗ RaE (F := F) c 3 ∗ RaE (F := F) c 4 ∗ RmE (F := F) c 0 ∗ RmE (F := F) c 1 ∗ RmE (F := F) c 2 ∗ RmE (F := F) c 3 ∗ RmE (F := F) c 4 ∗ LaE (F := F) c 0 ∗ LaE (F := F) c 1 ∗ LaE (F := F) c 2 ∗ LaE (F := F) c 3 ∗ LmE (F := F) c 0 ∗ LmE (F := F) c 1 ∗ LmE (F := F) c 3)) -∗ wp frame (wpE (defs₀ (F := F)) 𝒱₀ (c : Thread nD τ) none) Set.univ k Q)
      -∗ wp frame (wpE (defs₀ (F := F)) 𝒱₀ (c : Thread nD τ) none) Set.univ (do
        k0_part18 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99 v132
        k0_part19 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        k0_part20 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        let ⟨v227, v231, v234, v236⟩ : Σ' (v227 : FVec F S4x128 .f32) (v231 : FVec F S4x128 .f32) (v234 : FVec F S4x128 .f32), FVec F S4x128 .f32 ← k0_part21 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v99
        let v278 : FVec F S128x64 .f32 ← k0_part22 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v227 v231 v234 v236
        let v319 : FVec F S4x128 .f32 ← k0_part23 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v234 v236 v278
        let ⟨v328, v330, v354⟩ : Σ' (v328 : FVec F S4x128 .f32) (v330 : FVec F S4x128 .f32), FVec F S128x64 .f32 ← k0_part24 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v319
        let ⟨v394, v395⟩ : Σ' (v394 : Vec F S128x64 .f32), FVec F S1x128 .f32 ← k0_part25 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v328 v330 v354
        k0_part26 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v82 v330 v394 v395
        k0_part27 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        k0_part28 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        let ⟨v494, v496, v506, v509⟩ : Σ' (v494 : FVec F S4x128 .f32) (v496 : FVec F S4x128 .f32) (v506 : Vec F S128x64 .f32), FVec F S128x1 .f32 ← k0_part29 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c
        let ⟨v547, v550⟩ : Σ' (v547 : FVec F S128x64 .f32), FVec F S128x64 .f32 ← k0_part30 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v494 v496 v506 v509
        let ⟨v579, v581, v583, v585⟩ : Σ' (v579 : FVec F S4x128 .f32) (v581 : FVec F S4x128 .f32) (v583 : FVec F S4x128 .f32), FVec F S4x128 .f32 ← k0_part31 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v494 v496 v547 v550
        let ⟨v588, v590, v623, v624⟩ : Σ' (v588 : FVec F S4x128 .f32) (v590 : FVec F S4x128 .f32) (v623 : FVec F S128x64 .f32), Vec F S1x128x64 .bf16 ← k0_part32 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v579 v581 v583 v585
        let v668 : FVec F S128x64 .f32 ← k0_part33 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v588 v590 v623 v624
        k0_part34 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99 v668
        k0_part35 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c v82 v99
        let ⟨v734, v736, v746, v749⟩ : Σ' (v734 : FVec F S4x128 .f32) (v736 : FVec F S4x128 .f32) (v746 : Vec F S128x64 .f32), FVec F S128x1 .f32 ← k0_part36 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)
        let ⟨v787, v790⟩ : Σ' (v787 : FVec F S128x64 .f32), FVec F S128x64 .f32 ← k0_part37 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v734 v736 v746 v749
        let ⟨v819, v821, v823, v825⟩ : Σ' (v819 : FVec F S4x128 .f32) (v821 : FVec F S4x128 .f32) (v823 : FVec F S4x128 .f32), FVec F S4x128 .f32 ← k0_part38 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v734 v736 v787 v790
        let ⟨v828, v830, v863, v864⟩ : Σ' (v828 : FVec F S4x128 .f32) (v830 : FVec F S4x128 .f32) (v863 : FVec F S128x64 .f32), Vec F S1x128x64 .bf16 ← k0_part39 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v819 v821 v823 v825
        let v908 : FVec F S128x64 .f32 ← k0_part40 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v828 v830 v863 v864
        let ⟨v929, v931⟩ : Σ' (v929 : FVec F S4x128 .f32), FVec F S4x128 .f32 ← k0_part41 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v82 v908
        let ⟨v938, v940, v968, v969⟩ : Σ' (v938 : FVec F S4x128 .f32) (v940 : FVec F S4x128 .f32) (v968 : Vec F S128x64 .f32), FVec F S1x128 .f32 ← k0_part42 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v929 v931
        let ⟨v1009, v1010⟩ : Σ' (v1009 : FVec F S128x64 .f32), Vec F S1x128x64 .bf16 ← k0_part43 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v938 v940 v968 v969
        k0_part44 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v940 v1009 v1010
        k0_part45 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)
        k0_part46 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)
        k0_part47 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)
        k) Q) := by
  iintro ⟨#HR, #Hlev, ⟨⟨DRa2, DRa3, DRa4⟩, ⟨DRm2, DRm3, DRm4⟩⟩, ⟨⟨DLa1, DLa2, DLa3⟩, ⟨DLm1, DLm2, DLm3⟩⟩, HO, ⟨Cra0, Crm0⟩, ⟨HLra0, HLrm0, HLla0, HLlm0⟩, ⟨HRla0, HRlm0⟩, ⟨Pla0, Plm0, Pra1, Prm1, Pla1, Plm1, Pra2, Prm2, Pla2, Plm2, Pra3, Prm3⟩, ⟨Dra0, Dra1, Dra2, Dra3, Drm0, Drm1, Drm2, Drm3, Dla0, Dla1, Dla2, Dlm0, Dlm1, Dlm2⟩, Hml, Hacc⟩ Hk
  iapply (stage1 V K c v82 v99 v132 s a _ Q) $$ [HRla0 HRlm0 DLa1 DLm1 DRa2 DRm2 DLa2 DLm2 Pla0 Plm0 Pra1 Prm1 Pla1 Plm1 Dra0 Drm0 Dla0 Dlm0 Dra1 HO Hml Hacc]
  · iframe HR Hlev HRla0 HRlm0 DLa1 DLm1 DRa2 DRm2 DLa2 DLm2 Pla0 Plm0 Pra1 Prm1 Pla1 Plm1 Dra0 Drm0 Dla0 Dlm0 Dra1 HO Hml Hacc
  iintro ⟨Hml, Hacc, HO, ⟨Cla0, Clm0, Cra1, Crm1, Cla1, Clm1⟩, ⟨Zra0, Zrm0, Zla0, Zlm0, Zra1⟩, ⟨HLra1, HLrm1, HLla1, HLlm1⟩, ⟨HLra2, HRra2⟩⟩
  iapply (stage2 V K c v82 v99 _ _ _ Q) $$ [HLra2 HRra2 DRa3 DRm3 DLa3 DLm3 DRa4 Pra2 Prm2 Pla2 Plm2 Pra3 Drm1 Dla1 Dlm1 Dra2 HO Hml Hacc]
  · iframe HR Hlev HLra2 HRra2 DRa3 DRm3 DLa3 DLm3 DRa4 Pra2 Prm2 Pla2 Plm2 Pra3 Drm1 Dla1 Dlm1 Dra2 HO Hml Hacc
  iintro ⟨Hml, Hacc, HO, ⟨Cra2, Crm2, Cla2, Clm2, Cra3⟩, ⟨Zrm1, Zla1, Zlm1, Zra2⟩, ⟨HLra2, HLrm2, HLla2, HLlm2⟩, HLra3⟩
  iapply (stage3 V K c v82 v99 _ _ _ Q) $$ [HLra3 DRm4 Prm3 Drm2 Dla2 Dlm2 Dra3 Drm3 Cra0 Crm0 Cra1 Crm1 Cra2 Crm2 Cra3 Cla0 Clm0 Cla1 Clm1 Cla2 HO Hml Hacc]
  · iframe HR Hlev HLra3 DRm4 Prm3 Drm2 Dla2 Dlm2 Dra3 Drm3 Cra0 Crm0 Cra1 Crm1 Cra2 Crm2 Cra3 Cla0 Clm0 Cla1 Clm1 Cla2 HO Hml Hacc
  iintro ⟨Hml, Hacc, HO, ⟨Zrm2, Zla2, Zlm2, Zra3, Zrm3⟩, ⟨Yra0, Yrm0, Yra1, Yrm1, Yra2, Yrm2, Yra3, Yrm3, Yla0, Ylm0, Yla1, Ylm1, Yla2⟩, ⟨HLra3, HLrm3, HLla3, HLlm3⟩, ⟨HRla3, HRlm3⟩, ⟨HLra4, HLrm4, HRra4, HRrm4⟩, ⟨Bra0, Brm0, Bra1, Brm1, Bra2, Brm2, Bra3, Brm3, Bla0, Blm0, Bla1, Blm1, Bla2⟩⟩
  ihave Era0 := (back_ra V 0 c 0 _ rfl rfl) $$ [HLra0 Bra0]
  · isplitl [HLra0]
    · iexact HLra0
    iexact Bra0
  ihave Erm0 := (back_rm V 0 c 0 _ rfl rfl) $$ [HLrm0 Brm0]
  · isplitl [HLrm0]
    · iexact HLrm0
    iexact Brm0
  ihave Ela0 := (back_la V 0 c 0 _ rfl rfl) $$ [HLla0 Bla0]
  · isplitl [HLla0]
    · iexact HLla0
    iexact Bla0
  ihave Elm0 := (back_lm V 0 c 0 _ rfl rfl) $$ [HLlm0 Blm0]
  · isplitl [HLlm0]
    · iexact HLlm0
    iexact Blm0
  ihave Era1 := (back_ra V 1 c 1 _ rfl rfl) $$ [HLra1 Bra1]
  · isplitl [HLra1]
    · iexact HLra1
    iexact Bra1
  ihave Erm1 := (back_rm V 1 c 1 _ rfl rfl) $$ [HLrm1 Brm1]
  · isplitl [HLrm1]
    · iexact HLrm1
    iexact Brm1
  ihave Ela1 := (back_la V 1 c 1 _ rfl rfl) $$ [HLla1 Bla1]
  · isplitl [HLla1]
    · iexact HLla1
    iexact Bla1
  ihave Elm1 := (back_lm V 1 c 1 _ rfl rfl) $$ [HLlm1 Blm1]
  · isplitl [HLlm1]
    · iexact HLlm1
    iexact Blm1
  ihave Era2 := (back_ra V 2 c 2 _ rfl rfl) $$ [HLra2 Bra2]
  · isplitl [HLra2]
    · iexact HLra2
    iexact Bra2
  ihave Erm2 := (back_rm V 2 c 2 _ rfl rfl) $$ [HLrm2 Brm2]
  · isplitl [HLrm2]
    · iexact HLrm2
    iexact Brm2
  ihave Ela2 := (back_la V 2 c 2 _ rfl rfl) $$ [HLla2 Bla2]
  · isplitl [HLla2]
    · iexact HLla2
    iexact Bla2
  ihave Era3 := (back_ra V 3 c 3 _ rfl rfl) $$ [HLra3 Bra3]
  · isplitl [HLra3]
    · iexact HLra3
    iexact Bra3
  ihave Erm3 := (back_rm V 3 c 3 _ rfl rfl) $$ [HLrm3 Brm3]
  · isplitl [HLrm3]
    · iexact HLrm3
    iexact Brm3
  ihave Ela3 := (join_la c 3 _) $$ [HLla3 HRla3]
  · isplitl [HLla3]
    · iexact HLla3
    iexact HRla3
  ihave Elm3 := (join_lm c 3 _) $$ [HLlm3 HRlm3]
  · isplitl [HLlm3]
    · iexact HLlm3
    iexact HRlm3
  ihave Era4 := (join_ra c 4 _) $$ [HLra4 HRra4]
  · isplitl [HLra4]
    · iexact HLra4
    iexact HRra4
  ihave Erm4 := (join_rm c 4 _) $$ [HLrm4 HRrm4]
  · isplitl [HLrm4]
    · iexact HLrm4
    iexact HRrm4
  unfold finM finA
  iapply Hk
  iframe

end Cert.SparseRing

end
-- ==== Proof.Stage4.lean ====
/- The exchange between the two devices of a pair, and the result. -/
module

public import proofs.«01_k».proof.Proof.Stage1

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

/-- One head's numerator over its denominator, times the output weights, from what is loaded. -/
def ldA {φ : FTy} (h : Fin 4) (a : FVec F S512x64 φ) : FVec F S128x64 φ := blkOf h a
def ldL (h : Fin 4) (s : FVec F S2x4x128 .f32) : FVec F S1x1x128 .f32 := fun j => s (ix3 1 h (j 2))
def ldW (h : Fin 4) (w : FVec F S256x512 .f32) : FVec F S64x512 .f32 := fun j => w (ix2 ⟨64 * h.val + (j 0).val, by have := h.isLt; have h2 : (j 0).val < 64 := (j 0).isLt; omega⟩ (j 1))
/-- The device's own half of the result. -/
def ownHalf (a : FVec F S512x64 .f32) (s : FVec F S2x4x128 .f32) (w : FVec F S256x512 .f32) : FVec F S128x512 .f32 :=
  k0_pay209 (k0_pay208 (ldA 0 a) (ldL 0 s) (ldW 0 w)) (ldA 1 a) (ldL 1 s) (ldW 1 w) (ldA 2 a) (ldL 2 s) (ldW 2 w) (ldA 3 a) (ldL 3 s) (ldW 3 w)
/-- The partner's half, up to the last product. -/
def othPart (x : FVec F S512x64 .bf16) (t : FVec F S2x4x128 .f32) (w : FVec F S256x512 .f32) : FVec F S128x512 .f32 :=
  k0_pay214 (k0_pay212 (ldA 0 x) (ldL 0 t) (ldW 0 w) (ldA 1 x) (ldL 1 t) (ldW 1 w)) (k0_pay213 (ldA 2 x)) (ldL 2 t) (ldW 2 w)
def othLast (x : FVec F S512x64 .bf16) (t : FVec F S2x4x128 .f32) : FVec F S128x64 .f32 := k0_pay215 (ldA 3 x) (ldL 3 t)
/-- The partner's half of the result. -/
def othHalf (x : FVec F S512x64 .bf16) (t : FVec F S2x4x128 .f32) (w : FVec F S256x512 .f32) : FVec F S128x512 .f32 :=
  k0_pay1 (othPart x t w) (othLast x t) (ldW 3 w)
/-- Two halves as one result. -/
def halves (a b : FVec F S128x512 .f32) : FVec F S2x128x512 .f32 := fun i =>
  if (i 0).val = 0 then a (ix2 (i 1) (i 2)) else b (ix2 (i 1) (i 2))

section Reads
omit [FloatOps F]
theorem ld_bAcc (h : Fin 4) (a : FVec F S512x64 .f32) (hi : ∀ x, (![128 * h.val, 0] : Fin 2 → ℕ) x + S128x64.size x ≤ S512x64.size x) :
    View.readAt (Elt F) bAcc.view (Rect.unit (s := S512x64) ![128 * h.val, 0] S128x64.size hi).toLoadRect a = ldA h a := ld_acc h a hi
theorem ld_bXa (h : Fin 4) (a : FVec F S512x64 .bf16) (hi : ∀ x, (![128 * h.val, 0] : Fin 2 → ℕ) x + S128x64.size x ≤ S512x64.size x) :
    View.readAt (Elt F) bXa.view (Rect.unit (s := S512x64) ![128 * h.val, 0] S128x64.size hi).toLoadRect a = ldA h a := by
  funext y; idx_vars y
  refine congrArg a (place_ext fun a => ?_)
  fin_cases a; exacts [off_at (128 * h.val) y0.val, unit_at y1.val]
theorem ld_bMl (h : Fin 4) (s : FVec F S2x4x128 .f32) (hi : ∀ x, (![1, h.val, 0] : Fin 3 → ℕ) x + S1x1x128.size x ≤ S2x4x128.size x) :
    View.readAt (Elt F) bMl.view (Rect.unit (s := S2x4x128) ![1, h.val, 0] S1x1x128.size hi).toLoadRect s = ldL h s := by
  funext y; idx_vars y
  obtain rfl : y0 = 0 := Subsingleton.elim _ _
  obtain rfl : y1 = 0 := Subsingleton.elim _ _
  refine congrArg s (place_ext fun a => ?_)
  fin_cases a; exacts [rfl, off_at h.val 0, unit_at y2.val]
theorem ld_bXm (h : Fin 4) (s : FVec F S2x4x128 .f32) (hi : ∀ x, (![1, h.val, 0] : Fin 3 → ℕ) x + S1x1x128.size x ≤ S2x4x128.size x) :
    View.readAt (Elt F) bXm.view (Rect.unit (s := S2x4x128) ![1, h.val, 0] S1x1x128.size hi).toLoadRect s = ldL h s := by
  funext y; idx_vars y
  obtain rfl : y0 = 0 := Subsingleton.elim _ _
  obtain rfl : y1 = 0 := Subsingleton.elim _ _
  refine congrArg s (place_ext fun a => ?_)
  fin_cases a; exacts [rfl, off_at h.val 0, unit_at y2.val]
theorem ld_bWo (h : Fin 4) (w : FVec F S256x512 .f32) (hi : ∀ x, (![64 * h.val, 0] : Fin 2 → ℕ) x + S64x512.size x ≤ S256x512.size x) :
    View.readAt (Elt F) bWo.view (Rect.unit (s := S256x512) ![64 * h.val, 0] S64x512.size hi).toLoadRect w = ldW h w := by
  funext y; idx_vars y
  refine congrArg w (place_ext fun a => ?_)
  fin_cases a; exacts [off_at (64 * h.val) y0.val, unit_at y1.val]
theorem read_bOut (f : FVec F S2x128x512 .f32) : bOut.view.read (Elt F) f = f := rfl
end Reads

def row0 (a : FVec F S128x512 .f32) : FVec F S1x128x512 .f32 := shapeCast S1x128x512 a shapeCasts_S128x512_S1x128x512
theorem half_at (a b : FVec F S128x512 .f32) (p : Fin 2) (hb : ∀ z, (![p.val, 0, 0] : Fin 3 → ℕ) z + S1x128x512.size z ≤ S2x128x512.size z) (z : S1x128x512.Idx) :
    row0 (if p.val = 0 then a else b) z = halves a b ((Rect.unit (s := S2x128x512) ![p.val, 0, 0] S1x128x512.size hb).emb z) := by
  idx_vars z
  obtain rfl : z0 = 0 := Subsingleton.elim _ _
  have e : (Rect.unit (s := S2x128x512) ![p.val, 0, 0] S1x128x512.size hb).emb (ix3 0 z1 z2) = ix3 p z1 z2 :=
    place_ext fun a => by fin_cases a; exacts [off_at p.val 0, unit_at z1.val, unit_at z2.val]
  rw [e]
  refine (ValueIdx.shapeCast_ab_1ab_apply _ _ 0 z1 z2).trans ?_
  unfold halves
  show (if p.val = 0 then a else b) (ix2 z1 z2) = if p.val = 0 then a (ix2 z1 z2) else b (ix2 z1 z2)
  split <;> rfl
/-- The two stores of the result, in either order. -/
theorem out_10 (o : FVec F S2x128x512 .f32) (a b A B : FVec F S128x512 .f32) (ha : A = a) (hb : B = b) :
    bOut.view.writes (Elt F) o
      [⟨Rect.unit (s := S2x128x512) ![1, 0, 0] S1x128x512.size inb_S2x128x512_S1x128x512_1_0_0, row0 B⟩,
       ⟨Rect.unit (s := S2x128x512) ![0, 0, 0] S1x128x512.size inb_S2x128x512_S1x128x512_0_0_0, row0 A⟩] = halves a b := by
  subst ha hb
  funext y
  refine (congrFun (read_bOut _).symm y).trans ?_
  refine View.read_writes_apply_of_pieces (Val := Elt F) bOut.view o (halves A B) _ ?_ y ?_
  swap
  · exact View.cover_of_tiled (Val := Elt F) (e := .f32) (s := S2x128x512) _ S1x128x512.size (by rfl) y
  intro p hp
  simp only [List.mem_cons, List.not_mem_nil, or_false] at hp
  obtain rfl | rfl := hp
  · exact half_at A B 1 inb_S2x128x512_S1x128x512_1_0_0
  · exact half_at A B 0 inb_S2x128x512_S1x128x512_0_0_0
theorem out_01 (o : FVec F S2x128x512 .f32) (a b A B : FVec F S128x512 .f32) (ha : A = a) (hb : B = b) :
    bOut.view.writes (Elt F) o
      [⟨Rect.unit (s := S2x128x512) ![0, 0, 0] S1x128x512.size inb_S2x128x512_S1x128x512_0_0_0, row0 A⟩,
       ⟨Rect.unit (s := S2x128x512) ![1, 0, 0] S1x128x512.size inb_S2x128x512_S1x128x512_1_0_0, row0 B⟩] = halves a b := by
  subst ha hb
  funext y
  refine (congrFun (read_bOut _).symm y).trans ?_
  refine View.read_writes_apply_of_pieces (Val := Elt F) bOut.view o (halves A B) _ ?_ y ?_
  swap
  · exact View.cover_of_tiled (Val := Elt F) (e := .f32) (s := S2x128x512) _ S1x128x512.size (by rfl) y
  intro p hp
  simp only [List.mem_cons, List.not_mem_nil, or_false] at hp
  obtain rfl | rfl := hp
  · exact half_at A B 0 inb_S2x128x512_S1x128x512_0_0_0
  · exact half_at A B 1 inb_S2x128x512_S1x128x512_1_0_0
/-- The store of the running numerators in the format that is sent. -/
theorem sxa_write (f : FVec F S512x64 .bf16) (a : FVec F S512x64 .f32) {A : FVec F S512x64 .f32} (hA : A = a) :
    bSxa.view.writes (Elt F) f [⟨Rect.unit (s := S512x64) ![0, 0] S512x64.size inb_S512x64_S512x64_0_0, k0_pay207 A⟩] = k0_pay207 a := by
  subst hA
  funext y
  refine (show bSxa.view.writes (Elt F) f _ y = bSxa.view.read (Elt F) _ y from rfl).trans ?_
  refine View.read_writes_apply_of_pieces (Val := Elt F) bSxa.view f (k0_pay207 A) _ ?_ y ?_
  swap
  · exact View.cover_of_tiled (Val := Elt F) (e := .bf16) (s := S512x64) _ S512x64.size (by rfl) y
  intro p hp z
  simp only [List.mem_cons, List.not_mem_nil, or_false] at hp
  subst hp
  exact congrArg (k0_pay207 A) (place_ext fun a => by fin_cases a <;> exact (unit_at _).symm)
omit [FloatOps F] in
theorem ld_whole (a : FVec F S512x64 .f32) :
    View.readAt (Elt F) bAcc.view (Rect.unit (s := S512x64) ![0, 0] S512x64.size inb_S512x64_S512x64_0_0).toLoadRect a = a := by
  funext y; exact congrArg a (place_ext fun a => by fin_cases a <;> exact unit_at _)

theorem amt_bSsa : bSsa.view.dmaCredit = amt .sa := rfl
theorem amt_bSsm : bSsm.view.dmaCredit = amt .sm := rfl
theorem amt_bSxa : bSxa.view.dmaCredit = amt .xa := rfl
theorem amt_bMl : bMl.view.dmaCredit = amt .xm := rfl

theorem othPart_of (x : FVec F S512x64 .bf16) (t : FVec F S2x4x128 .f32) (w : FVec F S256x512 .f32) {X0 X1 X2 : FVec F S128x64 .bf16} {L0 L1 L2 : FVec F S1x1x128 .f32}
    {W0 W1 W2 : FVec F S64x512 .f32} (hx0 : X0 = ldA 0 x) (hx1 : X1 = ldA 1 x) (hx2 : X2 = ldA 2 x) (hl0 : L0 = ldL 0 t) (hl1 : L1 = ldL 1 t) (hl2 : L2 = ldL 2 t)
    (hw0 : W0 = ldW 0 w) (hw1 : W1 = ldW 1 w) (hw2 : W2 = ldW 2 w) :
    k0_pay214 (k0_pay212 X0 L0 W0 X1 L1 W1) (k0_pay213 X2) L2 W2 = othPart x t w := by
  subst hx0 hx1 hx2 hl0 hl1 hl2 hw0 hw1 hw2; rfl
theorem othLast_of (x : FVec F S512x64 .bf16) (t : FVec F S2x4x128 .f32) {X3 : FVec F S128x64 .bf16} {L3 : FVec F S1x1x128 .f32} (hx3 : X3 = ldA 3 x) (hl3 : L3 = ldL 3 t) :
    k0_pay215 X3 L3 = othLast x t := by subst hx3 hl3; rfl
theorem ownHalf_of (a : FVec F S512x64 .f32) (t : FVec F S2x4x128 .f32) (w : FVec F S256x512 .f32) {X0 X1 X2 X3 : FVec F S128x64 .f32} {L0 L1 L2 L3 : FVec F S1x1x128 .f32}
    {W0 W1 W2 W3 : FVec F S64x512 .f32} (hx0 : X0 = ldA 0 a) (hx1 : X1 = ldA 1 a) (hx2 : X2 = ldA 2 a) (hx3 : X3 = ldA 3 a)
    (hl0 : L0 = ldL 0 t) (hl1 : L1 = ldL 1 t) (hl2 : L2 = ldL 2 t) (hl3 : L3 = ldL 3 t)
    (hw0 : W0 = ldW 0 w) (hw1 : W1 = ldW 1 w) (hw2 : W2 = ldW 2 w) (hw3 : W3 = ldW 3 w) :
    k0_pay209 (k0_pay208 X0 L0 W0) X1 L1 W1 X2 L2 W2 X3 L3 W3 = ownHalf a t w := by
  subst hx0 hx1 hx2 hx3 hl0 hl1 hl2 hl3 hw0 hw1 hw2 hw3; rfl

section Sequencing
theorem tup (v : BitVec 1) {A A' : FVec F S128x512 .f32} {B B' : FVec F S128x64 .f32} (hA : A = A') (hB : B = B') :
    (⟨v, A, B⟩ : Σ' (v13 : BitVec 1) (v1200 : FVec F S128x512 .f32), FVec F S128x64 .f32) = ⟨v, A', B'⟩ := by rw [hA, hB]
theorem ret_to {α : Type} {c : Dev nD} {x y : α} (h : x = y) {Q : α → sProp 𝕄} :
    Q y ⊢ wp frame (wpE (defs₀ (F := F)) 𝒱₀ (c : Thread nD τ) none) Set.univ (Prog.ret x) Q := by
  rw [wp_ret, h]; iintro H; imodintro; iexact H
omit [FloatOps F] in
theorem ret_then {α β : Type} (x : α) (f : α → Prog (TpuEff nD τ sig (Elt F) Λ₀ .tc) β) : (Prog.ret x).bind f = f x := rfl
theorem seq_eq {α β : Type} (p : Prog (TpuEff nD τ sig (Elt F) Λ₀ .tc) α) (f : α → Prog (TpuEff nD τ sig (Elt F) Λ₀ .tc) β) : p.bind f = p >>= f := rfl
end Sequencing

/-- The end of the kernel's body, after its long first piece. -/
def tailProg (v13 : BitVec 1) (v1200 : FVec F S128x512 .f32) (v1207 : FVec F S128x64 .f32) : Prog (TpuEff nD τ sig (Elt F) Λ₀ .tc) PUnit := do
  let v1208 : Vec F S64x512 .f32 ← Prog.lift (.load bWo (Rect.unit (s := S256x512) ![192, 0] S64x512.size inb_S256x512_S64x512_192_0).toLoadRect (View.loadsAt_vmem h_S64x512))
  let v1212 : BitVec 32 := Scalar.extui v13
  let v1213 : BitVec 1 := Scalar.cmpi .ne v1212 0#32
  if k0_h6 : v1213 = 1#1 then do
    let v1217 : Vec F S1x128x512 .f32 ← Prog.lift (.load bOut (Rect.unit (s := S2x128x512) ![1, 0, 0] S1x128x512.size inb_S2x128x512_S1x128x512_1_0_0).toLoadRect (View.loadsAt_vmem h_S1x128x512))
    Prog.lift (.store bOut (Rect.unit (s := S2x128x512) ![1, 0, 0] S1x128x512.size inb_S2x128x512_S1x128x512_1_0_0) (k0_pay2 v1200 v1207 v1208) Finset.univ (View.stores_vmem_bits_univ h_S1x128x512 rfl) (.inl rfl))
    pure ⟨⟩
  else do
    pure ⟨⟩
  let v1214 : BitVec 1 := Scalar.xori v13 1#1
  let v1215 : BitVec 32 := Scalar.extui v1214
  let v1216 : BitVec 1 := Scalar.cmpi .ne v1215 0#32
  if k0_h7 : v1216 = 1#1 then do
    let v1217 : Vec F S1x128x512 .f32 ← Prog.lift (.load bOut (Rect.unit (s := S2x128x512) ![0, 0, 0] S1x128x512.size inb_S2x128x512_S1x128x512_0_0_0).toLoadRect (View.loadsAt_vmem h_S1x128x512))
    Prog.lift (.store bOut (Rect.unit (s := S2x128x512) ![0, 0, 0] S1x128x512.size inb_S2x128x512_S1x128x512_0_0_0) (k0_pay3 v1200 v1207 v1208) Finset.univ (View.stores_vmem_bits_univ h_S1x128x512 rfl) (.inl rfl))
    pure ⟨⟩
  else do
    pure ⟨⟩
  Prog.lift (.waitDma2 cc0_scratch16.sem bXa bSxa (Memref.IsWhole.wordExact (Memref.isWhole_whole _)) (Memref.IsWhole.wordExact (Memref.isWhole_whole _)))
  Prog.lift (.waitDma2 cc0_scratch18.sem bXm bMl (Memref.IsWhole.wordExact (Memref.isWhole_whole _)) (Memref.IsWhole.wordExact (Memref.isWhole_whole _)))
  pure ⟨⟩

set_option maxHeartbeats 8000000 in
/-- The exchange with the other device of the pair and the own half of the result, on an even device. -/
theorem stage4_even (c : Dev nD) (he : even c = true) (v16 : BitVec 32) (s : FVec F S2x4x128 .f32) (a : FVec F S512x64 .f32)
    (wo : FVec F S256x512 .f32) (o : FVec F S2x128x512 .f32) (hxa : V.xa c = k0_pay207 a) (hxm : V.xm c = s)
    (x : FVec F S512x64 .bf16) (t : FVec F S2x4x128 .f32) (hx : V.xa (pt c) = x) (ht : V.xm (pt c) = t)
    (Q : (Σ' (v13 : BitVec 1) (v1200 : FVec F S128x512 .f32), FVec F S128x64 .f32) → sProp 𝕄) :
    iprop(records V K ∗ levAts L lv ∗ lent (.lm 2) c ∗ lent .sa c ∗ lent .sm c
      ∗ SxaE (F := F) c ∗ XaE (F := F) (pt c) ∗ XmE (F := F) (pt c) ∗ pend .xa c ∗ pend .xm c ∗ due .xa c ∗ due .xm c
      ∗ ow c [.xa, .xm] ∗ (bMl.view.loc (c : Thread nD τ) ↦{fullShare} (s : Buf (Elt F) (bMl.view.loc (c : Thread nD τ)))) ∗ (bAcc.view.loc (c : Thread nD τ) ↦{fullShare} (a : Buf (Elt F) (bAcc.view.loc (c : Thread nD τ)))) ∗ (bWo.view.loc (c : Thread nD τ) ↦{fullShare} (wo : Buf (Elt F) (bWo.view.loc (c : Thread nD τ)))) ∗ (bOut.view.loc (c : Thread nD τ) ↦{fullShare} (o : Buf (Elt F) (bOut.view.loc (c : Thread nD τ)))))
    ⊢ iprop((iprop(shut (.snd (.lm 2)) c ∗ sndPay V (.lm 2) c ∗ shut (.snd .sa) c ∗ sndPay V .sa c ∗ shut (.snd .sm) c ∗ sndPay V .sm c
      ∗ lent .xa c ∗ lent .xm c ∗ shut (.rcv .xa) c ∗ shut (.rcv .xm) c ∗ ow c []
      ∗ (bMl.view.loc (c : Thread nD τ) ↦{fullShare.left} (s : Buf (Elt F) (bMl.view.loc (c : Thread nD τ)))) ∗ (bAcc.view.loc (c : Thread nD τ) ↦{fullShare} (a : Buf (Elt F) (bAcc.view.loc (c : Thread nD τ)))) ∗ (bWo.view.loc (c : Thread nD τ) ↦{fullShare} (wo : Buf (Elt F) (bWo.view.loc (c : Thread nD τ)))) ∗ (bOut.view.loc (c : Thread nD τ) ↦{fullShare} (bOut.view.writes (Elt F) o [⟨Rect.unit (s := S2x128x512) ![0, 0, 0] S1x128x512.size inb_S2x128x512_S1x128x512_0_0_0, row0 (ownHalf a s wo)⟩] : Buf (Elt F) (bOut.view.loc (c : Thread nD τ))))
      ∗ (bXa.view.loc (c : Thread nD τ) ↦{fullShare} (x : Buf (Elt F) (bXa.view.loc (c : Thread nD τ)))) ∗ (bXm.view.loc (c : Thread nD τ) ↦{fullShare} (t : Buf (Elt F) (bXm.view.loc (c : Thread nD τ))))) -∗ Q ⟨1#1, (othPart x t wo), (othLast x t)⟩)
      -∗ wp frame (wpE (defs₀ (F := F)) 𝒱₀ (c : Thread nD τ) none) Set.univ (do
        let v1127 : FVec F S128x512 .f32 ← k0_part48 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c 1#1 v16
        let ⟨v1157, v1161, c0_i32_880⟩ : Σ' (v1157 : FVec F S128x512 .f32) (v1161 : BitVec 32), BitVec 32 ← k0_part49 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) 1#1 v1127
        let ⟨v1189, v1191, v1192⟩ : Σ' (v1189 : FVec F S128x512 .f32) (v1191 : FVec F S128x64 .f32), Vec F S1x1x128 .f32 ← k0_part50 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v16 v1157 v1161 c0_i32_880
        let v1197 : Vec F S64x512 .f32 ← Prog.lift (.load bWo (Rect.unit (s := S256x512) ![128, 0] S64x512.size inb_S256x512_S64x512_128_0).toLoadRect (View.loadsAt_vmem h_S64x512))
        let v1201 : Vec F S128x64 .bf16 ← Prog.lift (.load bXa (Rect.unit (s := S512x64) ![384, 0] S128x64.size inb_S512x64_S128x64_384_0).toLoadRect (View.loadsAt_vmem h_S128x64))
        let v1203 : Vec F S1x1x128 .f32 ← Prog.lift (.load bXm (Rect.unit (s := S2x4x128) ![1, 3, 0] S1x1x128.size inb_S2x4x128_S1x1x128_1_3_0).toLoadRect (View.loadsAt_vmem h_S1x1x128))
        (pure ⟨1#1, k0_pay214 v1189 v1191 v1192 v1197, k0_pay215 v1201 v1203⟩ : Prog (TpuEff nD τ sig (Elt F) Λ₀ .tc) (Σ' (v13 : BitVec 1) (v1200 : FVec F S128x512 .f32), FVec F S128x64 .f32))) Q) := by
  rw [← ownHalf_of a s wo (ld_bAcc 0 _ inb_S512x64_S128x64_0_0) (ld_bAcc 1 _ inb_S512x64_S128x64_128_0) (ld_bAcc 2 _ inb_S512x64_S128x64_256_0) (ld_bAcc 3 _ inb_S512x64_S128x64_384_0) (ld_bMl 0 _ inb_S2x4x128_S1x1x128_1_0_0) (ld_bMl 1 _ inb_S2x4x128_S1x1x128_1_1_0) (ld_bMl 2 _ inb_S2x4x128_S1x1x128_1_2_0) (ld_bMl 3 _ inb_S2x4x128_S1x1x128_1_3_0) (ld_bWo 0 _ inb_S256x512_S64x512_0_0) (ld_bWo 1 _ inb_S256x512_S64x512_64_0) (ld_bWo 2 _ inb_S256x512_S64x512_128_0) (ld_bWo 3 _ inb_S256x512_S64x512_192_0)]
  iintro ⟨#HR, #Hlev, Clm2, Csa, Csm, Hsxa, Xa, Xm, Pxa, Pxm, Dxa, Dxm, HO, Hml, Hacc, Hwo, Hout⟩ Hk
  have hc1 : Scalar.cmpi .ne (Scalar.extui (1#1 : BitVec 1) : BitVec 32) 0#32 = 1#1 := by decide
  have hc2 : ¬ Scalar.cmpi .ne (Scalar.extui (Scalar.xori (1#1 : BitVec 1) 1#1) : BitVec 32) 0#32 = 1#1 := by decide
  unfold SxaE
  icases Hsxa with ⟨%fs, Hsxa⟩
  rw [k0_part48_eq_skeleton, k0_part49_eq_skeleton, k0_part50_eq_skeleton]
  unfold k0_part48_skel k0_part49_skel k0_part50_skel
  sl_exec
  iapply (c4 (wp_wait_snd V K (.lm 2) c rfl _ (by decide) rfl (amt_mLm 2))) $$ HR Clm2 HO Hlev
  iintro ⟨HBlm2, Ylm2, HO⟩
  sl_exec
  iapply (c4 (wp_wait_snd V K .sa c he _ (by decide) rfl amt_bSsa)) $$ HR Csa HO Hlev
  iintro ⟨HBsa, Ysa, HO⟩
  sl_exec
  iapply (c4 (wp_wait_snd V K .sm c he _ (by decide) rfl amt_bSsm)) $$ HR Csm HO Hlev
  iintro ⟨HBsm, Ysm, HO⟩
  sl_exec
  ihave Hsxa1 : (bSxa.view.loc (c : Thread nD τ) ↦{fullShare} ((V.xa c) : Buf (Elt F) (bSxa.view.loc (c : Thread nD τ)))) $$ [Hsxa]
  · rw [hxa, ← sxa_write fs a (ld_whole a)]
    iexact Hsxa
  iapply (c5 (wp_send_xa V K c _ (dev20_eq c) rfl rfl _)) $$ HR Hsxa1 Xa HO Pxa
  iintro ⟨Cxa, HO⟩
  ihave Hml2 := (pointsTo_share (PosShare.mem_left_op_right _)).1 $$ Hml
  icases Hml2 with ⟨Hml, Hmlr⟩
  iapply (c5 (wp_send_xm V K c _ (dev21_eq c) rfl rfl _)) $$ HR [Hmlr] Xm HO Pxm
  · rw [hxm]; iexact Hmlr
  iintro ⟨Cxm, HO⟩
  beta_reduce
  rw [ret_then, seq_eq]
  sl_exec
  iapply (c4 (wp_wait_rcv V K .xa c rfl _ (by decide) rfl amt_bXa)) $$ HR Dxa HO Hlev
  iintro ⟨Hxa, Zxa, HO⟩
  iapply (c4 (wp_wait_rcv V K .xm c rfl _ (by decide) rfl amt_bXm)) $$ HR Dxm HO Hlev
  iintro ⟨Hxm, Zxm, HO⟩
  ihave Hxa1 := (show rcvPay V .xa c ⊢ (bXa.view.loc (c : Thread nD τ) ↦{fullShare} (x : Buf (Elt F) (bXa.view.loc (c : Thread nD τ)))) from by rw [← hx]; exact Entails.of_eq rfl) $$ Hxa
  ihave Hxm1 := (show rcvPay V .xm c ⊢ (bXm.view.loc (c : Thread nD τ) ↦{fullShare} (t : Buf (Elt F) (bXm.view.loc (c : Thread nD τ)))) from by rw [← ht]; exact Entails.of_eq rfl) $$ Hxm
  beta_reduce
  rw [ret_then, seq_eq]
  sl_exec
  iapply (ret_to (tup 1#1 (othPart_of x t wo (ld_bXa 0 _ inb_S512x64_S128x64_0_0) (ld_bXa 1 _ inb_S512x64_S128x64_128_0) (ld_bXa 2 _ inb_S512x64_S128x64_256_0) (ld_bXm 0 _ inb_S2x4x128_S1x1x128_1_0_0) (ld_bXm 1 _ inb_S2x4x128_S1x1x128_1_1_0) (ld_bXm 2 _ inb_S2x4x128_S1x1x128_1_2_0) (ld_bWo 0 _ inb_S256x512_S64x512_0_0) (ld_bWo 1 _ inb_S256x512_S64x512_64_0) (ld_bWo 2 _ inb_S256x512_S64x512_128_0))
    (othLast_of x t (ld_bXa 3 _ inb_S512x64_S128x64_384_0) (ld_bXm 3 _ inb_S2x4x128_S1x1x128_1_3_0))))
  iapply Hk
  isplitl [Ylm2]; · iexact Ylm2
  isplitl [HBlm2]; · iexact HBlm2
  isplitl [Ysa]; · iexact Ysa
  isplitl [HBsa]; · iexact HBsa
  isplitl [Ysm]; · iexact Ysm
  isplitl [HBsm]; · iexact HBsm
  isplitl [Cxa]; · iexact Cxa
  isplitl [Cxm]; · iexact Cxm
  isplitl [Zxa]; · iexact Zxa
  isplitl [Zxm]; · iexact Zxm
  isplitl [HO]; · iexact HO
  isplitl [Hml]; · iexact Hml
  isplitl [Hacc]; · iexact Hacc
  isplitl [Hwo]; · iexact Hwo
  isplitl [Hout]; · iexact Hout
  isplitl [Hxa1]; · iexact Hxa1
  iexact Hxm1

set_option maxHeartbeats 8000000 in
/-- The exchange with the other device of the pair and the own half of the result, on an odd device. -/
theorem stage4_odd (c : Dev nD) (he : even c = false) (v16 : BitVec 32) (s : FVec F S2x4x128 .f32) (a : FVec F S512x64 .f32)
    (wo : FVec F S256x512 .f32) (o : FVec F S2x128x512 .f32) (hxa : V.xa c = k0_pay207 a) (hxm : V.xm c = s)
    (x : FVec F S512x64 .bf16) (t : FVec F S2x4x128 .f32) (hx : V.xa (pt c) = x) (ht : V.xm (pt c) = t)
    (Q : (Σ' (v13 : BitVec 1) (v1200 : FVec F S128x512 .f32), FVec F S128x64 .f32) → sProp 𝕄) :
    iprop(records V K ∗ levAts L lv ∗ lent (.lm 2) c
      ∗ SxaE (F := F) c ∗ XaE (F := F) (pt c) ∗ XmE (F := F) (pt c) ∗ pend .xa c ∗ pend .xm c ∗ due .xa c ∗ due .xm c
      ∗ ow c [.xa, .xm] ∗ (bMl.view.loc (c : Thread nD τ) ↦{fullShare} (s : Buf (Elt F) (bMl.view.loc (c : Thread nD τ)))) ∗ (bAcc.view.loc (c : Thread nD τ) ↦{fullShare} (a : Buf (Elt F) (bAcc.view.loc (c : Thread nD τ)))) ∗ (bWo.view.loc (c : Thread nD τ) ↦{fullShare} (wo : Buf (Elt F) (bWo.view.loc (c : Thread nD τ)))) ∗ (bOut.view.loc (c : Thread nD τ) ↦{fullShare} (o : Buf (Elt F) (bOut.view.loc (c : Thread nD τ)))))
    ⊢ iprop((iprop(shut (.snd (.lm 2)) c ∗ sndPay V (.lm 2) c
      ∗ lent .xa c ∗ lent .xm c ∗ shut (.rcv .xa) c ∗ shut (.rcv .xm) c ∗ ow c []
      ∗ (bMl.view.loc (c : Thread nD τ) ↦{fullShare.left} (s : Buf (Elt F) (bMl.view.loc (c : Thread nD τ)))) ∗ (bAcc.view.loc (c : Thread nD τ) ↦{fullShare} (a : Buf (Elt F) (bAcc.view.loc (c : Thread nD τ)))) ∗ (bWo.view.loc (c : Thread nD τ) ↦{fullShare} (wo : Buf (Elt F) (bWo.view.loc (c : Thread nD τ)))) ∗ (bOut.view.loc (c : Thread nD τ) ↦{fullShare} (bOut.view.writes (Elt F) o [⟨Rect.unit (s := S2x128x512) ![1, 0, 0] S1x128x512.size inb_S2x128x512_S1x128x512_1_0_0, row0 (ownHalf a s wo)⟩] : Buf (Elt F) (bOut.view.loc (c : Thread nD τ))))
      ∗ (bXa.view.loc (c : Thread nD τ) ↦{fullShare} (x : Buf (Elt F) (bXa.view.loc (c : Thread nD τ)))) ∗ (bXm.view.loc (c : Thread nD τ) ↦{fullShare} (t : Buf (Elt F) (bXm.view.loc (c : Thread nD τ))))) -∗ Q ⟨0#1, (othPart x t wo), (othLast x t)⟩)
      -∗ wp frame (wpE (defs₀ (F := F)) 𝒱₀ (c : Thread nD τ) none) Set.univ (do
        let v1127 : FVec F S128x512 .f32 ← k0_part48 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) c 0#1 v16
        let ⟨v1157, v1161, c0_i32_880⟩ : Σ' (v1157 : FVec F S128x512 .f32) (v1161 : BitVec 32), BitVec 32 ← k0_part49 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) 0#1 v1127
        let ⟨v1189, v1191, v1192⟩ : Σ' (v1189 : FVec F S128x512 .f32) (v1191 : FVec F S128x64 .f32), Vec F S1x1x128 .f32 ← k0_part50 bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _) v16 v1157 v1161 c0_i32_880
        let v1197 : Vec F S64x512 .f32 ← Prog.lift (.load bWo (Rect.unit (s := S256x512) ![128, 0] S64x512.size inb_S256x512_S64x512_128_0).toLoadRect (View.loadsAt_vmem h_S64x512))
        let v1201 : Vec F S128x64 .bf16 ← Prog.lift (.load bXa (Rect.unit (s := S512x64) ![384, 0] S128x64.size inb_S512x64_S128x64_384_0).toLoadRect (View.loadsAt_vmem h_S128x64))
        let v1203 : Vec F S1x1x128 .f32 ← Prog.lift (.load bXm (Rect.unit (s := S2x4x128) ![1, 3, 0] S1x1x128.size inb_S2x4x128_S1x1x128_1_3_0).toLoadRect (View.loadsAt_vmem h_S1x1x128))
        (pure ⟨0#1, k0_pay214 v1189 v1191 v1192 v1197, k0_pay215 v1201 v1203⟩ : Prog (TpuEff nD τ sig (Elt F) Λ₀ .tc) (Σ' (v13 : BitVec 1) (v1200 : FVec F S128x512 .f32), FVec F S128x64 .f32))) Q) := by
  rw [← ownHalf_of a s wo (ld_bAcc 0 _ inb_S512x64_S128x64_0_0) (ld_bAcc 1 _ inb_S512x64_S128x64_128_0) (ld_bAcc 2 _ inb_S512x64_S128x64_256_0) (ld_bAcc 3 _ inb_S512x64_S128x64_384_0) (ld_bMl 0 _ inb_S2x4x128_S1x1x128_1_0_0) (ld_bMl 1 _ inb_S2x4x128_S1x1x128_1_1_0) (ld_bMl 2 _ inb_S2x4x128_S1x1x128_1_2_0) (ld_bMl 3 _ inb_S2x4x128_S1x1x128_1_3_0) (ld_bWo 0 _ inb_S256x512_S64x512_0_0) (ld_bWo 1 _ inb_S256x512_S64x512_64_0) (ld_bWo 2 _ inb_S256x512_S64x512_128_0) (ld_bWo 3 _ inb_S256x512_S64x512_192_0)]
  iintro ⟨#HR, #Hlev, Clm2, Hsxa, Xa, Xm, Pxa, Pxm, Dxa, Dxm, HO, Hml, Hacc, Hwo, Hout⟩ Hk
  have hc1 : ¬ Scalar.cmpi .ne (Scalar.extui (0#1 : BitVec 1) : BitVec 32) 0#32 = 1#1 := by decide
  have hc2 : Scalar.cmpi .ne (Scalar.extui (Scalar.xori (0#1 : BitVec 1) 1#1) : BitVec 32) 0#32 = 1#1 := by decide
  unfold SxaE
  icases Hsxa with ⟨%fs, Hsxa⟩
  rw [k0_part48_eq_skeleton, k0_part49_eq_skeleton, k0_part50_eq_skeleton]
  unfold k0_part48_skel k0_part49_skel k0_part50_skel
  sl_exec
  iapply (c4 (wp_wait_snd V K (.lm 2) c rfl _ (by decide) rfl (amt_mLm 2))) $$ HR Clm2 HO Hlev
  iintro ⟨HBlm2, Ylm2, HO⟩
  sl_exec
  ihave Hsxa1 : (bSxa.view.loc (c : Thread nD τ) ↦{fullShare} ((V.xa c) : Buf (Elt F) (bSxa.view.loc (c : Thread nD τ)))) $$ [Hsxa]
  · rw [hxa, ← sxa_write fs a (ld_whole a)]
    iexact Hsxa
  iapply (c5 (wp_send_xa V K c _ (dev20_eq c) rfl rfl _)) $$ HR Hsxa1 Xa HO Pxa
  iintro ⟨Cxa, HO⟩
  ihave Hml2 := (pointsTo_share (PosShare.mem_left_op_right _)).1 $$ Hml
  icases Hml2 with ⟨Hml, Hmlr⟩
  iapply (c5 (wp_send_xm V K c _ (dev21_eq c) rfl rfl _)) $$ HR [Hmlr] Xm HO Pxm
  · rw [hxm]; iexact Hmlr
  iintro ⟨Cxm, HO⟩
  beta_reduce
  rw [ret_then, seq_eq]
  sl_exec
  iapply (c4 (wp_wait_rcv V K .xa c rfl _ (by decide) rfl amt_bXa)) $$ HR Dxa HO Hlev
  iintro ⟨Hxa, Zxa, HO⟩
  iapply (c4 (wp_wait_rcv V K .xm c rfl _ (by decide) rfl amt_bXm)) $$ HR Dxm HO Hlev
  iintro ⟨Hxm, Zxm, HO⟩
  ihave Hxa1 := (show rcvPay V .xa c ⊢ (bXa.view.loc (c : Thread nD τ) ↦{fullShare} (x : Buf (Elt F) (bXa.view.loc (c : Thread nD τ)))) from by rw [← hx]; exact Entails.of_eq rfl) $$ Hxa
  ihave Hxm1 := (show rcvPay V .xm c ⊢ (bXm.view.loc (c : Thread nD τ) ↦{fullShare} (t : Buf (Elt F) (bXm.view.loc (c : Thread nD τ)))) from by rw [← ht]; exact Entails.of_eq rfl) $$ Hxm
  beta_reduce
  rw [ret_then, seq_eq]
  sl_exec
  iapply (ret_to (tup 0#1 (othPart_of x t wo (ld_bXa 0 _ inb_S512x64_S128x64_0_0) (ld_bXa 1 _ inb_S512x64_S128x64_128_0) (ld_bXa 2 _ inb_S512x64_S128x64_256_0) (ld_bXm 0 _ inb_S2x4x128_S1x1x128_1_0_0) (ld_bXm 1 _ inb_S2x4x128_S1x1x128_1_1_0) (ld_bXm 2 _ inb_S2x4x128_S1x1x128_1_2_0) (ld_bWo 0 _ inb_S256x512_S64x512_0_0) (ld_bWo 1 _ inb_S256x512_S64x512_64_0) (ld_bWo 2 _ inb_S256x512_S64x512_128_0))
    (othLast_of x t (ld_bXa 3 _ inb_S512x64_S128x64_384_0) (ld_bXm 3 _ inb_S2x4x128_S1x1x128_1_3_0))))
  iapply Hk
  isplitl [Ylm2]; · iexact Ylm2
  isplitl [HBlm2]; · iexact HBlm2
  isplitl [Cxa]; · iexact Cxa
  isplitl [Cxm]; · iexact Cxm
  isplitl [Zxa]; · iexact Zxa
  isplitl [Zxm]; · iexact Zxm
  isplitl [HO]; · iexact HO
  isplitl [Hml]; · iexact Hml
  isplitl [Hacc]; · iexact Hacc
  isplitl [Hwo]; · iexact Hwo
  isplitl [Hout]; · iexact Hout
  isplitl [Hxa1]; · iexact Hxa1
  iexact Hxm1

set_option maxHeartbeats 8000000 in
/-- The partner's half of the result and the waits for what was exchanged, on an even device. -/
theorem tail_even (c : Dev nD) (s : FVec F S2x4x128 .f32) (wo : FVec F S256x512 .f32) (o : FVec F S2x128x512 .f32) (own : FVec F S128x512 .f32) (hxm : V.xm c = s)
    (x : FVec F S512x64 .bf16) (t : FVec F S2x4x128 .f32)
    (Q : PUnit → sProp 𝕄) :
    iprop(records V K ∗ levAts L lv ∗ lent .xa c ∗ lent .xm c ∗ ow c [] ∗ (bMl.view.loc (c : Thread nD τ) ↦{fullShare.left} (s : Buf (Elt F) (bMl.view.loc (c : Thread nD τ)))) ∗ (bWo.view.loc (c : Thread nD τ) ↦{fullShare} (wo : Buf (Elt F) (bWo.view.loc (c : Thread nD τ)))) ∗ (bOut.view.loc (c : Thread nD τ) ↦{fullShare} (bOut.view.writes (Elt F) o [⟨Rect.unit (s := S2x128x512) ![0, 0, 0] S1x128x512.size inb_S2x128x512_S1x128x512_0_0_0, row0 own⟩] : Buf (Elt F) (bOut.view.loc (c : Thread nD τ)))))
    ⊢ iprop((iprop(shut (.snd .xa) c ∗ shut (.snd .xm) c ∗ SxaE (F := F) c ∗ ow c [] ∗ (bMl.view.loc (c : Thread nD τ) ↦{fullShare} (s : Buf (Elt F) (bMl.view.loc (c : Thread nD τ)))) ∗ (bWo.view.loc (c : Thread nD τ) ↦{fullShare} (wo : Buf (Elt F) (bWo.view.loc (c : Thread nD τ)))) ∗ (bOut.view.loc (c : Thread nD τ) ↦{fullShare} ((halves own (othHalf x t wo)) : Buf (Elt F) (bOut.view.loc (c : Thread nD τ))))) -∗ Q ⟨⟩)
      -∗ wp frame (wpE (defs₀ (F := F)) 𝒱₀ (c : Thread nD τ) none) Set.univ (tailProg 1#1 (othPart x t wo) (othLast x t)) Q) := by
  have hc1 : Scalar.cmpi .ne (Scalar.extui (1#1 : BitVec 1) : BitVec 32) 0#32 = 1#1 := by decide
  have hc2 : ¬ Scalar.cmpi .ne (Scalar.extui (Scalar.xori (1#1 : BitVec 1) 1#1) : BitVec 32) 0#32 = 1#1 := by decide
  iintro ⟨#HR, #Hlev, Cxa, Cxm, HO, Hml, Hwo, Hout⟩ Hk
  unfold tailProg
  sl_exec
  iapply (c4 (wp_wait_snd V K .xa c rfl _ (by decide) rfl amt_bSxa)) $$ HR Cxa HO Hlev
  iintro ⟨HBxa, Yxa, HO⟩
  iapply (c4 (wp_wait_snd V K .xm c rfl _ (by decide) rfl amt_bMl)) $$ HR Cxm HO Hlev
  iintro ⟨HBxm, Yxm, HO⟩
  ihave Hsx := (show sndPay V .xa c ⊢ SxaE (F := F) c from Entails.of_eq rfl) $$ HBxa
  ihave Hmlr := (show sndPay V .xm c ⊢ (bMl.view.loc (c : Thread nD τ) ↦{fullShare.right} (V.xm c : Buf (Elt F) (bMl.view.loc (c : Thread nD τ)))) from Entails.of_eq rfl) $$ HBxm
  rw [hxm]
  ihave Hml1 := (pointsTo_share (PosShare.mem_left_op_right fullShare)).2 $$ [Hml Hmlr]
  · isplitl [Hml] <;> iassumption
  ihave Hout1 : (bOut.view.loc (c : Thread nD τ) ↦{fullShare} ((halves own (othHalf x t wo)) : Buf (Elt F) (bOut.view.loc (c : Thread nD τ)))) $$ [Hout]
  · rw [← out_10 o own (othHalf x t wo) own _ rfl (show k0_pay1 (othPart x t wo) (othLast x t) _ = othHalf x t wo from congrArg (k0_pay1 _ _) (ld_bWo 3 wo inb_S256x512_S64x512_192_0))]
    iexact Hout
  beta_reduce
  rw [ret_then, wp_pure]; imodintro
  iapply Hk
  isplitl [Yxa]; · iexact Yxa
  isplitl [Yxm]; · iexact Yxm
  isplitl [Hsx]; · iexact Hsx
  isplitl [HO]; · iexact HO
  isplitl [Hml1]; · iexact Hml1
  isplitl [Hwo]; · iexact Hwo
  iexact Hout1

set_option maxHeartbeats 8000000 in
/-- The partner's half of the result and the waits for what was exchanged, on an odd device. -/
theorem tail_odd (c : Dev nD) (s : FVec F S2x4x128 .f32) (wo : FVec F S256x512 .f32) (o : FVec F S2x128x512 .f32) (own : FVec F S128x512 .f32) (hxm : V.xm c = s)
    (x : FVec F S512x64 .bf16) (t : FVec F S2x4x128 .f32)
    (Q : PUnit → sProp 𝕄) :
    iprop(records V K ∗ levAts L lv ∗ lent .xa c ∗ lent .xm c ∗ ow c [] ∗ (bMl.view.loc (c : Thread nD τ) ↦{fullShare.left} (s : Buf (Elt F) (bMl.view.loc (c : Thread nD τ)))) ∗ (bWo.view.loc (c : Thread nD τ) ↦{fullShare} (wo : Buf (Elt F) (bWo.view.loc (c : Thread nD τ)))) ∗ (bOut.view.loc (c : Thread nD τ) ↦{fullShare} (bOut.view.writes (Elt F) o [⟨Rect.unit (s := S2x128x512) ![1, 0, 0] S1x128x512.size inb_S2x128x512_S1x128x512_1_0_0, row0 own⟩] : Buf (Elt F) (bOut.view.loc (c : Thread nD τ)))))
    ⊢ iprop((iprop(shut (.snd .xa) c ∗ shut (.snd .xm) c ∗ SxaE (F := F) c ∗ ow c [] ∗ (bMl.view.loc (c : Thread nD τ) ↦{fullShare} (s : Buf (Elt F) (bMl.view.loc (c : Thread nD τ)))) ∗ (bWo.view.loc (c : Thread nD τ) ↦{fullShare} (wo : Buf (Elt F) (bWo.view.loc (c : Thread nD τ)))) ∗ (bOut.view.loc (c : Thread nD τ) ↦{fullShare} ((halves (othHalf x t wo) own) : Buf (Elt F) (bOut.view.loc (c : Thread nD τ))))) -∗ Q ⟨⟩)
      -∗ wp frame (wpE (defs₀ (F := F)) 𝒱₀ (c : Thread nD τ) none) Set.univ (tailProg 0#1 (othPart x t wo) (othLast x t)) Q) := by
  have hc1 : ¬ Scalar.cmpi .ne (Scalar.extui (0#1 : BitVec 1) : BitVec 32) 0#32 = 1#1 := by decide
  have hc2 : Scalar.cmpi .ne (Scalar.extui (Scalar.xori (0#1 : BitVec 1) 1#1) : BitVec 32) 0#32 = 1#1 := by decide
  iintro ⟨#HR, #Hlev, Cxa, Cxm, HO, Hml, Hwo, Hout⟩ Hk
  unfold tailProg
  sl_exec
  iapply (c4 (wp_wait_snd V K .xa c rfl _ (by decide) rfl amt_bSxa)) $$ HR Cxa HO Hlev
  iintro ⟨HBxa, Yxa, HO⟩
  iapply (c4 (wp_wait_snd V K .xm c rfl _ (by decide) rfl amt_bMl)) $$ HR Cxm HO Hlev
  iintro ⟨HBxm, Yxm, HO⟩
  ihave Hsx := (show sndPay V .xa c ⊢ SxaE (F := F) c from Entails.of_eq rfl) $$ HBxa
  ihave Hmlr := (show sndPay V .xm c ⊢ (bMl.view.loc (c : Thread nD τ) ↦{fullShare.right} (V.xm c : Buf (Elt F) (bMl.view.loc (c : Thread nD τ)))) from Entails.of_eq rfl) $$ HBxm
  rw [hxm]
  ihave Hml1 := (pointsTo_share (PosShare.mem_left_op_right fullShare)).2 $$ [Hml Hmlr]
  · isplitl [Hml] <;> iassumption
  ihave Hout1 : (bOut.view.loc (c : Thread nD τ) ↦{fullShare} ((halves (othHalf x t wo) own) : Buf (Elt F) (bOut.view.loc (c : Thread nD τ)))) $$ [Hout]
  · rw [← out_01 o (othHalf x t wo) own _ own (show k0_pay1 (othPart x t wo) (othLast x t) _ = othHalf x t wo from congrArg (k0_pay1 _ _) (ld_bWo 3 wo inb_S256x512_S64x512_192_0)) rfl]
    iexact Hout
  beta_reduce
  rw [ret_then, wp_pure]; imodintro
  iapply Hk
  isplitl [Yxa]; · iexact Yxa
  isplitl [Yxm]; · iexact Yxm
  isplitl [Hsx]; · iexact Hsx
  isplitl [HO]; · iexact HO
  isplitl [Hml1]; · iexact Hml1
  isplitl [Hwo]; · iexact Hwo
  iexact Hout1

end Cert.SparseRing

end
-- ==== Proof.Body.lean ====
/- The kernel's body on each kind of device, from its share of the protocol to its scratch memory and closed cells. -/
module

public import proofs.«01_k».proof.Proof.Start
public import proofs.«01_k».proof.Proof.Middle
public import proofs.«01_k».proof.Proof.Stage4

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

/-- The scratch memory of a device, whatever it holds. -/
def doneM (c : Dev nD) : sProp 𝕄 :=
  iprop((RaE (F := F) c 0 ∗ RaE (F := F) c 1 ∗ RaE (F := F) c 2 ∗ RaE (F := F) c 3 ∗ RaE (F := F) c 4 ∗ RmE (F := F) c 0 ∗ RmE (F := F) c 1 ∗ RmE (F := F) c 2 ∗ RmE (F := F) c 3 ∗ RmE (F := F) c 4 ∗ LaE (F := F) c 0 ∗ LaE (F := F) c 1 ∗ LaE (F := F) c 2 ∗ LaE (F := F) c 3 ∗ LmE (F := F) c 0 ∗ LmE (F := F) c 1 ∗ LmE (F := F) c 2 ∗ LmE (F := F) c 3)
    ∗ (SsaE (F := F) c ∗ SsmE (F := F) c ∗ SxaE (F := F) c ∗ XaE (F := F) c ∗ XmE (F := F) c)
    ∗ (∃ f, (bMl.view.loc (c : Thread nD τ) ↦{fullShare} (f : Buf (Elt F) (bMl.view.loc (c : Thread nD τ))))) ∗ (∃ f, (bAcc.view.loc (c : Thread nD τ) ↦{fullShare} (f : Buf (Elt F) (bAcc.view.loc (c : Thread nD τ))))))
/-- All the cells of a device, done with. -/
def zeros (c : Dev nD) : sProp 𝕄 :=
  iprop(shut .bar c ∗ shut (.snd (.ra 0)) c ∗ shut (.snd (.ra 1)) c ∗ shut (.snd (.ra 2)) c ∗ shut (.snd (.ra 3)) c ∗ shut (.rcv (.ra 0)) c ∗ shut (.rcv (.ra 1)) c ∗ shut (.rcv (.ra 2)) c ∗ shut (.rcv (.ra 3)) c ∗ shut (.snd (.rm 0)) c ∗ shut (.snd (.rm 1)) c ∗ shut (.snd (.rm 2)) c ∗ shut (.snd (.rm 3)) c ∗ shut (.rcv (.rm 0)) c ∗ shut (.rcv (.rm 1)) c ∗ shut (.rcv (.rm 2)) c ∗ shut (.rcv (.rm 3)) c ∗ shut (.snd (.la 0)) c ∗ shut (.snd (.la 1)) c ∗ shut (.snd (.la 2)) c ∗ shut (.rcv (.la 0)) c ∗ shut (.rcv (.la 1)) c ∗ shut (.rcv (.la 2)) c ∗ shut (.snd (.lm 0)) c ∗ shut (.snd (.lm 1)) c ∗ shut (.snd (.lm 2)) c ∗ shut (.rcv (.lm 0)) c ∗ shut (.rcv (.lm 1)) c ∗ shut (.rcv (.lm 2)) c ∗ shut (.snd .sa) c ∗ shut (.rcv .sa) c ∗ shut (.snd .sm) c ∗ shut (.rcv .sm) c ∗ shut (.snd .xa) c ∗ shut (.rcv .xa) c ∗ shut (.snd .xm) c ∗ shut (.rcv .xm) c)

theorem close_idle (k : Cl) (c : Dev nD) (h : dutiesOf (some k) c = ∅) :
    iprop(records V K ∗ atPos ER (kcell (c, k)) 0 ∅ 0) ⊢ |={Set.univ}=> shut (F := F) k c := by
  unfold shut
  iintro ⟨#HR, Hat⟩
  imod (Rounds.cell_close ER (Rd V) (Set.mem_univ (K (c, k))) (fun h => h) (R := 0) (fun r _ => by
    rcases Nat.eq_zero_or_pos r with rfl | hr
    · rw [duties_eq]; exact h
    · exact duties_later V (kcell (c, k)) r hr)) $$ [Hat] with Hz
  · isplitr
    · iapply records_inv; iexact HR
    iexact Hat
  imodintro
  iexact Hz

set_option maxHeartbeats 4000000 in
/-- The whole body on an even device. -/
theorem body_even (c : Dev nD) (he : even c = true) (W : Waits sig Unit) (x : FVec F S2x128x512 .f32) (wq : FVec F S512x256 .f32) (kk vv : FVec F S2x128x4x64 .f32) (wo : FVec F S256x512 .f32)
    (o r : FVec F S2x128x512 .f32) (s0 : FVec F S2x4x128 .f32) (a0 : FVec F S512x64 .f32)
    (hpa : V.pa (pt c) = accOf (e := .bf16) (ownH (devW c) x wq kk vv 1)) (hpm : V.pm (pt c) = statOf (ownM (devW c) x wq kk 1) (ownL (devW c) x wq kk 1))
    (hpa0 : V.pa c = accOf (e := .bf16) (ownH (devW c) x wq kk vv 0)) (hpm0 : V.pm c = statOf (ownM (devW c) x wq kk 0) (ownL (devW c) x wq kk 0))
    (hxa : V.xa c = k0_pay207 (finA V c (V.pm c) (accOf (e := .f32) (ownA (devW c) x wq kk vv 0)))) (hxm : V.xm c = finM V c (V.pm c))
    (px : FVec F S512x64 .bf16) (pm : FVec F S2x4x128 .f32) (hx : V.xa (pt c) = px) (ht : V.xm (pt c) = pm)
    (hr : r = (halves (ownHalf (finA V c (V.pm c) (accOf (e := .f32) (ownA (devW c) x wq kk vv 0))) (finM V c (V.pm c)) wo) (othHalf px pm wo))) (Q : PUnit → sProp 𝕄) :
    iprop(records V K ∗ owes (c : Thread nD τ) (O₀ c) W
      ∗ (dutyTok ER (kcell (lf c, .bar)) 0 0 ∗ dutyTok ER (kcell (rt c, .bar)) 0 1 ∗ dutyTok ER (kcell (pt c, .bar)) 0 2)
      ∗ (rSlots (F := F) c ∗ lSlots (F := F) c ∗ xSlots (F := F) c)
      ∗ levAts L lv ∗ dueBar c ∗ (pend .sa c ∗ pend .sm c ∗ atPos ER (kcell (c, .rcv .sa)) 0 ∅ 0 ∗ atPos ER (kcell (c, .rcv .sm)) 0 ∅ 0)
      ∗ (pend (.ra 0) c ∗ pend (.ra 1) c ∗ pend (.ra 2) c ∗ pend (.ra 3) c ∗ pend (.rm 0) c ∗ pend (.rm 1) c ∗ pend (.rm 2) c ∗ pend (.rm 3) c ∗ pend (.la 0) c ∗ pend (.la 1) c ∗ pend (.la 2) c ∗ pend (.lm 0) c ∗ pend (.lm 1) c ∗ pend (.lm 2) c ∗ pend .xa c ∗ pend .xm c)
      ∗ (due (.ra 0) c ∗ due (.ra 1) c ∗ due (.ra 2) c ∗ due (.ra 3) c ∗ due (.rm 0) c ∗ due (.rm 1) c ∗ due (.rm 2) c ∗ due (.rm 3) c ∗ due (.la 0) c ∗ due (.la 1) c ∗ due (.la 2) c ∗ due (.lm 0) c ∗ due (.lm 1) c ∗ due (.lm 2) c ∗ due .xa c ∗ due .xm c)
      ∗ (RaE (F := F) c 0 ∗ RmE (F := F) c 0 ∗ LaE (F := F) c 0 ∗ LmE (F := F) c 0)
      ∗ (SsaE (F := F) c ∗ SsmE (F := F) c ∗ SxaE (F := F) c) ∗ (bMl.view.loc (c : Thread nD τ) ↦{fullShare} (s0 : Buf (Elt F) (bMl.view.loc (c : Thread nD τ)))) ∗ (bAcc.view.loc (c : Thread nD τ) ↦{fullShare} (a0 : Buf (Elt F) (bAcc.view.loc (c : Thread nD τ))))
      ∗ ((bX.view.loc (c : Thread nD τ) ↦{fullShare} (x : Buf (Elt F) (bX.view.loc (c : Thread nD τ)))) ∗ (bWq.view.loc (c : Thread nD τ) ↦{fullShare} (wq : Buf (Elt F) (bWq.view.loc (c : Thread nD τ)))) ∗ (bK.view.loc (c : Thread nD τ) ↦{fullShare} (kk : Buf (Elt F) (bK.view.loc (c : Thread nD τ)))) ∗ (bV.view.loc (c : Thread nD τ) ↦{fullShare} (vv : Buf (Elt F) (bV.view.loc (c : Thread nD τ))))) ∗ (bWo.view.loc (c : Thread nD τ) ↦{fullShare} (wo : Buf (Elt F) (bWo.view.loc (c : Thread nD τ)))) ∗ (bOut.view.loc (c : Thread nD τ) ↦{fullShare} (o : Buf (Elt F) (bOut.view.loc (c : Thread nD τ))))
      ∗ ((doneM (F := F) c ∗ zeros (F := F) c ∗ ow c []
      ∗ ((bX.view.loc (c : Thread nD τ) ↦{fullShare} (x : Buf (Elt F) (bX.view.loc (c : Thread nD τ)))) ∗ (bWq.view.loc (c : Thread nD τ) ↦{fullShare} (wq : Buf (Elt F) (bWq.view.loc (c : Thread nD τ)))) ∗ (bK.view.loc (c : Thread nD τ) ↦{fullShare} (kk : Buf (Elt F) (bK.view.loc (c : Thread nD τ)))) ∗ (bV.view.loc (c : Thread nD τ) ↦{fullShare} (vv : Buf (Elt F) (bV.view.loc (c : Thread nD τ))))) ∗ (bWo.view.loc (c : Thread nD τ) ↦{fullShare} (wo : Buf (Elt F) (bWo.view.loc (c : Thread nD τ)))) ∗ (bOut.view.loc (c : Thread nD τ) ↦{fullShare} (r : Buf (Elt F) (bOut.view.loc (c : Thread nD τ))))) -∗ Q ⟨⟩))
    ⊢ wp frame (wpE (defs₀ (F := F)) 𝒱₀ (c : Thread nD τ) none) Set.univ (cc0_body bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)) Q := by
  subst hr
  have hpb : parB c = 1#1 := by unfold parB; rw [he]; rfl
  rw [cc0_body_eq_skeleton]; unfold cc0_body_skel
  rw [wp_bind, k0_part51_eq_skeleton]; unfold k0_part51_skel
  refine part14_run c _ _ _ ?_
  intro v12 v13 v16 v27 v28 v33 v35 h13
  rw [hpb] at h13; subst h13
  refine part15_run c _ _ _ _ _ _ _ _ _ _ _ ?_
  intro v65 v76
  refine part16_run V K c W _ _ _ _ _ _ _ _ _ ?_
  intro v82 v99
  rw [show todo c = Ch.sa :: Ch.sm :: ring from by unfold todo; rw [he]; rfl]
  unfold ring
  iintro ⟨#HR, HO, #Hlev, Hbar, ⟨Psa, Psm, Asa, Asm⟩, ⟨Pra0, Pra1, Pra2, Pra3, Prm0, Prm1, Prm2, Prm3, Pla0, Pla1, Pla2, Plm0, Plm1, Plm2, Pxa, Pxm⟩, ⟨Dra0, Dra1, Dra2, Dra3, Drm0, Drm1, Drm2, Drm3, Dla0, Dla1, Dla2, Dlm0, Dlm1, Dlm2, Dxa, Dxm⟩, ⟨Era, Erm, Ela, Elm⟩, ⟨HSsa, HSsm, HSxa⟩, Hml, Hacc, Hin, Hwo, Hout, Hk⟩
  imod (close_idle V K (.rcv .sa) c (show (if (!even c) = true then ({0} : Finset (Fin 3)) else ∅) = ∅ by rw [he]; rfl)) $$ [Asa] with Ksa
  · iframe HR Asa
  imod (close_idle V K (.rcv .sm) c (show (if (!even c) = true then ({0} : Finset (Fin 3)) else ∅) = ∅ by rw [he]; rfl)) $$ [Asm] with Ksm
  · iframe HR Asm
  iapply (part17_even V K c he _ _ _ _ _ _ x wq kk vv s0 a0 hpa hpm hpa0 hpm0 _ _) $$ [Hin HSsa HSsm Hbar HO Psa Psm Era Erm Ela Elm Hml Hacc Pra0 Prm0]
  · iframe HR Hlev Hin HSsa HSsm Hbar HO Psa Psm Era Erm Ela Elm Hml Hacc Pra0 Prm0
  iintro ⟨Hin, ⟨Csa, Csm⟩, Hacc, Zbar, ⟨⟨DRa2, DRa3, DRa4⟩, ⟨DRm2, DRm3, DRm4⟩⟩, ⟨⟨DLa1, DLa2, DLa3⟩, ⟨DLm1, DLm2, DLm3⟩⟩, ⟨Xa, Xm⟩, HO, ⟨Cra0, Crm0⟩, ⟨HLra0, HLrm0, HLla0, HLlm0⟩, ⟨HRla0, HRlm0⟩, Hml⟩
  iapply (mid V K c v82 v99 _ _ _ _ _) $$ [DRa2 DRa3 DRa4 DRm2 DRm3 DRm4 DLa1 DLa2 DLa3 DLm1 DLm2 DLm3 HO Cra0 Crm0 HLra0 HLrm0 HLla0 HLlm0 HRla0 HRlm0 Pla0 Plm0 Pra1 Prm1 Pla1 Plm1 Pra2 Prm2 Pla2 Plm2 Pra3 Prm3 Dra0 Dra1 Dra2 Dra3 Drm0 Drm1 Drm2 Drm3 Dla0 Dla1 Dla2 Dlm0 Dlm1 Dlm2 Hml Hacc]
  · iframe HR Hlev DRa2 DRa3 DRa4 DRm2 DRm3 DRm4 DLa1 DLa2 DLa3 DLm1 DLm2 DLm3 HO Cra0 Crm0 HLra0 HLrm0 HLla0 HLlm0 HRla0 HRlm0 Pla0 Plm0 Pra1 Prm1 Pla1 Plm1 Pra2 Prm2 Pla2 Plm2 Pra3 Prm3 Dra0 Dra1 Dra2 Dra3 Drm0 Drm1 Drm2 Drm3 Dla0 Dla1 Dla2 Dlm0 Dlm1 Dlm2 Hml Hacc
  iintro ⟨Hml, Hacc, HO, Clm2, HLlm2, ⟨Zra0, Zra1, Zra2, Zra3, Zrm0, Zrm1, Zrm2, Zrm3, Zla0, Zla1, Zla2, Zlm0, Zlm1, Zlm2⟩, ⟨Yra0, Yrm0, Yra1, Yrm1, Yra2, Yrm2, Yra3, Yrm3, Yla0, Ylm0, Yla1, Ylm1, Yla2⟩, ⟨Era0, Era1, Era2, Era3, Era4, Erm0, Erm1, Erm2, Erm3, Erm4, Ela0, Ela1, Ela2, Ela3, Elm0, Elm1, Elm3⟩⟩
  iapply (stage4_even V K c he v16 _ _ wo o hxa hxm px pm hx ht _) $$ [Clm2 Csa Csm HSxa Xa Xm Pxa Pxm Dxa Dxm HO Hml Hacc Hwo Hout]
  · iframe HR Hlev Clm2 Csa Csm HSxa Xa Xm Pxa Pxm Dxa Dxm HO Hml Hacc Hwo Hout
  iintro ⟨Ysnlm2, Blm2, Ysa, Bsa, Ysm, Bsm, Cxa, Cxm, Zxa, Zxm, HO, Hml, Hacc, Hwo, Hout, HXa, HXm⟩
  iapply (tail_even V K c _ wo o _ hxm px pm Q) $$ [Cxa Cxm HO Hml Hwo Hout]
  · iframe HR Hlev Cxa Cxm HO Hml Hwo Hout
  iintro ⟨Yxa, Yxm, HSxa, HO, Hml, Hwo, Hout⟩
  ihave Elm2 := (back_lm V 2 c 2 _ rfl rfl) $$ [HLlm2 Blm2]
  · isplitl [HLlm2]
    · iexact HLlm2
    iexact Blm2
  ihave HSsa := (show sndPay V .sa c ⊢ SsaE (F := F) c from Entails.of_eq rfl) $$ Bsa
  ihave HSsm := (show sndPay V .sm c ⊢ SsmE (F := F) c from Entails.of_eq rfl) $$ Bsm
  iapply Hk
  unfold doneM zeros XaE XmE
  iframe
  isplitl [HXa HXm]
  · isplitl [HXa]
    · iexists _; iexact HXa
    iexists _; iexact HXm
  isplitl [Hml]
  · iexists _; iexact Hml
  iexists _; iexact Hacc

set_option maxHeartbeats 4000000 in
/-- The whole body on an odd device. -/
theorem body_odd (c : Dev nD) (he : even c = false) (W : Waits sig Unit) (x : FVec F S2x128x512 .f32) (wq : FVec F S512x256 .f32) (kk vv : FVec F S2x128x4x64 .f32) (wo : FVec F S256x512 .f32)
    (o r : FVec F S2x128x512 .f32) (s0 : FVec F S2x4x128 .f32) (a0 : FVec F S512x64 .f32)
    (hxa : V.xa c = k0_pay207 (finA V c (V.pm c) (extf .f32 (V.pa c) bitsLt_bf16_f32))) (hxm : V.xm c = finM V c (V.pm c))
    (px : FVec F S512x64 .bf16) (pm : FVec F S2x4x128 .f32) (hx : V.xa (pt c) = px) (ht : V.xm (pt c) = pm)
    (hr : r = (halves (othHalf px pm wo) (ownHalf (finA V c (V.pm c) (extf .f32 (V.pa c) bitsLt_bf16_f32)) (finM V c (V.pm c)) wo))) (Q : PUnit → sProp 𝕄) :
    iprop(records V K ∗ owes (c : Thread nD τ) (O₀ c) W
      ∗ (dutyTok ER (kcell (lf c, .bar)) 0 0 ∗ dutyTok ER (kcell (rt c, .bar)) 0 1 ∗ dutyTok ER (kcell (pt c, .bar)) 0 2)
      ∗ (rSlots (F := F) c ∗ lSlots (F := F) c ∗ xSlots (F := F) c)
      ∗ levAts L lv ∗ dueBar c ∗ (due .sa c ∗ due .sm c ∗ atPos ER (kcell (c, .snd .sa)) 0 ∅ 0 ∗ atPos ER (kcell (c, .snd .sm)) 0 ∅ 0)
      ∗ (pend (.ra 0) c ∗ pend (.ra 1) c ∗ pend (.ra 2) c ∗ pend (.ra 3) c ∗ pend (.rm 0) c ∗ pend (.rm 1) c ∗ pend (.rm 2) c ∗ pend (.rm 3) c ∗ pend (.la 0) c ∗ pend (.la 1) c ∗ pend (.la 2) c ∗ pend (.lm 0) c ∗ pend (.lm 1) c ∗ pend (.lm 2) c ∗ pend .xa c ∗ pend .xm c)
      ∗ (due (.ra 0) c ∗ due (.ra 1) c ∗ due (.ra 2) c ∗ due (.ra 3) c ∗ due (.rm 0) c ∗ due (.rm 1) c ∗ due (.rm 2) c ∗ due (.rm 3) c ∗ due (.la 0) c ∗ due (.la 1) c ∗ due (.la 2) c ∗ due (.lm 0) c ∗ due (.lm 1) c ∗ due (.lm 2) c ∗ due .xa c ∗ due .xm c)
      ∗ (LaE (F := F) c 0 ∗ LmE (F := F) c 0)
      ∗ (SsaE (F := F) c ∗ SsmE (F := F) c ∗ SxaE (F := F) c) ∗ (bMl.view.loc (c : Thread nD τ) ↦{fullShare} (s0 : Buf (Elt F) (bMl.view.loc (c : Thread nD τ)))) ∗ (bAcc.view.loc (c : Thread nD τ) ↦{fullShare} (a0 : Buf (Elt F) (bAcc.view.loc (c : Thread nD τ))))
      ∗ ((bX.view.loc (c : Thread nD τ) ↦{fullShare} (x : Buf (Elt F) (bX.view.loc (c : Thread nD τ)))) ∗ (bWq.view.loc (c : Thread nD τ) ↦{fullShare} (wq : Buf (Elt F) (bWq.view.loc (c : Thread nD τ)))) ∗ (bK.view.loc (c : Thread nD τ) ↦{fullShare} (kk : Buf (Elt F) (bK.view.loc (c : Thread nD τ)))) ∗ (bV.view.loc (c : Thread nD τ) ↦{fullShare} (vv : Buf (Elt F) (bV.view.loc (c : Thread nD τ))))) ∗ (bWo.view.loc (c : Thread nD τ) ↦{fullShare} (wo : Buf (Elt F) (bWo.view.loc (c : Thread nD τ)))) ∗ (bOut.view.loc (c : Thread nD τ) ↦{fullShare} (o : Buf (Elt F) (bOut.view.loc (c : Thread nD τ))))
      ∗ ((doneM (F := F) c ∗ zeros (F := F) c ∗ ow c []
      ∗ ((bX.view.loc (c : Thread nD τ) ↦{fullShare} (x : Buf (Elt F) (bX.view.loc (c : Thread nD τ)))) ∗ (bWq.view.loc (c : Thread nD τ) ↦{fullShare} (wq : Buf (Elt F) (bWq.view.loc (c : Thread nD τ)))) ∗ (bK.view.loc (c : Thread nD τ) ↦{fullShare} (kk : Buf (Elt F) (bK.view.loc (c : Thread nD τ)))) ∗ (bV.view.loc (c : Thread nD τ) ↦{fullShare} (vv : Buf (Elt F) (bV.view.loc (c : Thread nD τ))))) ∗ (bWo.view.loc (c : Thread nD τ) ↦{fullShare} (wo : Buf (Elt F) (bWo.view.loc (c : Thread nD τ)))) ∗ (bOut.view.loc (c : Thread nD τ) ↦{fullShare} (r : Buf (Elt F) (bOut.view.loc (c : Thread nD τ))))) -∗ Q ⟨⟩))
    ⊢ wp frame (wpE (defs₀ (F := F)) 𝒱₀ (c : Thread nD τ) none) Set.univ (cc0_body bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)) Q := by
  subst hr
  have hpb : parB c = 0#1 := by unfold parB; rw [he]; rfl
  rw [cc0_body_eq_skeleton]; unfold cc0_body_skel
  rw [wp_bind, k0_part51_eq_skeleton]; unfold k0_part51_skel
  refine part14_run c _ _ _ ?_
  intro v12 v13 v16 v27 v28 v33 v35 h13
  rw [hpb] at h13; subst h13
  refine part15_run c _ _ _ _ _ _ _ _ _ _ _ ?_
  intro v65 v76
  refine part16_run V K c W _ _ _ _ _ _ _ _ _ ?_
  intro v82 v99
  rw [show todo c = ring from by unfold todo; rw [he]; rfl]
  unfold ring
  iintro ⟨#HR, HO, #Hlev, Hbar, ⟨Dsa, Dsm, Asa, Asm⟩, ⟨Pra0, Pra1, Pra2, Pra3, Prm0, Prm1, Prm2, Prm3, Pla0, Pla1, Pla2, Plm0, Plm1, Plm2, Pxa, Pxm⟩, ⟨Dra0, Dra1, Dra2, Dra3, Drm0, Drm1, Drm2, Drm3, Dla0, Dla1, Dla2, Dlm0, Dlm1, Dlm2, Dxa, Dxm⟩, ⟨Ela, Elm⟩, ⟨HSsa, HSsm, HSxa⟩, Hml, Hacc, Hin, Hwo, Hout, Hk⟩
  imod (close_idle V K (.snd .sa) c (show (if even c = true then ({0} : Finset (Fin 3)) else ∅) = ∅ by rw [he]; rfl)) $$ [Asa] with Ksa
  · iframe HR Asa
  imod (close_idle V K (.snd .sm) c (show (if even c = true then ({0} : Finset (Fin 3)) else ∅) = ∅ by rw [he]; rfl)) $$ [Asm] with Ksm
  · iframe HR Asm
  iapply (part17_odd V K c he _ _ _ _ _ _ s0 a0 _ _) $$ [Hbar HO Dsa Dsm Ela Elm Hml Hacc Pra0 Prm0]
  · iframe HR Hlev Hbar HO Dsa Dsm Ela Elm Hml Hacc Pra0 Prm0
  iintro ⟨⟨Zrsa, Zrsm⟩, Hacc, Zbar, ⟨⟨DRa2, DRa3, DRa4⟩, ⟨DRm2, DRm3, DRm4⟩⟩, ⟨⟨DLa1, DLa2, DLa3⟩, ⟨DLm1, DLm2, DLm3⟩⟩, ⟨Xa, Xm⟩, HO, ⟨Cra0, Crm0⟩, ⟨HLra0, HLrm0, HLla0, HLlm0⟩, ⟨HRla0, HRlm0⟩, Hml⟩
  iapply (mid V K c v82 v99 _ _ _ _ _) $$ [DRa2 DRa3 DRa4 DRm2 DRm3 DRm4 DLa1 DLa2 DLa3 DLm1 DLm2 DLm3 HO Cra0 Crm0 HLra0 HLrm0 HLla0 HLlm0 HRla0 HRlm0 Pla0 Plm0 Pra1 Prm1 Pla1 Plm1 Pra2 Prm2 Pla2 Plm2 Pra3 Prm3 Dra0 Dra1 Dra2 Dra3 Drm0 Drm1 Drm2 Drm3 Dla0 Dla1 Dla2 Dlm0 Dlm1 Dlm2 Hml Hacc]
  · iframe HR Hlev DRa2 DRa3 DRa4 DRm2 DRm3 DRm4 DLa1 DLa2 DLa3 DLm1 DLm2 DLm3 HO Cra0 Crm0 HLra0 HLrm0 HLla0 HLlm0 HRla0 HRlm0 Pla0 Plm0 Pra1 Prm1 Pla1 Plm1 Pra2 Prm2 Pla2 Plm2 Pra3 Prm3 Dra0 Dra1 Dra2 Dra3 Drm0 Drm1 Drm2 Drm3 Dla0 Dla1 Dla2 Dlm0 Dlm1 Dlm2 Hml Hacc
  iintro ⟨Hml, Hacc, HO, Clm2, HLlm2, ⟨Zra0, Zra1, Zra2, Zra3, Zrm0, Zrm1, Zrm2, Zrm3, Zla0, Zla1, Zla2, Zlm0, Zlm1, Zlm2⟩, ⟨Yra0, Yrm0, Yra1, Yrm1, Yra2, Yrm2, Yra3, Yrm3, Yla0, Ylm0, Yla1, Ylm1, Yla2⟩, ⟨Era0, Era1, Era2, Era3, Era4, Erm0, Erm1, Erm2, Erm3, Erm4, Ela0, Ela1, Ela2, Ela3, Elm0, Elm1, Elm3⟩⟩
  iapply (stage4_odd V K c he v16 _ _ wo o hxa hxm px pm hx ht _) $$ [Clm2 HSxa Xa Xm Pxa Pxm Dxa Dxm HO Hml Hacc Hwo Hout]
  · iframe HR Hlev Clm2 HSxa Xa Xm Pxa Pxm Dxa Dxm HO Hml Hacc Hwo Hout
  iintro ⟨Ysnlm2, Blm2, Cxa, Cxm, Zxa, Zxm, HO, Hml, Hacc, Hwo, Hout, HXa, HXm⟩
  iapply (tail_odd V K c _ wo o _ hxm px pm Q) $$ [Cxa Cxm HO Hml Hwo Hout]
  · iframe HR Hlev Cxa Cxm HO Hml Hwo Hout
  iintro ⟨Yxa, Yxm, HSxa, HO, Hml, Hwo, Hout⟩
  ihave Elm2 := (back_lm V 2 c 2 _ rfl rfl) $$ [HLlm2 Blm2]
  · isplitl [HLlm2]
    · iexact HLlm2
    iexact Blm2
  iapply Hk
  unfold doneM zeros XaE XmE
  iframe
  isplitl [HXa HXm]
  · isplitl [HXa]
    · iexists _; iexact HXa
    iexists _; iexact HXm
  isplitl [Hml]
  · iexists _; iexact Hml
  iexists _; iexact Hacc

end Cert.SparseRing

end
-- ==== Proof.Ghost.lean ====
/- The protocol's cells at the launch: they are allocated, every token goes to the device which pays with it, and the credit of
   all that is owed goes to the devices which wait for it. -/
module

public import proofs.«01_k».proof.Proof.Slots
public import proofs.«01_k».proof.Proof.Body
public import Idealize.ShloMosaic.Lib.SparseCore.Launch

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic

variable {F : FTy → Type} [FloatOps F]

local notation "𝕄" => MT nD τ sig Unit (Elt F) ℕ UU ℕ

variable (V : Vals F) (K : Dev nD × Cl → ℕ)

/-! ## Allocation -/

section Ghost
omit [FloatOps F]

def rtE : Dev nD ≃ Dev nD := ⟨rt, lf, lf_rt, rt_lf⟩
def ptE : Dev nD ≃ Dev nD := ⟨pt, pt, pt_pt, pt_pt⟩
def dstE (i : Ch) : Dev nD ≃ Dev nD := ⟨dst i, org i, org_dst i, dst_org i⟩
/-- Every copy followed to where it goes. -/
def goE : Dev nD × Ch ≃ Dev nD × Ch :=
  ⟨fun x => (dst x.2 x.1, x.2), fun x => (org x.2 x.1, x.2), fun x => Prod.ext (org_dst x.2 x.1) rfl, fun x => Prod.ext (dst_org x.2 x.1) rfl⟩

def allCells : Finset (GSem nD τ sig) := Finset.univ.map ⟨kcell, kcell_inj⟩
abbrev tokOf (x : (Dev nD × Cl) × Fin 3) : GSem nD τ sig × ℕ × Fin 3 := (kcell x.1, 0, x.2)
theorem tokOf_inj : Function.Injective tokOf := fun x y h =>
  Prod.ext (kcell_inj (congrArg Prod.fst h)) (congrArg (fun z : GSem nD τ sig × ℕ × Fin 3 => z.2.2) h)
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- The tokens of a device's own cells. -/
def toksAt (c : Dev nD) : sProp 𝕄 := bigSep Finset.univ fun k : Cl => bigSep Finset.univ fun d : Fin 3 => dutyTok ER (kcell (c, k)) 0 d
/-- The tokens that a device pays with. -/
def payToks (c : Dev nD) : sProp 𝕄 :=
  iprop((dutyTok ER (kcell (lf c, .bar)) 0 0 ∗ dutyTok ER (kcell (rt c, .bar)) 0 1 ∗ dutyTok ER (kcell (pt c, .bar)) 0 2)
    ∗ (bigSep Finset.univ fun i : Ch => dutyTok ER (kcell (c, .snd i)) 0 0) ∗ bigSep Finset.univ fun i : Ch => dutyTok ER (kcell (dst i c, .rcv i)) 0 0)
def posAt (c : Dev nD) : sProp 𝕄 := bigSep Finset.univ fun k : Cl => atPos ER (kcell (c, k)) 0 ∅ 0

def G (c : Dev nD) : sProp 𝕄 :=
  iprop((bigSep Finset.univ fun k : Cl => roundState ER (Rd V) (kcell (c, k)) 0) ∗ (posAt (F := F) c ∗ bigSep Finset.univ fun k : Cl => reached ER (kcell (c, k)) 0) ∗ toksAt (F := F) c)
def G' (c : Dev nD) : sProp 𝕄 := iprop(∃ K, records V K ∗ posAt (F := F) c ∗ payToks (F := F) c)

theorem fund_cells : BI.own (ER (initOf allCells allToks)) ⊢ (|==> bigSep Finset.univ (G V) : sProp 𝕄) := by
  have hX (Φ : GSem nD τ sig → sProp 𝕄) : bigSep allCells Φ = bigSep Finset.univ fun c : Dev nD => bigSep Finset.univ fun k : Cl => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toksAt c := by
    unfold allToks; rw [bigSep_map, bigSep_univ_prod, bigSep_univ_prod]; rfl
  iintro HX
  imod (Rounds.fund ER (Rd V) allCells allToks) $$ HX with ⟨Hst, Hr, Hat, Htok⟩
  imodintro
  ihave Hst' := (Entails.of_eq (hX fun g => roundState ER (Rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAt; simp only [bigSep_sep']
  isplitl [Hst']; · iexact Hst'
  isplitl [Hat' Hr']
  · isplitl [Hat'] <;> iassumption
  iexact Htok'

abbrev osem : Fin 36 → SemLoc sig := fun j => .dma ⟨6 + j.val, Nat.add_lt_add_left j.isLt 6⟩

/-- The kernel's own semaphores, one by one. -/
theorem own_eq (c : Dev nD) : (Pipeline.ownSems0 (Ix := Unit) (Name := ℕ) (U := UU) (Lvl := ℕ) (Val := Elt F) (τ := τ) osem c : sProp 𝕄)
    = iprop(shut (.snd (.ra 0)) c ∗ shut (.snd (.ra 1)) c ∗ shut (.snd (.ra 2)) c ∗ shut (.snd (.ra 3)) c ∗ shut (.rcv (.ra 0)) c ∗ shut (.rcv (.ra 1)) c ∗ shut (.rcv (.ra 2)) c ∗ shut (.rcv (.ra 3)) c ∗ shut (.snd (.rm 0)) c ∗ shut (.snd (.rm 1)) c ∗ shut (.snd (.rm 2)) c ∗ shut (.snd (.rm 3)) c ∗ shut (.rcv (.rm 0)) c ∗ shut (.rcv (.rm 1)) c ∗ shut (.rcv (.rm 2)) c ∗ shut (.rcv (.rm 3)) c ∗ shut (.snd (.la 0)) c ∗ shut (.snd (.la 1)) c ∗ shut (.snd (.la 2)) c ∗ shut (.rcv (.la 0)) c ∗ shut (.rcv (.la 1)) c ∗ shut (.rcv (.la 2)) c ∗ shut (.snd (.lm 0)) c ∗ shut (.snd (.lm 1)) c ∗ shut (.snd (.lm 2)) c ∗ shut (.rcv (.lm 0)) c ∗ shut (.rcv (.lm 1)) c ∗ shut (.rcv (.lm 2)) c ∗ shut (.snd .sa) c ∗ shut (.rcv .sa) c ∗ shut (.snd .sm) c ∗ shut (.rcv .sm) c ∗ shut (.snd .xa) c ∗ shut (.rcv .xa) c ∗ shut (.snd .xm) c ∗ shut (.rcv .xm) c) := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35] (by decide) (by decide)]
  rfl
/-- The barrier's semaphore is the one that outlives the call. -/
theorem unscoped_eq (c : Dev nD) : (unscopedSems0 c : sProp 𝕄) = shut .bar c := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (kcell (c, k)) 0 : sProp 𝕄) := by
  rw [own_eq, unscoped_eq, sep_cl]; unfold shut
  iintro ⟨H, HB⟩
  isplitl [HB]
  · iexact HB
  iexact H
theorem zeros_split (c : Dev nD) : zeros (F := F) c
      ⊢ iprop(unscopedSems0 c ∗ Pipeline.ownSems0 (Ix := Unit) (Name := ℕ) (U := UU) (Lvl := ℕ) (Val := Elt F) (τ := τ) osem c) := by
  rw [own_eq, unscoped_eq]; exact BI.Entails.refl _

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (Rd V) κ (kcell (c, k))))
          ∗ (bigSep Finset.univ fun k : Cl => reached ER (kcell (c, k)) 0) ∗ posAt c ∗ toksAt c) := by
  unfold G
  iintro ⟨Hos, Hus, Hst, ⟨Hat, Hr⟩, Htok⟩
  ihave Hv := (sems_eq (F := F) c) $$ [Hos Hus]
  · isplitl [Hos] <;> iassumption
  imod (show iprop((bigSep Finset.univ fun k : Cl => semVal (kcell (c, k)) 0) ∗ bigSep Finset.univ fun k : Cl => roundState ER (Rd V) (kcell (c, k)) 0)
      ⊢ (|={Set.univ}=> bigSep Finset.univ fun k => iprop(∃ κ : ℕ, cellInv ER (Rd V) κ (kcell (c, k))) : sProp 𝕄) from by
        rw [← bigSep_sep']
        exact (bigSep_mono fun k _ => (Rounds.body_intro ER (Rd V) (kcell (c, k))).trans inv_alloc).trans (bigSep_fupd _ _)) $$ [Hv Hst] with Hinv
  · isplitl [Hv] <;> iassumption
  imodintro
  iframe Hinv Hr Hat Htok

/-! ## The tokens -/

theorem toks_split (c : Dev nD) : toksAt (F := F) c ⊢ iprop((dutyTok ER (kcell (c, .bar)) 0 0 ∗ dutyTok ER (kcell (c, .bar)) 0 1 ∗ dutyTok ER (kcell (c, .bar)) 0 2)
    ∗ (bigSep Finset.univ fun i : Ch => dutyTok ER (kcell (c, .snd i)) 0 0) ∗ bigSep Finset.univ fun i : Ch => dutyTok ER (kcell (c, .rcv i)) 0 0) := by
  have hf (Φ : Fin 3 → sProp 𝕄) : bigSep Finset.univ Φ = iprop(Φ 0 ∗ Φ 1 ∗ Φ 2) := bigSep_univ_eq_bigSepL [0, 1, 2] (by decide) (by decide) Φ
  unfold toksAt
  rw [sep_cl, sep_ch, sep_ch]
  simp only [hf]
  iintro ⟨Hb, ⟨Hsra0, -, -⟩, ⟨Hsra1, -, -⟩, ⟨Hsra2, -, -⟩, ⟨Hsra3, -, -⟩, ⟨Hrra0, -, -⟩, ⟨Hrra1, -, -⟩, ⟨Hrra2, -, -⟩, ⟨Hrra3, -, -⟩, ⟨Hsrm0, -, -⟩, ⟨Hsrm1, -, -⟩, ⟨Hsrm2, -, -⟩, ⟨Hsrm3, -, -⟩, ⟨Hrrm0, -, -⟩, ⟨Hrrm1, -, -⟩, ⟨Hrrm2, -, -⟩, ⟨Hrrm3, -, -⟩, ⟨Hsla0, -, -⟩, ⟨Hsla1, -, -⟩, ⟨Hsla2, -, -⟩, ⟨Hrla0, -, -⟩, ⟨Hrla1, -, -⟩, ⟨Hrla2, -, -⟩, ⟨Hslm0, -, -⟩, ⟨Hslm1, -, -⟩, ⟨Hslm2, -, -⟩, ⟨Hrlm0, -, -⟩, ⟨Hrlm1, -, -⟩, ⟨Hrlm2, -, -⟩, ⟨Hssa, -, -⟩, ⟨Hrsa, -, -⟩, ⟨Hssm, -, -⟩, ⟨Hrsm, -, -⟩, ⟨Hsxa, -, -⟩, ⟨Hrxa, -, -⟩, ⟨Hsxm, -, -⟩, ⟨Hrxm, -, -⟩⟩
  iframe Hb Hsra0 Hsra1 Hsra2 Hsra3 Hrra0 Hrra1 Hrra2 Hrra3 Hsrm0 Hsrm1 Hsrm2 Hsrm3 Hrrm0 Hrrm1 Hrrm2 Hrrm3 Hsla0 Hsla1 Hsla2 Hrla0 Hrla1 Hrla2 Hslm0 Hslm1 Hslm2 Hrlm0 Hrlm1 Hrlm2 Hssa Hrsa Hssm Hrsm Hsxa Hrxa Hsxm Hrxm

theorem toks_around : (bigSep Finset.univ fun c : Dev nD => (toksAt c : sProp 𝕄)) ⊢ bigSep Finset.univ fun c : Dev nD => payToks c := by
  refine (bigSep_mono fun c _ => toks_split c).trans ?_
  unfold payToks
  have hgo : (bigSep Finset.univ fun c : Dev nD => bigSep Finset.univ fun i : Ch => (dutyTok ER (kcell (c, .rcv i)) 0 0 : sProp 𝕄))
      = bigSep Finset.univ fun c : Dev nD => bigSep Finset.univ fun i : Ch => dutyTok ER (kcell (dst i c, .rcv i)) 0 0 := by
    rw [← bigSep_univ_prod (fun x : Dev nD × Ch => (dutyTok ER (kcell (x.1, .rcv x.2)) 0 0 : sProp 𝕄)), bigSep_univ_equiv goE, bigSep_univ_prod]; rfl
  rw [bigSep_sep', bigSep_sep', bigSep_sep', bigSep_sep', bigSep_sep', bigSep_sep', bigSep_sep', bigSep_sep',
    bigSep_univ_equiv rtE.symm (fun c : Dev nD => (dutyTok ER (kcell (c, .bar)) 0 0 : sProp 𝕄)),
    bigSep_univ_equiv rtE (fun c : Dev nD => (dutyTok ER (kcell (c, .bar)) 0 1 : sProp 𝕄)),
    bigSep_univ_equiv ptE (fun c : Dev nD => (dutyTok ER (kcell (c, .bar)) 0 2 : sProp 𝕄)), hgo]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd V) κ (kcell (c, k))))
          ∗ (bigSep Finset.univ fun k : Cl => reached ER (kcell (c, k)) 0) ∗ posAt c ∗ toksAt c) : sProp 𝕄)
      ⊢ bigSep Finset.univ (G' V) := by
  rw [bigSep_sep', bigSep_sep', bigSep_sep', ← bigSep_univ_prod (fun ck : Dev nD × Cl => iprop(∃ κ : ℕ, cellInv ER (Rd V) κ (kcell ck))),
    ← bigSep_univ_prod (fun ck : Dev nD × Cl => (reached ER (kcell ck) 0 : sProp 𝕄))]
  iintro ⟨HI, #HR, Hat, Htok⟩
  ihave HK := (BI.bigSep_exists_pi Finset.univ (fun (ck : Dev nD × Cl) (κ : ℕ) => (cellInv ER (Rd V) κ (kcell ck) : sProp 𝕄))) $$ HI
  icases HK with ⟨%K, #HI⟩
  ihave Htk := (toks_around (F := F)) $$ Htok
  iapply (with_persistent (R := records V K) (Φ := fun c => iprop(posAt c ∗ payToks c)) fun c _ => show _ ⊢ G' V c from by
    unfold G'
    iintro H
    iexists K
    iexact H)
  isplitr
  · unfold records; isplitl
    · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The credit -/

/-- What is owed to a device. -/
def T (c : Dev nD) : CellTallies nD τ sig Unit :=
  tallyAt (kcell (c, .bar)) () 3 + ∑ i : Ch, if gets i c then tallyAt (kcell (c, .rcv i)) () (amt i) else 0

theorem O_sum (c : Dev nD) (l : List Ch) : O c l = (l.map fun i => (tallyAt (kcell (dst i c, .rcv i)) () (amt i) : CellTallies nD τ sig Unit)).sum := by
  induction l with
  | nil => rfl
  | cons i l ih => rw [O, ih, List.map_cons, List.sum_cons, add_comm]

set_option maxRecDepth 4000 in
theorem todo_spec (c : Dev nD) : (todo c).Nodup ∧ (todo c).toFinset = Finset.univ.filter fun i => sends i c = true := by
  revert c; decide

theorem O_todo (c : Dev nD) : O c (todo c) = ∑ i : Ch, if gets i (dst i c) then (tallyAt (kcell (dst i c, .rcv i)) () (amt i) : CellTallies nD τ sig Unit) else 0 := by
  rw [O_sum, ← List.sum_toFinset _ (todo_spec c).1, (todo_spec c).2, Finset.sum_filter]
  exact Finset.sum_congr rfl fun i _ => by rw [gets_dst]

theorem owed_sum : ∑ d, O₀ d = ∑ d, T d := by
  have hb (e : Dev nD ≃ Dev nD) : (∑ d, tallyAt (kcell (e d, .bar)) () 1 : CellTallies nD τ sig Unit) = ∑ d, tallyAt (kcell (d, .bar)) () 1 :=
    Equiv.sum_comp e fun d => (tallyAt (kcell (d, .bar)) () 1 : CellTallies nD τ sig Unit)
  have hO : ∑ d, O d (todo d) = ∑ d, ∑ i : Ch, if gets i d then (tallyAt (kcell (d, .rcv i)) () (amt i) : CellTallies nD τ sig Unit) else 0 := by
    rw [Finset.sum_congr rfl fun d _ => O_todo d, Finset.sum_comm, Finset.sum_comm (s := (Finset.univ : Finset (Dev nD)))]
    exact Finset.sum_congr rfl fun i _ => Equiv.sum_comp (dstE i) fun d => if gets i d then (tallyAt (kcell (d, .rcv i)) () (amt i) : CellTallies nD τ sig Unit) else 0
  unfold O₀ T
  rw [Finset.sum_add_distrib, Finset.sum_add_distrib, Finset.sum_add_distrib, Finset.sum_add_distrib, hO]
  rw [show (∑ d, tallyAt (kcell (pt d, .bar)) () 1 : CellTallies nD τ sig Unit) = _ from hb ptE,
    show (∑ d, tallyAt (kcell (rt d, .bar)) () 1 : CellTallies nD τ sig Unit) = _ from hb rtE,
    show (∑ d, tallyAt (kcell (lf d, .bar)) () 1 : CellTallies nD τ sig Unit) = _ from hb rtE.symm,
    add_assoc, add_assoc, add_comm, ← Finset.sum_add_distrib, ← Finset.sum_add_distrib]
  congr 1
  exact Finset.sum_congr rfl fun d _ => by rw [tallyAt_add, tallyAt_add]

theorem T_own (d : Dev nD) (g : GSem nD τ sig) (h : T d g ≠ 0) : g.1 = (d.tc : Thread nD τ) := by
  by_contra hn
  refine h ?_
  have hk (k : Cl) : g ≠ kcell (d, k) := fun e => hn (congrArg Prod.fst e)
  unfold T
  rw [Pi.add_apply, tallyAt_ne_cell (hk _), zero_add, Finset.sum_apply]
  exact Finset.sum_eq_zero fun i _ => by
    split
    · exact tallyAt_ne_cell (hk _) _ _
    · rfl

theorem creds (c : Dev nD) : (Pipeline.launchCred O₀ c : sProp 𝕄)
    = iprop(cred (tallyAt (kcell (c, .bar)) () 3) ∗ bigSep Finset.univ fun i : Ch => cred (if gets i c then tallyAt (kcell (c, .rcv i)) () (amt i) else 0)) := by
  rw [Pipeline.launchCred_of_sum O₀ T owed_sum T_own c]
  unfold T
  rw [SparseCore.Cfg.cred_add_eq, SparseCore.Cfg.cred_finsum]

/-! ## What a device starts with, channel by channel -/

def dealt (c : Dev nD) : sProp 𝕄 := iprop(posAt (F := F) c ∗ payToks (F := F) c ∗ Pipeline.launchCred O₀ c)

theorem deal_even (c : Dev nD) (he : even c = true) : dealt (F := F) c ⊢ iprop((dutyTok ER (kcell (lf c, .bar)) 0 0 ∗ dutyTok ER (kcell (rt c, .bar)) 0 1 ∗ dutyTok ER (kcell (pt c, .bar)) 0 2)
    ∗ dueBar c ∗ (pend .sa c ∗ pend .sm c ∗ atPos ER (kcell (c, .rcv .sa)) 0 ∅ 0 ∗ atPos ER (kcell (c, .rcv .sm)) 0 ∅ 0)
    ∗ (pend (.ra 0) c ∗ pend (.ra 1) c ∗ pend (.ra 2) c ∗ pend (.ra 3) c ∗ pend (.rm 0) c ∗ pend (.rm 1) c ∗ pend (.rm 2) c ∗ pend (.rm 3) c ∗ pend (.la 0) c ∗ pend (.la 1) c ∗ pend (.la 2) c ∗ pend (.lm 0) c ∗ pend (.lm 1) c ∗ pend (.lm 2) c ∗ pend .xa c ∗ pend .xm c)
    ∗ (due (.ra 0) c ∗ due (.ra 1) c ∗ due (.ra 2) c ∗ due (.ra 3) c ∗ due (.rm 0) c ∗ due (.rm 1) c ∗ due (.rm 2) c ∗ due (.rm 3) c ∗ due (.la 0) c ∗ due (.la 1) c ∗ due (.la 2) c ∗ due (.lm 0) c ∗ due (.lm 1) c ∗ due (.lm 2) c ∗ due .xa c ∗ due .xm c)) := by
  unfold dealt posAt payToks
  rw [creds, sep_cl, sep_ch, sep_ch, sep_ch]
  simp only [gets, he, Bool.not_true, Bool.not_false, if_true, Bool.false_eq_true, if_false]
  unfold dueBar pend due
  iintro ⟨⟨Ab, Asra0, Asra1, Asra2, Asra3, Arra0, Arra1, Arra2, Arra3, Asrm0, Asrm1, Asrm2, Asrm3, Arrm0, Arrm1, Arrm2, Arrm3, Asla0, Asla1, Asla2, Arla0, Arla1, Arla2, Aslm0, Aslm1, Aslm2, Arlm0, Arlm1, Arlm2, Assa, Arsa, Assm, Arsm, Asxa, Arxa, Asxm, Arxm⟩, ⟨Hb, ⟨Sra0, Sra1, Sra2, Sra3, Srm0, Srm1, Srm2, Srm3, Sla0, Sla1, Sla2, Slm0, Slm1, Slm2, Ssa, Ssm, Sxa, Sxm⟩, ⟨Rra0, Rra1, Rra2, Rra3, Rrm0, Rrm1, Rrm2, Rrm3, Rla0, Rla1, Rla2, Rlm0, Rlm1, Rlm2, Rsa, Rsm, Rxa, Rxm⟩⟩, Cb, ⟨Cra0, Cra1, Cra2, Cra3, Crm0, Crm1, Crm2, Crm3, Cla0, Cla1, Cla2, Clm0, Clm1, Clm2, -, -, Cxa, Cxm⟩⟩
  iframe Ab Asra0 Asra1 Asra2 Asra3 Arra0 Arra1 Arra2 Arra3 Asrm0 Asrm1 Asrm2 Asrm3 Arrm0 Arrm1 Arrm2 Arrm3 Asla0 Asla1 Asla2 Arla0 Arla1 Arla2 Aslm0 Aslm1 Aslm2 Arlm0 Arlm1 Arlm2 Assa Arsa Assm Arsm Asxa Arxa Asxm Arxm Hb Sra0 Sra1 Sra2 Sra3 Srm0 Srm1 Srm2 Srm3 Sla0 Sla1 Sla2 Slm0 Slm1 Slm2 Ssa Ssm Sxa Sxm Rra0 Rra1 Rra2 Rra3 Rrm0 Rrm1 Rrm2 Rrm3 Rla0 Rla1 Rla2 Rlm0 Rlm1 Rlm2 Rsa Rsm Rxa Rxm Cb Cra0 Cra1 Cra2 Cra3 Crm0 Crm1 Crm2 Crm3 Cla0 Cla1 Cla2 Clm0 Clm1 Clm2 Cxa Cxm

theorem deal_odd (c : Dev nD) (he : even c = false) : dealt (F := F) c ⊢ iprop((dutyTok ER (kcell (lf c, .bar)) 0 0 ∗ dutyTok ER (kcell (rt c, .bar)) 0 1 ∗ dutyTok ER (kcell (pt c, .bar)) 0 2)
    ∗ dueBar c ∗ (due .sa c ∗ due .sm c ∗ atPos ER (kcell (c, .snd .sa)) 0 ∅ 0 ∗ atPos ER (kcell (c, .snd .sm)) 0 ∅ 0)
    ∗ (pend (.ra 0) c ∗ pend (.ra 1) c ∗ pend (.ra 2) c ∗ pend (.ra 3) c ∗ pend (.rm 0) c ∗ pend (.rm 1) c ∗ pend (.rm 2) c ∗ pend (.rm 3) c ∗ pend (.la 0) c ∗ pend (.la 1) c ∗ pend (.la 2) c ∗ pend (.lm 0) c ∗ pend (.lm 1) c ∗ pend (.lm 2) c ∗ pend .xa c ∗ pend .xm c)
    ∗ (due (.ra 0) c ∗ due (.ra 1) c ∗ due (.ra 2) c ∗ due (.ra 3) c ∗ due (.rm 0) c ∗ due (.rm 1) c ∗ due (.rm 2) c ∗ due (.rm 3) c ∗ due (.la 0) c ∗ due (.la 1) c ∗ due (.la 2) c ∗ due (.lm 0) c ∗ due (.lm 1) c ∗ due (.lm 2) c ∗ due .xa c ∗ due .xm c)) := by
  unfold dealt posAt payToks
  rw [creds, sep_cl, sep_ch, sep_ch, sep_ch]
  simp only [gets, he, Bool.not_true, Bool.not_false, if_true, Bool.false_eq_true, if_false]
  unfold dueBar pend due
  iintro ⟨⟨Ab, Asra0, Asra1, Asra2, Asra3, Arra0, Arra1, Arra2, Arra3, Asrm0, Asrm1, Asrm2, Asrm3, Arrm0, Arrm1, Arrm2, Arrm3, Asla0, Asla1, Asla2, Arla0, Arla1, Arla2, Aslm0, Aslm1, Aslm2, Arlm0, Arlm1, Arlm2, Assa, Arsa, Assm, Arsm, Asxa, Arxa, Asxm, Arxm⟩, ⟨Hb, ⟨Sra0, Sra1, Sra2, Sra3, Srm0, Srm1, Srm2, Srm3, Sla0, Sla1, Sla2, Slm0, Slm1, Slm2, -, -, Sxa, Sxm⟩, ⟨Rra0, Rra1, Rra2, Rra3, Rrm0, Rrm1, Rrm2, Rrm3, Rla0, Rla1, Rla2, Rlm0, Rlm1, Rlm2, -, -, Rxa, Rxm⟩⟩, Cb, ⟨Cra0, Cra1, Cra2, Cra3, Crm0, Crm1, Crm2, Crm3, Cla0, Cla1, Cla2, Clm0, Clm1, Clm2, Csa, Csm, Cxa, Cxm⟩⟩
  iframe Ab Asra0 Asra1 Asra2 Asra3 Arra0 Arra1 Arra2 Arra3 Asrm0 Asrm1 Asrm2 Asrm3 Arrm0 Arrm1 Arrm2 Arrm3 Asla0 Asla1 Asla2 Arla0 Arla1 Arla2 Aslm0 Aslm1 Aslm2 Arlm0 Arlm1 Arlm2 Assa Arsa Assm Arsm Asxa Arxa Asxm Arxm Hb Sra0 Sra1 Sra2 Sra3 Srm0 Srm1 Srm2 Srm3 Sla0 Sla1 Sla2 Slm0 Slm1 Slm2 Sxa Sxm Rra0 Rra1 Rra2 Rra3 Rrm0 Rrm1 Rrm2 Rrm3 Rla0 Rla1 Rla2 Rlm0 Rlm1 Rlm2 Rxa Rxm Cb Cra0 Cra1 Cra2 Cra3 Crm0 Crm1 Crm2 Crm3 Cla0 Cla1 Cla2 Clm0 Clm1 Clm2 Csa Csm Cxa Cxm

end Ghost

end Cert.SparseRing

end
-- ==== Proof.Run.lean ====
/- The whole run: every device's contents in closed form, the body's obligation, and the launch. -/
module

public import proofs.«01_k».proof.Proof.Ghost
public import Idealize.ShloMosaic.Lib.Pipeline.CollectiveSegs

@[expose] public section

noncomputable section

namespace Cert.SparseRing

open Cert.KernelIdeal Cert.KernelIdeal.Gen Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

section Contents

def s₀ : MemSt nD τ sig (Elt F) := ⟨m, fun _ => 0, ρ⟩

/-- A device's blocks of the arguments, as they are staged. -/
def gx (c : Dev nD) : FVec F S2x128x512 .f32 := (win0_0.blk (0 : Fin 1)).view.read (Elt F) (m ((c : Thread nD τ).loc main_arg0))
def gq (c : Dev nD) : FVec F S512x256 .f32 := (win0_1.blk (0 : Fin 1)).view.read (Elt F) (m ((c : Thread nD τ).loc main_arg1))
def gk (c : Dev nD) : FVec F S2x128x4x64 .f32 := (win0_2.blk (0 : Fin 1)).view.read (Elt F) (m ((c : Thread nD τ).loc main_arg2))
def gv (c : Dev nD) : FVec F S2x128x4x64 .f32 := (win0_3.blk (0 : Fin 1)).view.read (Elt F) (m ((c : Thread nD τ).loc main_arg3))
def go (c : Dev nD) : FVec F S256x512 .f32 := (win0_4.blk (0 : Fin 1)).view.read (Elt F) (m ((c : Thread nD τ).loc main_arg4))

/-- An even device's own partial result for one batch: numerators as computed, numerators rounded, maxima and sums. -/
def ownAcc (c : Dev nD) (b : Fin 2) : FVec F S512x64 .f32 := accOf (e := .f32) (ownA (devW c) (gx m c) (gq m c) (gk m c) (gv m c) b)
def ownAcb (c : Dev nD) (b : Fin 2) : FVec F S512x64 .bf16 := accOf (e := .bf16) (ownH (devW c) (gx m c) (gq m c) (gk m c) (gv m c) b)
def ownSt (c : Dev nD) (b : Fin 2) : FVec F S2x4x128 .f32 := statOf (ownM (devW c) (gx m c) (gq m c) (gk m c) b) (ownL (devW c) (gx m c) (gq m c) (gk m c) b)

/-- What a device puts on the ring: batch 0 of its own on an even device, batch 1 of its partner's on an odd one. -/
def pa (c : Dev nD) : FVec F S512x64 .bf16 := if even c then ownAcb m c 0 else ownAcb m (pt c) 1
def pm (c : Dev nD) : FVec F S2x4x128 .f32 := if even c then ownSt m c 0 else ownSt m (pt c) 1
/-- The numerators a device begins to add to. -/
def acc0 (c : Dev nD) : FVec F S512x64 .f32 := if even c then ownAcc m c 0 else extf .f32 (pa m c) bitsLt_bf16_f32

/-- A device's sums over the eight partial results of its ring. -/
def accF (c : Dev nD) : FVec F S512x64 .f32 := finA ⟨pa m, pm m, pa m, pm m⟩ c (pm m c) (acc0 m c)
def mlF (c : Dev nD) : FVec F S2x4x128 .f32 := finM ⟨pa m, pm m, pa m, pm m⟩ c (pm m c)

def vals : Vals F := ⟨pa m, pm m, fun c => k0_pay207 (accF m c), mlF m⟩

/-- The result on a device. -/
def outF (c : Dev nD) : FVec F S2x128x512 .f32 :=
  if even c then halves (ownHalf (accF m c) (mlF m c) (go m c)) (othHalf (k0_pay207 (accF m (pt c))) (mlF m (pt c)) (go m c))
  else halves (othHalf (k0_pay207 (accF m (pt c))) (mlF m (pt c)) (go m c)) (ownHalf (accF m c) (mlF m c) (go m c))

end Contents

/-! ## The scratch buffers -/

section Rest
omit [FloatOps F]

theorem xSlots_even_of (c : Dev nD) (h : even c = true) : iprop(XaE (F := F) c ∗ XmE (F := F) c) ⊢ xSlots (F := F) c := by
  unfold xSlots; rw [if_pos h]
  iintro H
  isplitl
  · iexact H
  iempintro
theorem xSlots_odd_of (c : Dev nD) (h : even c = false) : iprop((XaE (F := F) c ∗ XmE (F := F) c) ∗ RaE (F := F) c 0 ∗ RmE (F := F) c 0) ⊢ xSlots (F := F) c := by
  unfold xSlots seedSlots; rw [if_neg (by rw [h]; exact Bool.false_ne_true)]

theorem rest_cut (c : Dev nD) : (Pipeline.scopedRest (Ix := Unit) (Name := ℕ) (U := UU) (Lvl := ℕ) (Val := Elt F) spec0 c : sProp 𝕄) ⊢ doneM (F := F) c := by
  rw [scopedRest0_eq]; unfold doneM SsaE SsmE SxaE XaE XmE
  iintro ⟨E0, E1, E2, E3, E20, E21, E22, E23, E24, E25, E26⟩
  ihave F0 := (cutRa (F := F) c) $$ E0
  ihave F1 := (cutRm (F := F) c) $$ E1
  ihave F2 := (cutLa (F := F) c) $$ E2
  ihave F3 := (cutLm (F := F) c) $$ E3
  icases F0 with ⟨A0, A1, A2, A3, A4⟩
  icases F1 with ⟨B0, B1, B2, B3, B4⟩
  icases F2 with ⟨C0, C1, C2, C3⟩
  icases F3 with ⟨D0, D1, D2, D3⟩
  isplitl [A0 A1 A2 A3 A4 B0 B1 B2 B3 B4 C0 C1 C2 C3 D0 D1 D2 D3]
  · iframe A0 A1 A2 A3 A4 B0 B1 B2 B3 B4 C0 C1 C2 C3 D0 D1 D2 D3
  isplitl [E22 E23 E24 E25 E26]
  · isplitl [E22]
    · iexact E22
    isplitl [E23]
    · iexact E23
    isplitl [E24]
    · iexact E24
    isplitl [E25]
    · iexact E25
    iexact E26
  isplitl [E21]
  · iexact E21
  iexact E20

theorem rest_join (c : Dev nD) : doneM (F := F) c ⊢ (Pipeline.scopedRest (Ix := Unit) (Name := ℕ) (U := UU) (Lvl := ℕ) (Val := Elt F) spec0 c : sProp 𝕄) := by
  rw [scopedRest0_eq]; unfold doneM SsaE SsmE SxaE XaE XmE
  iintro ⟨⟨A0, A1, A2, A3, A4, B0, B1, B2, B3, B4, C0, C1, C2, C3, D0, D1, D2, D3⟩, ⟨E22, E23, E24, E25, E26⟩, E21, E20⟩
  ihave E0 := (joinRa (F := F) c) $$ [A0 A1 A2 A3 A4]
  · iframe A0 A1 A2 A3 A4
  ihave E1 := (joinRm (F := F) c) $$ [B0 B1 B2 B3 B4]
  · iframe B0 B1 B2 B3 B4
  ihave E2 := (joinLa (F := F) c) $$ [C0 C1 C2 C3]
  · iframe C0 C1 C2 C3
  ihave E3 := (joinLm (F := F) c) $$ [D0 D1 D2 D3]
  · iframe D0 D1 D2 D3
  isplitl [E0]
  · iexact E0
  isplitl [E1]
  · iexact E1
  isplitl [E2]
  · iexact E2
  isplitl [E3]
  · iexact E3
  isplitl [E20]
  · iexact E20
  isplitl [E21]
  · iexact E21
  isplitl [E22]
  · iexact E22
  isplitl [E23]
  · iexact E23
  isplitl [E24]
  · iexact E24
  isplitl [E25]
  · iexact E25
  iexact E26

end Rest

/-! ## The body's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts the call with, beside its staged arguments and its scratch. -/
def start (c : Dev nD) : sProp 𝕄 := iprop(G' (vals m) c ∗ Pipeline.launchCred O₀ c ∗ levAts L lv)
def Φ₀ (c : Dev nD) : sProp 𝕄 := iprop(start m c ∗ Pipeline.scopedRest spec0 c)
def Φ₁ (c : Dev nD) : sProp 𝕄 :=
  iprop(unscopedSems0 c ∗ Pipeline.ownSems0 (Ix := Unit) (Name := ℕ) (U := UU) (Lvl := ℕ) (Val := Elt F) (τ := τ) osem c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gx m c
    | ⟨1, _⟩ => gq m c
    | ⟨2, _⟩ => gk m c
    | ⟨3, _⟩ => gv m c
    | ⟨4, _⟩ => go m c
    | ⟨5, _⟩ => outF m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ
    ∗ stg c cc0_stg0_0 (gx m c) ∗ stg c cc0_stg1_0 (gq m c) ∗ stg c cc0_stg2_0 (gk m c) ∗ stg c cc0_stg3_0 (gv m c) ∗ stg c cc0_stg4_0 (go m c) ∗ stg c cc0_stg5_0 (outF m c))

/-- What is left at the end, put together as the launch takes it. -/
theorem finish (c : Dev nD) (r : FVec F S2x128x512 .f32) (hr : r = outF m c) :
    iprop(doneM (F := F) c ∗ zeros (F := F) c ∗ ow c [] ∗ (((bX.view.loc (c : Thread nD τ) ↦{fullShare} (gx m c : Buf (Elt F) (bX.view.loc (c : Thread nD τ)))) ∗ (bWq.view.loc (c : Thread nD τ) ↦{fullShare} (gq m c : Buf (Elt F) (bWq.view.loc (c : Thread nD τ)))) ∗ (bK.view.loc (c : Thread nD τ) ↦{fullShare} (gk m c : Buf (Elt F) (bK.view.loc (c : Thread nD τ)))) ∗ (bV.view.loc (c : Thread nD τ) ↦{fullShare} (gv m c : Buf (Elt F) (bV.view.loc (c : Thread nD τ)))))
      ∗ (bWo.view.loc (c : Thread nD τ) ↦{fullShare} (go m c : Buf (Elt F) (bWo.view.loc (c : Thread nD τ))))
      ∗ (bOut.view.loc (c : Thread nD τ) ↦{fullShare} (r : Buf (Elt F) (bOut.view.loc (c : Thread nD τ)))))) ⊢ bodyPost m ρ c := by
  subst hr
  unfold bodyPost Φ₁ Dat.owesAt Pipeline.owesWithin ow
  rw [show (dats m ρ 0 c).owed t₀.succ = 0 from rfl]
  iintro ⟨Hd, Hz, ⟨%W, HO⟩, ⟨H0, H1, H2, H3⟩, H4, H5⟩
  ihave Hs := (zeros_split (F := F) c) $$ Hz
  icases Hs with ⟨Hu, Ho⟩
  ihave Hd := (rest_join (F := F) c) $$ Hd
  isplitl [Hu Ho Hd]
  · iframe Hu Ho Hd
  isplitl [HO]
  · iexists W; isplitr
    · ipureintro; exact fun _ _ => Or.inl trivial
    iexact HO
  isplitl [H0]
  · iexists _; isplitr
    · ipureintro; rfl
    iexact H0
  isplitl [H1]
  · iexists _; isplitr
    · ipureintro; rfl
    iexact H1
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  iexists _; isplitr
  · ipureintro; rfl
  iexact H5

theorem sound_even (c : Dev nD) (he : even c = true) (Q : PUnit → sProp 𝕄) :
    iprop(bodyPre m ρ c ∗ (bodyPost m ρ c -∗ Q ⟨⟩)) ⊢ wp frame (wpE (defs₀ (F := F)) 𝒱₀ (c : Thread nD τ) none) Set.univ (cc0_body bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)) Q := by
  have ha0 : acc0 m c = ownAcc m c 0 := by unfold acc0; rw [if_pos he]
  unfold bodyPre Φ₀ start G'
  iintro ⟨⟨⟨⟨⟨%K, #HR, Hpos, Hpay⟩, Hcr, #Hlev⟩, Hrest⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have h0 : g0 = gx m c := by rw [hg0]; unfold Dat.before; rw [if_pos (fetch0_0 t₀)]; rfl
  have h1 : g1 = gq m c := by rw [hg1]; unfold Dat.before; rw [if_pos (fetch0_1 t₀)]; rfl
  have h2 : g2 = gk m c := by rw [hg2]; unfold Dat.before; rw [if_pos (fetch0_2 t₀)]; rfl
  have h3 : g3 = gv m c := by rw [hg3]; unfold Dat.before; rw [if_pos (fetch0_3 t₀)]; rfl
  have h4 : g4 = go m c := by rw [hg4]; unfold Dat.before; rw [if_pos (fetch0_4 t₀)]; rfl
  subst h0; subst h1; subst h2; subst h3; subst h4
  unfold Dat.owesAt Pipeline.owesWithin
  icases Ho with ⟨%W, %hW, HO⟩
  rw [show (dats m ρ 0 c).owed t₀.castSucc = O₀ c from rfl]
  ihave Hdeal := (deal_even (F := F) c he) $$ [Hpos Hpay Hcr]
  · unfold dealt; iframe Hpos Hpay Hcr
  icases Hdeal with ⟨Htok, Hbar, Hseed, Hpend, Hdue⟩
  ihave Hrest := (rest_cut (F := F) c) $$ Hrest
  unfold doneM
  icases Hrest with ⟨⟨A0, A1, A2, A3, A4, B0, B1, B2, B3, B4, C0, C1, C2, C3, D0, D1, D2, D3⟩, ⟨X22, X23, X24, X25, X26⟩, ⟨%s0, Hml⟩, ⟨%a0, Hacc⟩⟩
  ihave Hx := (xSlots_even_of (F := F) c he) $$ [X25 X26]
  · iframe X25 X26
  ihave Hr : rSlots (F := F) c $$ [A1 A2 A3 A4 B1 B2 B3 B4]
  · unfold rSlots; iframe A1 A2 A3 A4 B1 B2 B3 B4
  ihave Hl : lSlots (F := F) c $$ [C1 C2 C3 D1 D2 D3]
  · unfold lSlots; iframe C1 C2 C3 D1 D2 D3
  iapply (body_even (vals m) K c he W (gx m c) (gq m c) (gk m c) (gv m c) (go m c) g5 (outF m c) s0 a0
      (by show pa m (pt c) = _; unfold pa; rw [if_neg (by rw [even_pt, he]; decide), pt_pt]; rfl) (by show pm m (pt c) = _; unfold pm; rw [if_neg (by rw [even_pt, he]; decide), pt_pt]; rfl)
      (by show pa m c = _; unfold pa; rw [if_pos he]; rfl) (by show pm m c = _; unfold pm; rw [if_pos he]; rfl)
      (by show k0_pay207 (accF m c) = _; unfold accF; rw [ha0]; rfl) rfl
      (k0_pay207 (accF m (pt c))) (mlF m (pt c)) rfl rfl (by unfold outF; rw [if_pos he]; unfold accF; rw [ha0]; rfl) Q)
  isplitr
  · iexact HR
  isplitl [HO]
  · iexact HO
  isplitl [Htok]
  · iexact Htok
  isplitl [Hr Hl Hx]
  · iframe Hr Hl Hx
  isplitr
  · iexact Hlev
  isplitl [Hbar]
  · iexact Hbar
  isplitl [Hseed]
  · iexact Hseed
  isplitl [Hpend]
  · iexact Hpend
  isplitl [Hdue]
  · iexact Hdue
  isplitl [A0 B0 C0 D0]
  · iframe A0 B0 C0 D0
  isplitl [X22 X23 X24]
  · iframe X22 X23 X24
  isplitl [Hml]
  · iexact Hml
  isplitl [Hacc]
  · iexact Hacc
  isplitl [H0 H1 H2 H3]
  · isplitl [H0]
    · iexact H0
    isplitl [H1]
    · iexact H1
    isplitl [H2]
    · iexact H2
    iexact H3
  isplitl [H4]
  · iexact H4
  isplitl [H5]
  · iexact H5
  iintro H
  iapply Hk
  iapply (finish m ρ c (outF m c) rfl)
  iexact H

theorem sound_odd (c : Dev nD) (he : even c = false) (Q : PUnit → sProp 𝕄) :
    iprop(bodyPre m ρ c ∗ (bodyPost m ρ c -∗ Q ⟨⟩)) ⊢ wp frame (wpE (defs₀ (F := F)) 𝒱₀ (c : Thread nD τ) none) Set.univ (cc0_body bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)) Q := by
  have ha0 : acc0 m c = extf .f32 (pa m c) bitsLt_bf16_f32 := by unfold acc0; rw [if_neg (by rw [he]; decide)]
  unfold bodyPre Φ₀ start G'
  iintro ⟨⟨⟨⟨⟨%K, #HR, Hpos, Hpay⟩, Hcr, #Hlev⟩, Hrest⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have h0 : g0 = gx m c := by rw [hg0]; unfold Dat.before; rw [if_pos (fetch0_0 t₀)]; rfl
  have h1 : g1 = gq m c := by rw [hg1]; unfold Dat.before; rw [if_pos (fetch0_1 t₀)]; rfl
  have h2 : g2 = gk m c := by rw [hg2]; unfold Dat.before; rw [if_pos (fetch0_2 t₀)]; rfl
  have h3 : g3 = gv m c := by rw [hg3]; unfold Dat.before; rw [if_pos (fetch0_3 t₀)]; rfl
  have h4 : g4 = go m c := by rw [hg4]; unfold Dat.before; rw [if_pos (fetch0_4 t₀)]; rfl
  subst h0; subst h1; subst h2; subst h3; subst h4
  unfold Dat.owesAt Pipeline.owesWithin
  icases Ho with ⟨%W, %hW, HO⟩
  rw [show (dats m ρ 0 c).owed t₀.castSucc = O₀ c from rfl]
  ihave Hdeal := (deal_odd (F := F) c he) $$ [Hpos Hpay Hcr]
  · unfold dealt; iframe Hpos Hpay Hcr
  icases Hdeal with ⟨Htok, Hbar, Hseed, Hpend, Hdue⟩
  ihave Hrest := (rest_cut (F := F) c) $$ Hrest
  unfold doneM
  icases Hrest with ⟨⟨A0, A1, A2, A3, A4, B0, B1, B2, B3, B4, C0, C1, C2, C3, D0, D1, D2, D3⟩, ⟨X22, X23, X24, X25, X26⟩, ⟨%s0, Hml⟩, ⟨%a0, Hacc⟩⟩
  ihave Hx := (xSlots_odd_of (F := F) c he) $$ [X25 X26 A0 B0]
  · iframe X25 X26 A0 B0
  ihave Hr : rSlots (F := F) c $$ [A1 A2 A3 A4 B1 B2 B3 B4]
  · unfold rSlots; iframe A1 A2 A3 A4 B1 B2 B3 B4
  ihave Hl : lSlots (F := F) c $$ [C1 C2 C3 D1 D2 D3]
  · unfold lSlots; iframe C1 C2 C3 D1 D2 D3
  iapply (body_odd (vals m) K c he W (gx m c) (gq m c) (gk m c) (gv m c) (go m c) g5 (outF m c) s0 a0
      (by show k0_pay207 (accF m c) = _; unfold accF; rw [ha0]; rfl) rfl
      (k0_pay207 (accF m (pt c))) (mlF m (pt c)) rfl rfl (by unfold outF; rw [if_neg (by rw [he]; decide)]; unfold accF; rw [ha0]; rfl) Q)
  isplitr
  · iexact HR
  isplitl [HO]
  · iexact HO
  isplitl [Htok]
  · iexact Htok
  isplitl [Hr Hl Hx]
  · iframe Hr Hl Hx
  isplitr
  · iexact Hlev
  isplitl [Hbar]
  · iexact Hbar
  isplitl [Hseed]
  · iexact Hseed
  isplitl [Hpend]
  · iexact Hpend
  isplitl [Hdue]
  · iexact Hdue
  isplitl [C0 D0]
  · iframe C0 D0
  isplitl [X22 X23 X24]
  · iframe X22 X23 X24
  isplitl [Hml]
  · iexact Hml
  isplitl [Hacc]
  · iexact Hacc
  isplitl [H0 H1 H2 H3]
  · isplitl [H0]
    · iexact H0
    isplitl [H1]
    · iexact H1
    isplitl [H2]
    · iexact H2
    iexact H3
  isplitl [H4]
  · iexact H4
  isplitl [H5]
  · iexact H5
  iintro H
  iapply Hk
  iapply (finish m ρ c (outF m c) rfl)
  iexact H

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_stg]
  show bodyPre m ρ c ⊢ wp frame (wpE (defs₀ (F := F)) 𝒱₀ (c : Thread nD τ) none) Set.univ (cc0_body bX (Memref.isWhole_whole _) bWq (Memref.isWhole_whole _) bK (Memref.isWhole_whole _) bV (Memref.isWhole_whole _) bWo (Memref.isWhole_whole _) bOut (Memref.isWhole_whole _) bRa (Memref.isWhole_whole _) bRm (Memref.isWhole_whole _) bLa (Memref.isWhole_whole _) bLm (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 bAcc (Memref.isWhole_whole _) bMl (Memref.isWhole_whole _) bSsa (Memref.isWhole_whole _) bSsm (Memref.isWhole_whole _) bSxa (Memref.isWhole_whole _) bXa (Memref.isWhole_whole _) bXm (Memref.isWhole_whole _)) (fun _ => bodyPost m ρ c)
  iintro H
  rcases he : even c with _ | _
  · iapply (sound_odd m ρ c he fun _ => bodyPost m ρ c)
    isplitl [H]
    · iexact H
    iintro H
    iexact H
  · iapply (sound_even m ρ c he fun _ => bodyPost m ρ c)
    isplitl [H]
    · iexact H
    iintro H
    iexact H

/-! ## The launch -/

theorem ownSemFacts : Pipeline.OwnSemFacts cfg0.spec osem := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (vals m) c)
      ⊢ |={Set.univ}=> iprop(start m c ∗ emp) := by
  unfold start
  iintro ⟨-, Hlev, Hcr, -, HG⟩
  imodintro
  isplitl
  · iframe HG Hcr Hlev
  iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  iframe Hs Hr
theorem leave (c : Dev nD) :
    (dats m ρ 0 c).Φ (Fin.last cfg0.N) ⊢ iprop(unscopedSems0 c ∗ Pipeline.ownSems0 osem c ∗ Pipeline.scopedRest cfg0.spec c) :=
  BI.Entails.refl (Φ₁ (F := F) c)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero the program ends, on every fair schedule, with the arrays at these contents and all
    counters at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := block_pos0) (harr := arr_whole0) (hstage := stage_whole0)
    (hshare := share_eq m ρ) (hdistinct := winFacts0.arr_inj) (O₀ := O₀) (howed₀ := fun _ => rfl) (howedN := fun _ => rfl)
    (L := L) (lv := lv) (hL := L_of_ne) (hwaits := waits m ρ) (G := G (vals m)) (G' := G' (vals m)) (u₀ := u₀)
    (hu₀ := by
      unfold u₀
      iintro Hu
      ihave H := (ownU_pair _ _) $$ Hu
      icases H with ⟨HP, HX⟩
      imod (fund_cells (vals m)) $$ HX with HG
      imodintro
      isplitl [HP] <;> iassumption)
    (hglob := glob (vals m)) (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.SparseRing

end
-- ==== Proof.Frames.lean ====
/- What the run says of the arrays: the arguments keep their contents, the result is the closed form of `Run`. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.SparseRing

open Cert.KernelIdeal Cert.KernelIdeal.Gen Idealize.ShloMosaic Idealize.ShloMosaic.TcCoe Idealize.SL.Sem

variable {F : FTy → Type} [FloatOps F]

section Arrays
variable (m : (ℓ : Loc nD τ sig) → Buf (Elt F) ℓ) (ρ : Dev nD → PrngReg) (c : Dev nD)

theorem final_x : finalA m ρ c (0 : Fin 6) = m ((c : Thread nD τ).loc main_arg0) := (dats (F := F) m ρ 0 c).arrAt_in (0 : Fin 6) rfl _
theorem final_q : finalA m ρ c (1 : Fin 6) = m ((c : Thread nD τ).loc main_arg1) := (dats (F := F) m ρ 0 c).arrAt_in (1 : Fin 6) rfl _
theorem final_k : finalA m ρ c (2 : Fin 6) = m ((c : Thread nD τ).loc main_arg2) := (dats (F := F) m ρ 0 c).arrAt_in (2 : Fin 6) rfl _
theorem final_v : finalA m ρ c (3 : Fin 6) = m ((c : Thread nD τ).loc main_arg3) := (dats (F := F) m ρ 0 c).arrAt_in (3 : Fin 6) rfl _
theorem final_o : finalA m ρ c (4 : Fin 6) = m ((c : Thread nD τ).loc main_arg4) := (dats (F := F) m ρ 0 c).arrAt_in (4 : Fin 6) rfl _

omit [FloatOps F] in
theorem gx_eq : gx m c = m ((c : Thread nD τ).loc main_arg0) :=
  Memref.read_access_unit_zero (Elt F) main_arg0 (funext fun a => by fin_cases a <;> decide) (fun a => by fin_cases a <;> decide) _
omit [FloatOps F] in
theorem gq_eq : gq m c = m ((c : Thread nD τ).loc main_arg1) :=
  Memref.read_access_unit_zero (Elt F) main_arg1 (funext fun a => by fin_cases a <;> decide) (fun a => by fin_cases a <;> decide) _
omit [FloatOps F] in
theorem gk_eq : gk m c = m ((c : Thread nD τ).loc main_arg2) :=
  Memref.read_access_unit_zero (Elt F) main_arg2 (funext fun a => by fin_cases a <;> decide) (fun a => by fin_cases a <;> decide) _
omit [FloatOps F] in
theorem gv_eq : gv m c = m ((c : Thread nD τ).loc main_arg3) :=
  Memref.read_access_unit_zero (Elt F) main_arg3 (funext fun a => by fin_cases a <;> decide) (fun a => by fin_cases a <;> decide) _
omit [FloatOps F] in
theorem go_eq : go m c = m ((c : Thread nD τ).loc main_arg4) :=
  Memref.read_access_unit_zero (Elt F) main_arg4 (funext fun a => by fin_cases a <;> decide) (fun a => by fin_cases a <;> decide) _

/-- The result array at the end. -/
theorem final_out : finalA m ρ c (5 : Fin 6) = outF m c := by
  have hr := fun f => Memref.read_access_unit_zero (Elt F) main_v1 (off := fun a => (win0_5.index (0 : Fin 1)) a * main_v1.ty.shape.size a)
    (funext fun a => by fin_cases a <;> decide) (fun a => by fin_cases a <;> decide) f
  refine (hr _).symm.trans ?_
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

end Arrays

/-! ## The frames -/

/-- The arguments keep their contents and every counter ends at zero. -/
theorem frame_run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨(h.1 c (0 : Fin 6)).trans (final_x m ρ c), (h.1 c (1 : Fin 6)).trans (final_q m ρ c), (h.1 c (2 : Fin 6)).trans (final_k m ρ c),
      (h.1 c (3 : Fin 6)).trans (final_v m ρ c), (h.1 c (4 : Fin 6)).trans (final_o m ρ c)⟩, h.2⟩) (run_main m ρ)

theorem frame_ideal : Cert.quiescent_KernelIdeal := fun m ρ _ => frame_run (F := Ideal) m ρ

set_option maxRecDepth 20000 in
theorem cc0_body_eq : Cert.Kernel.cc0_body (F := Bits) = cc0_body (F := Bits) := rfl

/-- The two bodies are one text: the table of the program is that of its translation. -/
theorem defs₀_eq : Cert.Kernel.defs₀ (F := Bits) = defs₀ (F := Bits) :=
  congrArg Defs.onTc (funext fun ℓ => funext fun a => match ℓ, a with
    | ⟨0, _⟩, ⟨_, _⟩ => by
      dsimp only [Defs.onTc]
      rw [cc0_body_eq])

theorem defs_eq : Cert.Kernel.defs (F := Bits) = defs (F := Bits) :=
  congrArg (Pipeline.defs (pcfgs (F := Bits))) defs₀_eq

theorem frame_kernel : Cert.quiescent_Kernel := fun m ρ _ => by
  have h := frame_run (F := Bits) m ρ
  rw [← defs_eq] at h
  exact h

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.SparseRing

end
-- ==== Proof.OwnVal.lean ====
/- The entries of one device's own partial result, over the extended reals. -/
module

public import proofs.«01_k».proof.Proof.Run
public import Idealize.ShloMosaic.Lib.Pointwise

@[expose] public section

noncomputable section

namespace Cert.SparseRing

open Cert.KernelIdeal Cert.KernelIdeal.Gen Idealize.ShloMosaic Idealize.ShloMosaic.TcCoe

/-! ## The mask of an even device -/

theorem row_blk (r j : Fin 128) : k0_pay4 (ix2 r j) = BitVec.ofNat 32 (r.val / 64) := by
  have e : k0_pay4 (ix2 r j) = k0_pay4 (ix2 r 0) := rfl
  rw [e]; clear e; revert r; decide +kernel
theorem col_blk (r j : Fin 128) : k0_pay5 (ix2 r j) = BitVec.ofNat 32 (j.val / 64) := by
  have e : k0_pay5 (ix2 r j) = k0_pay5 (ix2 0 j) := rfl
  rw [e]; clear e; revert j; decide +kernel
theorem col_neg (r j : Fin 128) : IntOp.andi (k0_pay6 (ix2 r j)) (IntOp.cmpi .ne (k0_pay7 (ix2 r j)) (k0_pay8 (ix2 r j))) = 0#1 := by
  have e : k0_pay6 (ix2 r j) = k0_pay6 (ix2 0 j) := rfl
  have e1 : k0_pay7 (ix2 r j) = k0_pay7 (ix2 0 j) := rfl
  have e2 : k0_pay8 (ix2 r j) = k0_pay8 (ix2 0 j) := rfl
  rw [e, e1, e2]; clear e e1 e2; revert j; decide +kernel
/-- On an even device a key is kept exactly when it lies in the query's block. -/
theorem msk_even (c : Dev nD) (hc : even c = true) (r j : Fin 128) : mskOf (devW c) (ix2 r j) = if r.val / 64 = j.val / 64 then 1#1 else 0#1 := by
  have w : Scalar.muli (devW c) 2#32 = BitVec.ofNat 32 (2 * c.val) := by revert c; decide +kernel
  unfold mskOf
  rw [w]
  pointwise [k0_pay9]
  obtain ⟨p, hp⟩ : ∃ p : Fin 2, r.val / 64 = p.val := ⟨⟨r.val / 64, by omega⟩, rfl⟩
  obtain ⟨q, hq⟩ : ∃ q : Fin 2, j.val / 64 = q.val := ⟨⟨j.val / 64, by omega⟩, rfl⟩
  rw [row_blk, col_blk, col_neg, hp, hq]
  clear hp hq w
  revert p q hc; revert c
  decide +kernel

/-! ## The reads -/

theorem ldX_at (b : Fin 2) (x : FVec Ideal S2x128x512 .f32) (r : Fin 128) (t : Fin 512) : ldX b x (ix3 0 r t) = x (ix3 b r t) := by
  refine congrArg x (place_ext fun a => ?_)
  fin_cases a; exacts [off_at b.val 0, unit_at r.val, unit_at t.val]
theorem ldWq_at (w : FVec Ideal S512x256 .f32) (t : Fin 512) (k : Fin 256) : ldWq w (ix2 t k) = w (ix2 t k) := by
  refine congrArg w (place_ext fun a => ?_)
  fin_cases a; exacts [unit_at t.val, unit_at k.val]
theorem ldK_at (b : Fin 2) (h : Fin 4) (k : FVec Ideal S2x128x4x64 .f32) (j : Fin 128) (e : Fin 64) : ldK b h k (ix4 0 j 0 e) = k (ix4 b j h e) := by
  refine congrArg k (place_ext fun a => ?_)
  fin_cases a; exacts [off_at b.val 0, unit_at j.val, off_at h.val 0, unit_at e.val]
theorem ldV_at (b : Fin 2) (h : Fin 4) (k : FVec Ideal S2x128x4x64 .f32) (j : Fin 128) (e : Fin 64) : ldV b h k (ix4 0 j 0 e) = k (ix4 b j h e) := by
  refine congrArg k (place_ext fun a => ?_)
  fin_cases a; exacts [off_at b.val 0, unit_at j.val, off_at h.val 0, unit_at e.val]

theorem ownQ_at (b : Fin 2) (h : Fin 4) (x : FVec Ideal S2x128x512 .f32) (wq : FVec Ideal S512x256 .f32) (r : Fin 128) (e : Fin 64) :
    ownQ b h x wq (ix2 r e) = ∑ t : Fin 512, x (ix3 b r t) * wq (ix2 t ⟨64 * h.val + e.val, by omega⟩) := by
  pointwise [ownQ, k0_pay41, ldX_at, ldWq_at]

theorem pay43_at (v : IVec S128x128 1) (q : FVec Ideal S128x64 .f32) (k : Vec Ideal S1x128x1x64 .f32) (r j : Fin 128) :
    k0_pay43 v q k (ix2 r j) = if v (ix2 r j) = 1#1 then (∑ e : Fin 64, q (ix2 r e) * k (ix4 0 j 0 e)) * Ideal.ofBits .f32 0x3E000000#32 else Ideal.ofBits .f32 0xCE6E6B28#32 := by
  pointwise [k0_pay43]
  rfl
theorem pay44_at (v : IVec S128x128 1) (q : FVec Ideal S128x64 .f32) (k : Vec Ideal S1x128x1x64 .f32) (r : Fin 128) :
    k0_pay44 v q k (ix1 r) = Finset.univ.fold max (Ideal.ofBits .f32 0xFF800000#32) fun j : Fin 128 => k0_pay43 v q k (ix2 r j) := by
  pointwise [k0_pay44]
theorem pay45_at (v : IVec S128x128 1) (q : FVec Ideal S128x64 .f32) (k : Vec Ideal S1x128x1x64 .f32) (r j : Fin 128) :
    k0_pay45 v q k (ix2 r j) = if v (ix2 r j) = 1#1 then Ideal.exp (k0_pay43 v q k (ix2 r j) - k0_pay44 v q k (ix1 r)) else 0 := by
  pointwise [k0_pay45]
  rfl
theorem pay46_at (v : IVec S128x128 1) (q : FVec Ideal S128x64 .f32) (k : Vec Ideal S1x128x1x64 .f32) (r : Fin 128) :
    k0_pay46 v q k (ix1 r) = ∑ j : Fin 128, k0_pay45 v q k (ix2 r j) := by
  pointwise [k0_pay46]
theorem pay47_at (v : IVec S128x128 1) (q : FVec Ideal S128x64 .f32) (k w : Vec Ideal S1x128x1x64 .f32) (r : Fin 128) (e : Fin 64) :
    k0_pay47 v q k w (ix2 r e) = ∑ j : Fin 128, k0_pay45 v q k (ix2 r j) * w (ix4 0 j 0 e) := by
  pointwise [k0_pay47]

end Cert.SparseRing
-- ==== Proof.Softmax.lean ====
/- Softmax partial results over the extended reals: how two of them join, and what their quotient is. -/
module

public import Idealize.ShloMosaic.Lib.Pointwise
public import Idealize.ShloMosaic.Lib.IdealHost

@[expose] public section

noncomputable section

namespace Cert.SparseRing

open Idealize.ShloMosaic

/-- A real factor that is not negative moves into a finite sum. -/
theorem mul_sum_coe {ι : Type} (s : Finset ι) (x : ℝ) (hx : 0 ≤ x) (f : ι → EReal) : (x : EReal) * ∑ i ∈ s, f i = ∑ i ∈ s, (x : EReal) * f i := by
  classical
  induction s using Finset.induction_on with
  | empty => simp
  | insert a s ha ih =>
    rw [Finset.sum_insert ha, Finset.sum_insert ha, EReal.left_distrib_of_nonneg_of_ne_top (EReal.coe_nonneg.2 hx) (EReal.coe_ne_top x), ih]
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The unnormalised weight of a key: the exponential of its score where it is kept. -/
def wgt (k : Prop) [Decidable k] (s : ℝ) : ℝ := if k then Real.exp s else 0
theorem wgt_nonneg (k : Prop) [Decidable k] (s : ℝ) : 0 ≤ wgt k s := by
  unfold wgt; split
  · exact (Real.exp_pos s).le
  · exact le_refl _
theorem wgt_pos {k : Prop} [Decidable k] (h : k) (s : ℝ) : 0 < wgt k s := by rw [wgt, if_pos h]; exact Real.exp_pos s
theorem exp_real (x : ℝ) : Ideal.exp (x : EReal) = ((Real.exp x : ℝ) : EReal) := rfl
theorem exp_wgt (k : Prop) [Decidable k] (s M : ℝ) (y : EReal) (hy : k → y = (s : EReal)) :
    (if k then Ideal.exp (y - (M : EReal)) else 0) = ((Real.exp (-M) * wgt k s : ℝ) : EReal) := by
  unfold wgt
  split
  · next h =>
    rw [hy h, ← EReal.coe_sub, exp_real, ← Real.exp_add, show s - M = -M + s by ring]
  · rw [mul_zero, EReal.coe_zero]

/-- A maximum of values below the top, one of them above the bottom, is a real number. -/
theorem fold_max_real {ι : Type} [Fintype ι] (f : ι → EReal) (hT : ∀ i, f i < ⊤) (i : ι) (hi : ⊥ < f i) : ∃ M : ℝ, Finset.univ.fold max ⊥ f = (M : EReal) := by
  have h1 : Finset.univ.fold max ⊥ f < ⊤ := (Finset.fold_max_lt ⊤).2 ⟨bot_lt_top, fun x _ => hT x⟩
  have h2 : ⊥ < Finset.univ.fold max ⊥ f := (Finset.lt_fold_max ⊥).2 (.inr ⟨i, Finset.mem_univ i, hi⟩)
  exact ⟨_, (EReal.coe_toReal h1.ne h2.ne').symm⟩

/-- A partial result: a maximum `m`, a denominator `l` and numerators `a` which stand, up to one common real factor, for the
    sum `Z` of the weights and the sums `N` of the weighted values. -/
def Part {E : Type} (Z : ℝ) (N : E → EReal) (m l : EReal) (a : E → EReal) : Prop :=
  ∃ M : ℝ, m = (M : EReal) ∧ l = ((Real.exp (-M) * Z : ℝ) : EReal) ∧ ∀ e, a e = ((Real.exp (-M) : ℝ) : EReal) * N e

variable {E : Type}

theorem Part.own {J : Type} [Fintype J] (k : J → Prop) [DecidablePred k] (s : J → ℝ) (v : J → E → EReal) (M : ℝ) :
    Part (∑ j, wgt (k j) (s j)) (fun e => ∑ j, ((wgt (k j) (s j) : ℝ) : EReal) * v j e) (M : EReal)
      (∑ j, ((Real.exp (-M) * wgt (k j) (s j) : ℝ) : EReal)) (fun e => ∑ j, ((Real.exp (-M) * wgt (k j) (s j) : ℝ) : EReal) * v j e) := by
  refine ⟨M, rfl, ?_, fun e => ?_⟩
  · rw [sum_coe, Finset.mul_sum]
  · rw [mul_sum_coe _ _ (Real.exp_pos _).le]
    exact Finset.sum_congr rfl fun j _ => by rw [EReal.coe_mul, mul_assoc]
/-- Two partial results, each rescaled to the larger maximum, join into one. -/
theorem Part.join {Z Z' : ℝ} {N N' : E → EReal} {m l m' l' : EReal} {a a' : E → EReal} (h : Part Z N m l a) (h' : Part Z' N' m' l' a') :
    Part (Z + Z') (fun e => N e + N' e) (max m m') (l * Ideal.exp (m - max m m') + l' * Ideal.exp (m' - max m m'))
      (fun e => a e * Ideal.exp (m - max m m') + a' e * Ideal.exp (m' - max m m')) := by
  obtain ⟨M, rfl, rfl, ha⟩ := h
  obtain ⟨M', rfl, rfl, ha'⟩ := h'
  have r (A Y : ℝ) : Real.exp (-A) * Real.exp (A - Y) = Real.exp (-Y) := by rw [← Real.exp_add]; congr 1; ring
  have e (A Y : ℝ) (x : EReal) : ((Real.exp (-A) : ℝ) : EReal) * x * ((Real.exp (A - Y) : ℝ) : EReal) = ((Real.exp (-Y) : ℝ) : EReal) * x := by
    rw [mul_right_comm, ← EReal.coe_mul, r]
  have q : max (M : EReal) (M' : EReal) = ((max M M' : ℝ) : EReal) := (EReal.coe_strictMono.monotone.map_max).symm
  rw [q]
  simp only [← EReal.coe_sub, exp_real]
  refine ⟨max M M', rfl, ?_, fun x => ?_⟩
  · rw [← EReal.coe_mul, ← EReal.coe_mul, ← EReal.coe_add, mul_right_comm, r, mul_right_comm, r, mul_add]
  · beta_reduce
    rw [ha, ha', e, e, EReal.left_distrib_of_nonneg_of_ne_top (EReal.coe_nonneg.2 (Real.exp_pos _).le) (EReal.coe_ne_top _)]

theorem div_pos_real (x : EReal) {y : ℝ} (hy : 0 < y) : Ideal.div x (y : EReal) = x * ((y⁻¹ : ℝ) : EReal) := by
  rw [Ideal.div, if_neg (by exact_mod_cast hy.ne'), EReal.coe_inv]
/-- The quotient of numerator and denominator does not depend on the maximum. -/
theorem Part.quot {Z : ℝ} (hZ : 0 < Z) {N : E → EReal} {m l : EReal} {a : E → EReal} (h : Part Z N m l a) (e : E) :
    Ideal.div (a e) l = ((Z⁻¹ : ℝ) : EReal) * N e := by
  obtain ⟨M, -, rfl, ha⟩ := h
  have p := Real.exp_pos (-M)
  rw [ha, div_pos_real _ (mul_pos p hZ), mul_right_comm, ← EReal.coe_mul]
  congr 2
  field_simp
/-- Weights normalised before they meet the values give the same quotient. -/
theorem sum_weights {J : Type} [Fintype J] (w : J → ℝ) (M : ℝ) (hZ : 0 < ∑ j, w j) (v : J → EReal) :
    ∑ j, v j * Ideal.div ((Real.exp (-M) * w j : ℝ) : EReal) (∑ j', ((Real.exp (-M) * w j' : ℝ) : EReal))
      = (((∑ j, w j)⁻¹ : ℝ) : EReal) * ∑ j, ((w j : ℝ) : EReal) * v j := by
  have p := Real.exp_pos (-M)
  rw [sum_coe, ← Finset.mul_sum, mul_sum_coe _ _ (inv_nonneg.2 hZ.le)]
  refine Finset.sum_congr rfl fun j _ => ?_
  rw [div_pos_real _ (mul_pos p hZ), ← EReal.coe_mul, ← mul_assoc, ← EReal.coe_mul, mul_comm (v j)]
  congr 2
  field_simp

end Cert.SparseRing
-- ==== Proof.OwnPart.lean ====
/- One even device's own block as a softmax partial result, over the extended reals. -/
module

public import proofs.«01_k».proof.Proof.OwnVal
public import proofs.«01_k».proof.Proof.Softmax

@[expose] public section

noncomputable section

namespace Cert.SparseRing

open Cert.KernelIdeal Cert.KernelIdeal.Gen Idealize.ShloMosaic Idealize.ShloMosaic.TcCoe

/-- Key `j` of device `d` in the whole sequence. -/
def keyOf (d : Dev nD) (j : Fin 128) : Fin 2048 := ⟨128 * d.val + j.val, by have : d.val < 16 := d.isLt; omega⟩
/-- Column `e` of head `h` among the columns of all heads. -/
def colOf (h : Fin 4) (e : Fin 64) : Fin 256 := ⟨64 * h.val + e.val, by omega⟩

/-- The arguments by their coordinates: the inputs, the query projection and the keys as real numbers, the values as they are. -/
structure Input where
  x : Fin 2 → Fin 128 → Fin 512 → ℝ
  wq : Fin 512 → Fin 256 → ℝ
  k : Fin 2 → Fin 2048 → Fin 4 → Fin 64 → ℝ
  v : Fin 2 → Fin 2048 → Fin 4 → Fin 64 → EReal

namespace Input

variable (I : Input)

/-- The score of a query and a key. -/
def score (b : Fin 2) (h : Fin 4) (r : Fin 128) (c : Fin 2048) : ℝ := (∑ e : Fin 64, (∑ t : Fin 512, I.x b r t * I.wq t (colOf h e)) * I.k b c h e) * (1 / 8)
/-- The weight of a key of an even device: the exponential of its score where the key lies in the query's block. -/
def wt (b : Fin 2) (h : Fin 4) (r : Fin 128) (d : Dev nD) (j : Fin 128) : ℝ := wgt (r.val / 64 = j.val / 64) (I.score b h r (keyOf d j))
/-- The weights of a device's keys, summed, and its values with these weights. -/
def den (b : Fin 2) (h : Fin 4) (r : Fin 128) (d : Dev nD) : ℝ := ∑ j : Fin 128, I.wt b h r d j
def num (b : Fin 2) (h : Fin 4) (r : Fin 128) (d : Dev nD) (e : Fin 64) : EReal := ∑ j : Fin 128, ((I.wt b h r d j : ℝ) : EReal) * I.v b (keyOf d j) h e

end Input

theorem eighth : Ideal.ofBits .f32 0x3E000000#32 = ((1 / 8 : ℝ) : EReal) := by
  simp [Ideal.ofBits, Ideal.ieee, -EReal.coe_mul]; norm_num
theorem low : Ideal.ofBits .f32 0xFF800000#32 = ⊥ := by simp [Ideal.ofBits, Ideal.ieee]
theorem high : Ideal.ofBits .f32 0x7F800000#32 = ⊤ := by simp [Ideal.ofBits, Ideal.ieee]
theorem floor_real : ∃ y : ℝ, Ideal.ofBits .f32 0xCE6E6B28#32 = (y : EReal) := by
  refine ⟨-1000000000, ?_⟩
  simp [Ideal.ofBits, Ideal.ieee, -EReal.coe_mul, -EReal.coe_neg]; norm_num

/-- The score as both programs compute it. -/
theorem score_eq (I : Input) (b : Fin 2) (h : Fin 4) (r : Fin 128) (c : Fin 2048) :
    (∑ e : Fin 64, (∑ t : Fin 512, (I.x b r t : EReal) * (I.wq t (colOf h e) : EReal)) * (I.k b c h e : EReal)) * Ideal.ofBits .f32 0x3E000000#32
      = ((I.score b h r c : ℝ) : EReal) := by
  rw [eighth, Input.score]
  simp only [← EReal.coe_mul, sum_coe]

/-- What a device's memory holds of the arguments. -/
structure Holds (I : Input) (c : Dev nD) (x : FVec Ideal S2x128x512 .f32) (wq : FVec Ideal S512x256 .f32) (k v : FVec Ideal S2x128x4x64 .f32) : Prop where
  x : ∀ b r t, x (ix3 b r t) = (I.x b r t : EReal)
  wq : ∀ t n, wq (ix2 t n) = (I.wq t n : EReal)
  k : ∀ b j h e, k (ix4 b j h e) = (I.k b (keyOf c j) h e : EReal)
  v : ∀ b j h e, v (ix4 b j h e) = I.v b (keyOf c j) h e

variable {I : Input} {c : Dev nD} {x : FVec Ideal S2x128x512 .f32} {wq : FVec Ideal S512x256 .f32} {k v : FVec Ideal S2x128x4x64 .f32}

/-- The masked scores of an even device. -/
theorem own_score (H : Holds I c x wq k v) (hc : even c = true) (b : Fin 2) (h : Fin 4) (r j : Fin 128) :
    k0_pay43 (mskOf (devW c)) (ownQ b h x wq) (ldK b h k) (ix2 r j)
      = if r.val / 64 = j.val / 64 then ((I.score b h r (keyOf c j) : ℝ) : EReal) else Ideal.ofBits .f32 0xCE6E6B28#32 := by
  rw [pay43_at, msk_even c hc]
  simp only [ownQ_at, ldK_at, H.x, H.wq, H.k]
  by_cases g : r.val / 64 = j.val / 64
  · rw [if_pos g, if_pos g, if_pos rfl]; exact score_eq I b h r _
  · rw [if_neg g, if_neg g, if_neg (by decide)]

/-- An even device's own block is the partial result of its kept keys. -/
theorem own_part (H : Holds I c x wq k v) (hc : even c = true) (b : Fin 2) (h : Fin 4) (r : Fin 128) :
    Part (I.den b h r c) (I.num b h r c) (ownM (devW c) x wq k b h (ix1 r)) (ownL (devW c) x wq k b h (ix1 r)) (fun e : Fin 64 => ownA (devW c) x wq k v b h (ix2 r e)) := by
  obtain ⟨y, hy⟩ := floor_real
  obtain ⟨M, hM⟩ := fold_max_real (fun j : Fin 128 => k0_pay43 (mskOf (devW c)) (ownQ b h x wq) (ldK b h k) (ix2 r j))
    (fun j => by beta_reduce; rw [own_score H hc, hy]; split <;> exact EReal.coe_lt_top _) r
    (by beta_reduce; rw [own_score H hc, if_pos rfl]; exact EReal.bot_lt_coe _)
  have hm : ownM (devW c) x wq k b h (ix1 r) = (M : EReal) := by rw [ownM, pay44_at, low]; exact hM
  have hp (j : Fin 128) : k0_pay45 (mskOf (devW c)) (ownQ b h x wq) (ldK b h k) (ix2 r j) = ((Real.exp (-M) * I.wt b h r c j : ℝ) : EReal) := by
    rw [pay45_at, msk_even c hc, show k0_pay44 (mskOf (devW c)) (ownQ b h x wq) (ldK b h k) (ix1 r) = (M : EReal) from hm, own_score H hc]
    refine (if_congr ?_ rfl rfl).trans (exp_wgt (r.val / 64 = j.val / 64) (I.score b h r (keyOf c j)) M _ fun g => if_pos g)
    split
    · exact iff_of_true rfl ‹_›
    · exact iff_of_false (by decide) ‹_›
  rw [hm]
  refine (congrArg₂ (Part _ _ _) ?_ (funext fun e => ?_)).mpr (Part.own (E := Fin 64) (fun j : Fin 128 => r.val / 64 = j.val / 64) (fun j => I.score b h r (keyOf c j)) (fun j e => I.v b (keyOf c j) h e) M)
  · rw [ownL, pay46_at]; exact Finset.sum_congr rfl fun j _ => hp j
  · rw [ownA, pay47_at]; exact Finset.sum_congr rfl fun j _ => by rw [hp, ldV_at, H.v]; rfl

end Cert.SparseRing
-- ==== Proof.RingVal.lean ====
/- The values which the ring leaves on a device: the partial result of the keys of all eight even devices. -/
module

public import proofs.«01_k».proof.Proof.OwnPart

@[expose] public section

noncomputable section

namespace Cert.SparseRing

open Cert.KernelIdeal Cert.KernelIdeal.Gen Idealize.ShloMosaic Idealize.ShloMosaic.TcCoe

variable (I : Input)

/-- Statistics and numerators that are, at every head and query of a batch, the partial result of the keys of some devices. -/
def Good (D : List (Dev nD)) (b : Fin 2) (s : FVec Ideal S2x4x128 .f32) (a : S512x64.Idx → EReal) : Prop :=
  ∀ (h : Fin 4) (r : Fin 128), Part (D.map (I.den b h r)).sum (fun e : Fin 64 => (D.map fun d => I.num b h r d e).sum)
    (s (ix3 0 h r)) (s (ix3 1 h r)) (fun e : Fin 64 => a (ix2 (accRow h r) e))

theorem comM_max (s t : FVec Ideal S2x4x128 .f32) (h : Fin 4) (r : Fin 128) : comM s t (ix3 0 h r) = max (s (ix3 0 h r)) (t (ix3 0 h r)) := by
  show mxOf s t (ix2 h r) = _
  pointwise [mxOf, rowOf]
theorem comM_sum (s t : FVec Ideal S2x4x128 .f32) (h : Fin 4) (r : Fin 128) :
    comM s t (ix3 1 h r) = s (ix3 1 h r) * Ideal.exp (s (ix3 0 h r) - max (s (ix3 0 h r)) (t (ix3 0 h r)))
      + t (ix3 1 h r) * Ideal.exp (t (ix3 0 h r) - max (s (ix3 0 h r)) (t (ix3 0 h r))) := by
  show sumOf s t (ix2 h r) = _
  pointwise [sumOf, keepF, joinF, mxOf, rowOf]
theorem spread_at (h : Fin 4) (w : FVec Ideal S4x128 .f32) (r : Fin 128) (e : Fin 64) : spreadF h w (ix2 r e) = w (ix2 h r) := by
  pointwise [spreadF]
theorem comA_at (a : FVec Ideal S512x64 .f32) (s : FVec Ideal S2x4x128 .f32) (x : FVec Ideal S512x64 .bf16) (t : FVec Ideal S2x4x128 .f32) (h : Fin 4) (r : Fin 128) (e : Fin 64) :
    comA a s x t (ix2 (accRow h r) e) = a (ix2 (accRow h r) e) * Ideal.exp (s (ix3 0 h r) - max (s (ix3 0 h r)) (t (ix3 0 h r)))
      + x (ix2 (accRow h r) e) * Ideal.exp (t (ix3 0 h r) - max (s (ix3 0 h r)) (t (ix3 0 h r))) := by
  show blkJoin (hdOf (accRow h r)) (keepF s t) (joinF s t) (blkOf (hdOf (accRow h r)) a) (blkOf (hdOf (accRow h r)) x) (ix2 (qrOf (accRow h r)) e) = _
  rw [hdOf_accRow, qrOf_accRow]
  pointwise [blkJoin, blkOf, spread_at, keepF, joinF, mxOf, rowOf]

variable {I}

/-- An arriving partial result joins the running one. -/
theorem Good.join {D D' : List (Dev nD)} {b : Fin 2} {s t : FVec Ideal S2x4x128 .f32} {a : FVec Ideal S512x64 .f32} {x : FVec Ideal S512x64 .bf16}
    (h : Good I D b s a) (h' : Good I D' b t x) : Good I (D ++ D') b (comM s t) (comA a s x t) := by
  intro hd r
  have q := (h hd r).join (h' hd r)
  simp only [List.map_append, List.sum_append, comM_max, comM_sum, comA_at]
  exact q

/-- The even device of a device's pair, and the batch for which a device gathers. -/
def evenOf (c : Dev nD) : Dev nD := if even c then c else pt c
def batchOf (c : Dev nD) : Fin 2 := if even c then 0 else 1
theorem even_evenOf (c : Dev nD) : even (evenOf c) = true := by revert c; decide

/-- The memory holds the arguments, on every device. -/
def AllHold (I : Input) (m : (ℓ : Loc nD τ sig) → Buf (Elt Ideal) ℓ) : Prop := ∀ c : Dev nD, Holds I c (gx m c) (gq m c) (gk m c) (gv m c)

variable {m : (ℓ : Loc nD τ sig) → Buf (Elt Ideal) ℓ}

theorem own_good (H : AllHold I m) (c : Dev nD) (hc : even c = true) (b : Fin 2) : Good I [c] b (ownSt m c b) (ownAcc m c b) := by
  intro h r
  have q := own_part (H c) hc b h r
  simp only [List.map_cons, List.map_nil, List.sum_singleton]
  have e (e : Fin 64) : ownAcc m c b (ix2 (accRow h r) e) = ownA (devW c) (gx m c) (gq m c) (gk m c) (gv m c) b h (ix2 r e) := by
    show ownA (devW c) (gx m c) (gq m c) (gk m c) (gv m c) b (hdOf (accRow h r)) (ix2 (qrOf (accRow h r)) e) = _
    rw [hdOf_accRow, qrOf_accRow]
  simp only [e]
  exact q
theorem ring_pa (c : Dev nD) : (pa m c : S512x64.Idx → EReal) = ownAcc m (evenOf c) (batchOf c) := by
  unfold pa evenOf batchOf; split <;> rfl
theorem ring_pm (c : Dev nD) : pm m c = ownSt m (evenOf c) (batchOf c) := by
  unfold pm evenOf batchOf; split <;> rfl
theorem ring_good (H : AllHold I m) (c : Dev nD) : Good I [evenOf c] (batchOf c) (pm m c) (pa m c) := by
  rw [ring_pa, ring_pm]; exact own_good H _ (even_evenOf c) _
theorem acc0_eq (c : Dev nD) : (acc0 m c : S512x64.Idx → EReal) = pa m c := by
  unfold acc0 pa; split <;> rfl

/-- The devices whose blocks a device takes in, in the order in which they arrive. -/
def order (c : Dev nD) : List (Dev nD) := [evenOf c] ++ [evenOf (lf^[1] c)] ++ [evenOf (rt^[1] c)] ++ [evenOf (lf^[2] c)] ++ [evenOf (rt^[2] c)] ++ [evenOf (lf^[3] c)] ++ [evenOf (rt^[3] c)] ++ [evenOf (lf^[4] c)]
theorem order_perm (c : Dev nD) : (order c).Perm [0, 2, 4, 6, 8, 10, 12, 14] := by revert c; decide
theorem hop_good (H : AllHold I m) (c d : Dev nD) (h : batchOf d = batchOf c) : Good I [evenOf d] (batchOf c) (pm m d) (pa m d) := h ▸ ring_good H d
/-- After the ring a device holds the partial result of all even devices' keys. -/
theorem final_good (H : AllHold I m) (c : Dev nD) : Good I (order c) (batchOf c) (mlF m c) (accF m c) := by
  have h0 : Good I [evenOf c] (batchOf c) (pm m c) (acc0 m c) := by rw [acc0_eq]; exact ring_good H c
  have e (d : Dev nD) (h : even d = even c) : batchOf d = batchOf c := by unfold batchOf; rw [h]
  have el (n : ℕ) : even (lf^[n] c) = even c := by
    induction n with
    | zero => rfl
    | succ n ih => rw [Function.iterate_succ_apply', even_lf, ih]
  have er (n : ℕ) : even (rt^[n] c) = even c := by
    induction n with
    | zero => rfl
    | succ n ih => rw [Function.iterate_succ_apply', even_rt, ih]
  exact ((((((h0.join (hop_good H c _ (e _ (el 1)))).join (hop_good H c _ (e _ (er 1)))).join (hop_good H c _ (e _ (el 2)))).join (hop_good H c _ (e _ (er 2)))).join
    (hop_good H c _ (e _ (el 3)))).join (hop_good H c _ (e _ (er 3)))).join (hop_good H c _ (e _ (el 4)))

end Cert.SparseRing
-- ==== Proof.OutVal.lean ====
/- The result of the kernel at an entry. -/
module

public import proofs.«01_k».proof.Proof.RingVal

@[expose] public section

noncomputable section

namespace Cert.SparseRing

open Cert.KernelIdeal Cert.KernelIdeal.Gen Idealize.ShloMosaic Idealize.ShloMosaic.TcCoe

theorem ldA_at {φ : FTy} (h : Fin 4) (a : FVec Ideal S512x64 φ) (r : Fin 128) (e : Fin 64) : ldA h a (ix2 r e) = a (ix2 (accRow h r) e) := rfl
theorem ldL_at (h : Fin 4) (s : FVec Ideal S2x4x128 .f32) (r : Fin 128) : ldL h s (ix3 0 0 r) = s (ix3 1 h r) := rfl
theorem ldW_at (h : Fin 4) (w : FVec Ideal S256x512 .f32) (e : Fin 64) (n : Fin 512) : ldW h w (ix2 e n) = w (ix2 (colOf h e) n) := rfl

/-- One half of the result: the quotients of each head through the output projection. -/
def halfAt (a : S512x64.Idx → EReal) (s : FVec Ideal S2x4x128 .f32) (w : FVec Ideal S256x512 .f32) (r : Fin 128) (n : Fin 512) : EReal :=
  ∑ h : Fin 4, ∑ e : Fin 64, Ideal.div (a (ix2 (accRow h r) e)) (s (ix3 1 h r)) * w (ix2 (colOf h e) n)
theorem ownHalf_at (a : FVec Ideal S512x64 .f32) (s : FVec Ideal S2x4x128 .f32) (w : FVec Ideal S256x512 .f32) (r : Fin 128) (n : Fin 512) :
    ownHalf a s w (ix2 r n) = halfAt a s w r n := by
  rw [halfAt, Fin.sum_univ_four]
  pointwise [ownHalf, k0_pay208, k0_pay209, ldA_at, ldL_at, ldW_at]
theorem othHalf_at (a : FVec Ideal S512x64 .f32) (s : FVec Ideal S2x4x128 .f32) (w : FVec Ideal S256x512 .f32) (r : Fin 128) (n : Fin 512) :
    othHalf (k0_pay207 a) s w (ix2 r n) = halfAt a s w r n := by
  rw [halfAt, Fin.sum_univ_four]
  pointwise [othHalf, othPart, othLast, k0_pay207, k0_pay1, k0_pay212, k0_pay213, k0_pay214, k0_pay215, ldA_at, ldL_at, ldW_at]

/-- The even devices. -/
def evens : List (Dev nD) := [0, 2, 4, 6, 8, 10, 12, 14]

/-- The attention of one query and head, at a column: all kept keys' values by their weights, over the sum of the weights. -/
def Input.ctx (I : Input) (b : Fin 2) (h : Fin 4) (r : Fin 128) (e : Fin 64) : EReal :=
  (((evens.map (I.den b h r)).sum⁻¹ : ℝ) : EReal) * (evens.map fun d => I.num b h r d e).sum

theorem wt_nonneg (I : Input) (b : Fin 2) (h : Fin 4) (r : Fin 128) (d : Dev nD) (j : Fin 128) : 0 ≤ I.wt b h r d j := wgt_nonneg _ _
theorem den_pos (I : Input) (b : Fin 2) (h : Fin 4) (r : Fin 128) (d : Dev nD) : 0 < I.den b h r d :=
  Finset.sum_pos' (fun j _ => wt_nonneg I b h r d j) ⟨r, Finset.mem_univ _, wgt_pos rfl _⟩
theorem evens_pos (I : Input) (b : Fin 2) (h : Fin 4) (r : Fin 128) : 0 < (evens.map (I.den b h r)).sum := by
  simp only [evens, List.map_cons, List.map_nil, List.sum_cons, List.sum_nil]
  have p := den_pos I b h r
  have := p 0; have := p 2; have := p 4; have := p 6; have := p 8; have := p 10; have := p 12; have := p 14
  linarith

theorem quot_at {I : Input} {m : (ℓ : Loc nD τ sig) → Buf (Elt Ideal) ℓ} (H : AllHold I m) (c : Dev nD) (h : Fin 4) (r : Fin 128) (e : Fin 64) :
    Ideal.div (accF m c (ix2 (accRow h r) e)) (mlF m c (ix3 1 h r)) = I.ctx (batchOf c) h r e := by
  have g := final_good H c h r
  rw [((order_perm c).map _).sum_eq] at g
  have q := g.quot (evens_pos I _ h r) e
  rw [((order_perm c).map _).sum_eq] at q
  exact q

/-- The result of the kernel at an entry: every head's attention through the output projection. -/
theorem outF_at {I : Input} {m : (ℓ : Loc nD τ sig) → Buf (Elt Ideal) ℓ} (H : AllHold I m) (c : Dev nD) (b : Fin 2) (r : Fin 128) (n : Fin 512) :
    outF m c (ix3 b r n) = ∑ h : Fin 4, ∑ e : Fin 64, I.ctx b h r e * go m c (ix2 (colOf h e) n) := by
  have own (d : Dev nD) : halfAt (accF m d) (mlF m d) (go m c) r n = ∑ h : Fin 4, ∑ e : Fin 64, I.ctx (batchOf d) h r e * go m c (ix2 (colOf h e) n) := by
    simp only [halfAt, quot_at H]
  unfold outF
  rcases hc : even c with _ | _
  · have ep : even (pt c) = true := by rw [even_pt, hc]; rfl
    have b1 : batchOf c = 1 := by unfold batchOf; rw [hc]; rfl
    have b0 : batchOf (pt c) = 0 := by unfold batchOf; rw [ep]; rfl
    match b with
    | 0 =>
      show othHalf (k0_pay207 (accF m (pt c))) (mlF m (pt c)) (go m c) (ix2 r n) = _
      rw [othHalf_at, own, b0]
    | 1 =>
      show ownHalf (accF m c) (mlF m c) (go m c) (ix2 r n) = _
      rw [ownHalf_at, own, b1]
  · have ep : even (pt c) = false := by rw [even_pt, hc]; rfl
    have b0 : batchOf c = 0 := by unfold batchOf; rw [hc]; rfl
    have b1 : batchOf (pt c) = 1 := by unfold batchOf; rw [ep]; rfl
    match b with
    | 0 =>
      show ownHalf (accF m c) (mlF m c) (go m c) (ix2 r n) = _
      rw [ownHalf_at, own, b0]
    | 1 =>
      show othHalf (k0_pay207 (accF m (pt c))) (mlF m (pt c)) (go m c) (ix2 r n) = _
      rw [othHalf_at, own, b1]

end Cert.SparseRing
-- ==== Proof.RefVal.lean ====
/- The entries of the reference's result, over the extended reals. -/
module

public import proofs.«01_k».proof.Proof.Gen.ReferenceIdeal.Run
public import Idealize.ShloMosaic.Lib.Pointwise

@[expose] public section

noncomputable section

namespace Cert.SparseRing.Ref

open Cert.ReferenceIdeal Cert.ReferenceIdeal.Gen Cert.ReferenceIdeal.Value Idealize.ShloMosaic Idealize.ShloMosaic.TcCoe

/-! ## The steps of the reference -/

/-- The block of a query, and of a key. -/
def rowB : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))
def colB : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
/-- The number four, guarded against zero. -/
def four : IVec S_ 32 := select (cmpi .eq (id (constantI S_ 32 4#32)) (constantI S_ 32 0#32)) (constantI S_ 32 1#32) (id (constantI S_ 32 4#32))
def rowC : IVec S128x1 32 := broadcastInDim S128x1 ![0] bcast_S128_S128x1_0 rowB
def colC : IVec S1x2048 32 := broadcastInDim S1x2048 ![1] bcast_S2048_S1x2048_1 colB
def rowR : IVec S128x1 32 := Host.remsi rowC (broadcastInDim S128x1 ![] bcast_S_S128x1 four)
def colR : IVec S1x2048 32 := Host.remsi colC (broadcastInDim S1x2048 ![] bcast_S_S1x2048 four)
/-- Which keys a query keeps. -/
def mskR : IVec S128x2048 1 :=
  ori (cmpi .eq (broadcastInDim S128x2048 ![0, 1] bcast_S128x1_S128x2048_0_1 rowC) (broadcastInDim S128x2048 ![0, 1] bcast_S1x2048_S128x2048_0_1 colC)) (cmpi .eq (broadcastInDim S128x2048 ![0, 1] bcast_S1x2048_S128x2048_0_1 (select (andi (cmpi .ne (cmpi .slt colR (broadcastInDim S1x2048 ![] bcast_S_S1x2048 (constantI S_ 32 0#32))) (broadcastInDim S1x2048 ![] bcast_S_S1x2048 (cmpi .slt four (constantI S_ 32 0#32)))) (cmpi .ne colR (broadcastInDim S1x2048 ![] bcast_S_S1x2048 (constantI S_ 32 0#32)))) (addi colR (broadcastInDim S1x2048 ![] bcast_S_S1x2048 four)) colR)) (broadcastInDim S128x2048 ![0, 1] bcast_S128x1_S128x2048_0_1 (select (andi (cmpi .ne (cmpi .slt rowR (broadcastInDim S128x1 ![] bcast_S_S128x1 (constantI S_ 32 0#32))) (broadcastInDim S128x1 ![] bcast_S_S128x1 (cmpi .slt four (constantI S_ 32 0#32)))) (cmpi .ne rowR (broadcastInDim S128x1 ![] bcast_S_S128x1 (constantI S_ 32 0#32)))) (addi rowR (broadcastInDim S128x1 ![] bcast_S_S128x1 four)) rowR)))
/-- Whether a query keeps any key. -/
def anyR : IVec S1x1x128x1 1 := broadcastInDim S1x1x128x1 ![2] bcast_S128_S1x1x128x1_2 (Host.reduce IntOp.ori mskR (constantI S_ 1 0#1) reducesTo_S128x2048_S128_d1 h_S_)
/-- The masked scores. -/
def scoR (x : FVec Ideal S2x128x512 .f32) (wq : FVec Ideal S512x256 .f32) (k : FVec Ideal S2x2048x4x64 .f32) : FVec Ideal S2x4x128x2048 .f32 :=
  select (broadcastInDim S2x4x128x2048 ![0, 1, 2, 3] bcast_S1x1x128x2048_S2x4x128x2048_0_1_2_3 (broadcastInDim S1x1x128x2048 ![2, 3] bcast_S128x2048_S1x1x128x2048_2_3 mskR)) (mulf (Host.dotGeneral dot_S2x128x4x64_S2x2048x4x64_S2x4x128x2048_3_3_1_1_02_02 none (shapeCast _ (Host.dotGeneral dot_S2x128x512_S512x256_S2x128x256_2_0_01_1_n_n none x wq) shapeCasts_S2x128x256_S2x128x4x64) k) (broadcastInDim S2x4x128x2048 ![] bcast_S_S2x4x128x2048 (constant S_ .f32 0x3E000000#32))) (broadcastInDim S2x4x128x2048 ![] bcast_S_S2x4x128x2048 (id (constant S_ .f32 0xFF800000#32)))
/-- The greatest score of a query. -/
def maxR (s : FVec Ideal S2x4x128x2048 .f32) : FVec Ideal S2x4x128 .f32 := Host.reduce FloatOps.maximumf s (constant S_ .f32 0xFF800000#32) reducesTo_S2x4x128x2048_S2x4x128_d3 h_S_
/-- The exponentials. -/
def expR (s : FVec Ideal S2x4x128x2048 .f32) : FVec Ideal S2x4x128x2048 .f32 :=
  Host.exp (subf s (broadcastInDim S2x4x128x2048 ![0, 1, 2, 3] bcast_S2x4x128x1_S2x4x128x2048_0_1_2_3 (broadcastInDim S2x4x128x1 ![0, 1, 2] bcast_S2x4x128_S2x4x128x1_0_1_2 (maxR s))))
/-- The weights. -/
def wtsR (e : FVec Ideal S2x4x128x2048 .f32) : FVec Ideal S2x4x128x2048 .f32 :=
  select (broadcastInDim S2x4x128x2048 ![0, 1, 2, 3] bcast_S1x1x128x1_S2x4x128x2048_0_1_2_3 anyR) (Host.divf e (broadcastInDim S2x4x128x2048 ![0, 1, 2, 3] bcast_S2x4x128x1_S2x4x128x2048_0_1_2_3 (select (broadcastInDim S2x4x128x1 ![0, 1, 2, 3] bcast_S1x1x128x1_S2x4x128x1_0_1_2_3 anyR) (broadcastInDim S2x4x128x1 ![0, 1, 2] bcast_S2x4x128_S2x4x128x1_0_1_2 (Host.reduceAdd e (constant S_ .f32 0x00000000#32) reducesTo_S2x4x128x2048_S2x4x128_d3 h_S_)) (broadcastInDim S2x4x128x1 ![] bcast_S_S2x4x128x1 (id (constant S_ .f32 0x3F800000#32)))))) (broadcastInDim S2x4x128x2048 ![] bcast_S_S2x4x128x2048 (id (constant S_ .f32 0x00000000#32)))
/-- The context of a query, and the result. -/
def ctxR (w : FVec Ideal S2x4x128x2048 .f32) (v : FVec Ideal S2x2048x4x64 .f32) : FVec Ideal S2x128x256 .f32 :=
  shapeCast S2x128x256 (transpose S2x128x4x64 [0, 3, 1, 2] (Host.dotGeneral dot_S2x2048x4x64_S2x4x128x2048_S2x4x64x128_1_3_3_2_02_01 none v w) transposes_S2x4x64x128_S2x128x4x64_0_3_1_2) shapeCasts_S2x128x4x64_S2x128x256
def outR (x : FVec Ideal S2x128x512 .f32) (wq : FVec Ideal S512x256 .f32) (k v : FVec Ideal S2x2048x4x64 .f32) (wo : FVec Ideal S256x512 .f32) : FVec Ideal S2x128x512 .f32 :=
  Host.dotGeneral dot_S2x128x256_S256x512_S2x128x512_2_0_01_1_n_n none (ctxR (wtsR (expR (scoR x wq k))) v) wo

theorem res_eq (m : (ℓ : Loc nD τ sig) → Buf (Elt Ideal) ℓ) (c : Dev nD) :
    res_out0 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The mask -/

theorem rowB_at (r : Fin 128) : rowB (ix1 r) = BitVec.ofNat 32 (r.val / 64) := by revert r; decide +kernel
/-- Key `j` of device `d` in the whole sequence. -/
def keyAt (d : Fin 16) (j : Fin 128) : Fin 2048 := ⟨128 * d.val + j.val, by omega⟩
theorem colB_at (d : Fin 16) (j : Fin 128) : colB (ix1 (keyAt d j)) = BitVec.ofNat 32 (2 * d.val + j.val / 64) := by revert d j; decide +kernel

theorem mskR_at (r : Fin 128) (d : Fin 16) (j : Fin 128) : mskR (ix2 r (keyAt d j)) = if d.val % 2 = 0 ∧ r.val / 64 = j.val / 64 then 1#1 else 0#1 := by
  pointwise [mskR, colR, rowR, rowC, colC, four]
  obtain ⟨p, hp⟩ : ∃ p : Fin 2, r.val / 64 = p.val := ⟨⟨r.val / 64, by omega⟩, rfl⟩
  obtain ⟨q, hq⟩ : ∃ q : Fin 2, j.val / 64 = q.val := ⟨⟨j.val / 64, by omega⟩, rfl⟩
  rw [rowB_at, colB_at, hp, hq]
  clear hp hq
  revert p q d
  decide +kernel

/-! ## The floats -/

theorem scoR_at (x : FVec Ideal S2x128x512 .f32) (wq : FVec Ideal S512x256 .f32) (k : FVec Ideal S2x2048x4x64 .f32) (b : Fin 2) (h : Fin 4) (r : Fin 128) (c : Fin 2048) :
    scoR x wq k (ix4 b h r c) = if mskR (ix2 r c) = 1#1 then
      (∑ e : Fin 64, (∑ t : Fin 512, x (ix3 b r t) * wq (ix2 t ⟨64 * h.val + e.val, by omega⟩)) * k (ix4 b c h e)) * Ideal.ofBits .f32 0x3E000000#32 else Ideal.ofBits .f32 0xFF800000#32 := by
  pointwise [scoR]
  have e (e' : Fin 64) : (⟨h.val * 64 + e'.val, by omega⟩ : Fin 256) = ⟨64 * h.val + e'.val, by omega⟩ := Fin.ext (by dsimp only; omega)
  simp only [e]
  rfl
theorem maxR_at (s : FVec Ideal S2x4x128x2048 .f32) (b : Fin 2) (h : Fin 4) (r : Fin 128) :
    maxR s (ix3 b h r) = Finset.univ.fold max (Ideal.ofBits .f32 0xFF800000#32) fun c : Fin 2048 => s (ix4 b h r c) := by
  pointwise [maxR]
theorem expR_at (s : FVec Ideal S2x4x128x2048 .f32) (b : Fin 2) (h : Fin 4) (r : Fin 128) (c : Fin 2048) :
    expR s (ix4 b h r c) = Ideal.exp (s (ix4 b h r c) - maxR s (ix3 b h r)) := by
  pointwise [expR]
theorem anyR_at (r : Fin 128) : anyR (ix4 0 0 r 0) = 1#1 := by
  pointwise [anyR]
  have e : mskR (ix2 r (keyAt 0 r)) = 1#1 := by rw [mskR_at]; exact if_pos ⟨rfl, rfl⟩
  rw [← Finset.insert_erase (Finset.mem_univ (keyAt 0 r)), Finset.fold_insert (Finset.notMem_erase _ _), e]
  exact (by decide : ∀ y : BitVec 1, IntOp.ori 1#1 y = 1#1) _
theorem wtsR_at (e : FVec Ideal S2x4x128x2048 .f32) (b : Fin 2) (h : Fin 4) (r : Fin 128) (c : Fin 2048) :
    wtsR e (ix4 b h r c) = Ideal.div (e (ix4 b h r c)) (∑ c' : Fin 2048, e (ix4 b h r c')) := by
  pointwise [wtsR, anyR_at]
theorem ctxR_at (w : FVec Ideal S2x4x128x2048 .f32) (v : FVec Ideal S2x2048x4x64 .f32) (b : Fin 2) (h : Fin 4) (r : Fin 128) (e : Fin 64) :
    ctxR w v (ix3 b r ⟨64 * h.val + e.val, by omega⟩) = ∑ c : Fin 2048, v (ix4 b c h e) * w (ix4 b h r c) := by
  pointwise [ctxR]
theorem outR_at (x : FVec Ideal S2x128x512 .f32) (wq : FVec Ideal S512x256 .f32) (k v : FVec Ideal S2x2048x4x64 .f32) (wo : FVec Ideal S256x512 .f32)
    (b : Fin 2) (r : Fin 128) (n : Fin 512) :
    outR x wq k v wo (ix3 b r n) = ∑ t : Fin 256, ctxR (wtsR (expR (scoR x wq k))) v (ix3 b r t) * wo (ix2 t n) := by
  pointwise [outR]

end Cert.SparseRing.Ref
-- ==== Proof.EqVal.lean ====
/- The reference at an entry, and that it is the kernel's result. -/
module

public import proofs.«01_k».proof.Proof.OutVal
public import proofs.«01_k».proof.Proof.RefVal

@[expose] public section

noncomputable section

namespace Cert.SparseRing

open Cert.KernelIdeal Cert.KernelIdeal.Gen Idealize.ShloMosaic Idealize.ShloMosaic.TcCoe

/-- The whole arguments, as the reference takes them. -/
structure Whole (I : Input) (x : FVec Ideal ⟨3, ![2, 128, 512]⟩ .f32) (wq : FVec Ideal ⟨2, ![512, 256]⟩ .f32) (k v : FVec Ideal ⟨4, ![2, 2048, 4, 64]⟩ .f32) : Prop where
  x : ∀ b r t, x (ix3 b r t) = (I.x b r t : EReal)
  wq : ∀ t n, wq (ix2 t n) = (I.wq t n : EReal)
  k : ∀ b c h e, k (ix4 b c h e) = (I.k b c h e : EReal)
  v : ∀ b c h e, v (ix4 b c h e) = I.v b c h e

/-- The weight of any key: zero where it is masked. -/
def Input.all (I : Input) (b : Fin 2) (h : Fin 4) (r : Fin 128) (c : Fin 2048) : ℝ := wgt (Ref.mskR (ix2 r c) = 1#1) (I.score b h r c)

theorem all_key (I : Input) (b : Fin 2) (h : Fin 4) (r : Fin 128) (d : Fin 16) (j : Fin 128) :
    I.all b h r (keyOf d j) = if d.val % 2 = 0 then I.wt b h r d j else 0 := by
  have e : Ref.mskR (ix2 r (keyOf d j)) = if d.val % 2 = 0 ∧ r.val / 64 = j.val / 64 then 1#1 else 0#1 := Ref.mskR_at r d j
  rw [Input.all, e, Input.wt]
  by_cases p : d.val % 2 = 0 <;> by_cases q : r.val / 64 = j.val / 64 <;> simp [p, q, wgt]

/-- A sum over all keys, device by device. -/
theorem sum_keys {M : Type} [AddCommMonoid M] (f : Fin 2048 → M) : ∑ c, f c = ∑ d : Fin 16, ∑ j : Fin 128, f (keyOf d j) := by
  rw [Fin.sum_univ_tiles 16 128 rfl f]
  refine Finset.sum_congr rfl fun d _ => Finset.sum_congr rfl fun j _ => congrArg f (Fin.ext ?_)
  show d.val * 128 + j.val = 128 * d.val + j.val
  omega
/-- A sum over the columns of all heads, head by head. -/
theorem sum_cols {M : Type} [AddCommMonoid M] (f : Fin 256 → M) : ∑ c, f c = ∑ h : Fin 4, ∑ e : Fin 64, f (colOf h e) := by
  rw [Fin.sum_univ_tiles 4 64 rfl f]
  refine Finset.sum_congr rfl fun h _ => Finset.sum_congr rfl fun e _ => congrArg f (Fin.ext ?_)
  show h.val * 64 + e.val = 64 * h.val + e.val
  omega
/-- A sum over all devices of which the odd ones give nothing. -/
theorem sum_evens {M : Type} [AddCommMonoid M] (f : Fin 16 → M) : (∑ d : Fin 16, if d.val % 2 = 0 then f d else 0) = (evens.map f).sum := by
  simp [Fin.sum_univ_succ, evens, Fin.succ]

theorem all_den (I : Input) (b : Fin 2) (h : Fin 4) (r : Fin 128) : ∑ c, I.all b h r c = (evens.map (I.den b h r)).sum := by
  rw [sum_keys, ← sum_evens]
  refine Finset.sum_congr rfl fun d _ => ?_
  simp only [all_key]
  split
  · rfl
  · exact Finset.sum_const_zero
theorem all_num (I : Input) (b : Fin 2) (h : Fin 4) (r : Fin 128) (e : Fin 64) :
    ∑ c, ((I.all b h r c : ℝ) : EReal) * I.v b c h e = (evens.map fun d => I.num b h r d e).sum := by
  rw [sum_keys, ← sum_evens]
  refine Finset.sum_congr rfl fun d _ => ?_
  simp only [all_key]
  split
  · rfl
  · simp only [EReal.coe_zero, zero_mul]; exact Finset.sum_const_zero

variable {I : Input} {x : FVec Ideal ⟨3, ![2, 128, 512]⟩ .f32} {wq : FVec Ideal ⟨2, ![512, 256]⟩ .f32} {k v : FVec Ideal ⟨4, ![2, 2048, 4, 64]⟩ .f32}

theorem ref_score (H : Whole I x wq k v) (b : Fin 2) (h : Fin 4) (r : Fin 128) (c : Fin 2048) :
    Ref.scoR x wq k (ix4 b h r c) = if Ref.mskR (ix2 r c) = 1#1 then ((I.score b h r c : ℝ) : EReal) else ⊥ := by
  rw [Ref.scoR_at, low]
  simp only [H.x, H.wq, H.k]
  exact if_congr Iff.rfl (score_eq I b h r c) rfl
theorem ref_exp (H : Whole I x wq k v) (b : Fin 2) (h : Fin 4) (r : Fin 128) :
    ∃ M : ℝ, ∀ c, Ref.expR (Ref.scoR x wq k) (ix4 b h r c) = ((Real.exp (-M) * I.all b h r c : ℝ) : EReal) := by
  have kept : Ref.mskR (ix2 r (Ref.keyAt 0 r)) = 1#1 := by rw [Ref.mskR_at]; exact if_pos ⟨rfl, rfl⟩
  obtain ⟨M, hM⟩ := fold_max_real (fun c : Fin 2048 => Ref.scoR x wq k (ix4 b h r c))
    (fun c => by beta_reduce; rw [ref_score H]; split; exacts [EReal.coe_lt_top _, bot_lt_top]) (Ref.keyAt 0 r)
    (by beta_reduce; rw [ref_score H, if_pos kept]; exact EReal.bot_lt_coe _)
  refine ⟨M, fun c => ?_⟩
  rw [Ref.expR_at, Ref.maxR_at, low, hM, ref_score H]
  have q := exp_wgt (Ref.mskR (ix2 r c) = 1#1) (I.score b h r c) M (if Ref.mskR (ix2 r c) = 1#1 then ((I.score b h r c : ℝ) : EReal) else ⊥) fun g => if_pos g
  refine Eq.trans ?_ q
  split
  · rfl
  · simp
/-- The reference's context is the attention of the kept keys. -/
theorem ref_ctx (H : Whole I x wq k v) (b : Fin 2) (h : Fin 4) (r : Fin 128) (e : Fin 64) :
    Ref.ctxR (Ref.wtsR (Ref.expR (Ref.scoR x wq k))) v (ix3 b r (colOf h e)) = I.ctx b h r e := by
  obtain ⟨M, hM⟩ := ref_exp H b h r
  refine (Ref.ctxR_at _ v b h r e).trans ?_
  simp only [Ref.wtsR_at, hM, H.v]
  rw [sum_weights (I.all b h r) M (by rw [all_den]; exact evens_pos I b h r) fun c => I.v b c h e, all_den, all_num]
  rfl
/-- The reference at an entry. -/
theorem ref_at (H : Whole I x wq k v) (wo : FVec Ideal ⟨2, ![256, 512]⟩ .f32) (b : Fin 2) (r : Fin 128) (n : Fin 512) :
    Ref.outR x wq k v wo (ix3 b r n) = ∑ h : Fin 4, ∑ e : Fin 64, I.ctx b h r e * wo (ix2 (colOf h e) n) := by
  rw [Ref.outR_at, sum_cols]
  simp only [ref_ctx H]

/-- Every device's result is the reference's. -/
theorem out_eq (H : Whole I x wq k v) {m : (ℓ : Loc nD τ sig) → Buf (Elt Ideal) ℓ} (G : AllHold I m) (c : Dev nD) :
    outF m c = Ref.outR x wq k v (go m c) := by
  funext i
  idx_vars i
  exact (outF_at G c _ _ _).trans (ref_at H _ _ _ _).symm

end Cert.SparseRing
-- ==== Proof.Equal.lean ====
/- The kernel computes what the reference computes, over the extended reals, where the inputs, the query projection and the keys are finite. -/
module

public import proofs.«01_k».proof.Defs
public import proofs.«01_k».proof.Proof.EqVal
public import proofs.«01_k».proof.Proof.Frames
public import proofs.«01_k».proof.Proof.Gen.ReferenceIdeal.Run
public import Idealize.ShloMosaic.Lib.ReduceAll
public import Idealize.ShloMosaic.Lib.Layout

@[expose] public section

noncomputable section

namespace Cert.SparseRing

open Cert.KernelIdeal Cert.KernelIdeal.Gen Idealize.ShloMosaic Idealize.ShloMosaic.TcCoe Idealize.SL.Sem

/-! ## The precondition -/

theorem preKernel : Cert.Pre_finite_KernelIdeal.Facts where
  bcast_S_S2x128x512 := by decide
  reducesTo_S2x128x512_S_d0_1_2 := by decide
  h_S_ := by decide
  bcast_S_S512x256 := by decide
  reducesTo_S512x256_S_d0_1 := by decide
  bcast_S_S2x128x4x64 := by decide
  reducesTo_S2x128x4x64_S_d0_1_2_3 := by decide
theorem preReference : Cert.Pre_finite_ReferenceIdeal.Facts where
  bcast_S_S2x128x512 := by decide
  reducesTo_S2x128x512_S_d0_1_2 := by decide
  h_S_ := by decide
  bcast_S_S512x256 := by decide
  reducesTo_S512x256_S_d0_1 := by decide
  bcast_S_S2x2048x4x64 := by decide
  reducesTo_S2x2048x4x64_S_d0_1_2_3 := by decide

/-- A magnitude below infinity is a real number's. -/
theorem real_of_lt {x : EReal} (h : Ideal.cmp .olt (max x (-x)) (Ideal.ofBits .f32 0x7F800000#32) = 1#1) : x = (x.toReal : EReal) := by
  rw [high] at h
  have q : max x (-x) < ⊤ := by
    by_contra g
    have e : Ideal.cmp .olt (max x (-x)) ⊤ = 0#1 := by simp only [Ideal.cmp, decide_eq_false g]; rfl
    rw [e] at h
    exact absurd h (by decide)
  obtain ⟨h1, h2⟩ := max_lt_iff.1 q
  refine (EReal.coe_toReal h1.ne ?_).symm
  rintro rfl
  simp at h2

instance : Subsingleton S_.Idx := ⟨fun _ _ => funext fun a => a.elim0⟩

/-- The precondition read back: the inputs, the query projection and the keys are real numbers. -/
theorem pre_real [Cert.Pre_finite_KernelIdeal.Facts] {x : FVec Ideal S2x128x512 .f32} {wq : FVec Ideal S512x256 .f32} {k v : FVec Ideal S2x128x4x64 .f32} {wo : FVec Ideal S256x512 .f32}
    (h : Cert.Pre_finite_KernelIdeal.fn (F := Ideal) x wq k v wo = fun _ => 1#1) :
    (∀ i, x i = ((x i).toReal : EReal)) ∧ (∀ i, wq i = ((wq i).toReal : EReal)) ∧ (∀ i, k i = ((k i).toReal : EReal)) := by
  have h0 := congrFun h ix0
  obtain ⟨h12, h3⟩ := IntOp.andi_eq_one.1 h0
  obtain ⟨h1, h2⟩ := IntOp.andi_eq_one.1 h12
  exact ⟨fun i => real_of_lt (Host.reduce_andi_all _ _ _ _ _ h1 i), fun i => real_of_lt (Host.reduce_andi_all _ _ _ _ _ h2 i),
    fun i => real_of_lt (Host.reduce_andi_all _ _ _ _ _ h3 i)⟩

/-! ## The blocks of the keys and values -/

theorem block_at (c : Dev nD) (u : (⟨4, ![2, 2048, 4, 64]⟩ : Shape).Idx → EReal) (b : Fin 2) (j : Fin 128) (h : Fin 4) (e : Fin 64) :
    (Layout.block ⟨4, ![2, 128, 4, 64]⟩ ⟨4, ![2, 2048, 4, 64]⟩ 1 16 c u : (⟨4, ![2, 128, 4, 64]⟩ : Shape).Idx → EReal) (ix4 b j h e) = u (ix4 b (keyOf c j) h e) := by
  rw [Layout.block_apply]
  refine congrArg u (funext fun a => Fin.ext ?_)
  fin_cases a
  · rfl
  · show c.val * 128 + j.val = 128 * c.val + j.val
    omega
  · rfl
  · rfl
theorem key_surj (s : Fin 2048) : ∃ (d : Dev nD) (j : Fin 128), s = keyOf d j :=
  ⟨⟨s.val / 128, by have := s.isLt; show s.val / 128 < 16; omega⟩, ⟨s.val % 128, by omega⟩, Fin.ext (by show s.val = 128 * (s.val / 128) + s.val % 128; omega)⟩

/-- The arguments by their coordinates. -/
def inputOf (x : FVec Ideal S2x128x512 .f32) (wq : FVec Ideal S512x256 .f32) (k v : FVec Ideal ⟨4, ![2, 2048, 4, 64]⟩ .f32) : Input where
  x b r t := (x (ix3 b r t) : EReal).toReal
  wq t n := (wq (ix2 t n) : EReal).toReal
  k b c h e := (k (ix4 b c h e) : EReal).toReal
  v b c h e := v (ix4 b c h e)

/-! ## The claim -/

section
variable {m : (ℓ : Loc nD τ sig) → Buf (Elt Ideal) ℓ} {x : FVec Ideal S2x128x512 .f32} {wq : FVec Ideal S512x256 .f32} {k v : FVec Ideal ⟨4, ![2, 2048, 4, 64]⟩ .f32}

theorem whole_of (hx : ∀ i, x i = ((x i : EReal).toReal : EReal)) (hq : ∀ i, wq i = ((wq i : EReal).toReal : EReal)) (hk : ∀ b c h e, k (ix4 b c h e) = ((k (ix4 b c h e) : EReal).toReal : EReal)) :
    Whole (inputOf x wq k v) x wq k v :=
  ⟨fun _ _ _ => hx _, fun _ _ => hq _, hk, fun _ _ _ _ => rfl⟩
theorem hold_of (W : Whole (inputOf x wq k v) x wq k v) (ex : ∀ c, gx m c = x) (eq : ∀ c, gq m c = wq)
    (ek : ∀ c, gk m c = Layout.block ⟨4, ![2, 128, 4, 64]⟩ ⟨4, ![2, 2048, 4, 64]⟩ 1 16 c k) (ev : ∀ c, gv m c = Layout.block ⟨4, ![2, 128, 4, 64]⟩ ⟨4, ![2, 2048, 4, 64]⟩ 1 16 c v) :
    AllHold (inputOf x wq k v) m := fun c =>
  ⟨fun b r t => by rw [ex]; exact W.x b r t, fun t n => by rw [eq]; exact W.wq t n,
    fun b j h e => by rw [ek]; exact (block_at c k b j h e).trans (W.k b _ h e), fun b j h e => by rw [ev]; exact block_at c v b j h e⟩
end

theorem equal [Cert.Pre_finite_KernelIdeal.Facts] : Cert.algebraic_KernelIdeal_ReferenceIdeal_pre_finite_KernelIdeal := by
  intro m g m' g' pre args
  have hp (c : Dev nD) := pre_real (pre c)
  have hx : ∀ i, (m' (((0 : Dev Cert.ReferenceIdeal.nD).tc : Thread Cert.ReferenceIdeal.nD Cert.ReferenceIdeal.τ).loc Cert.ReferenceIdeal.main_arg0) i : EReal)
      = ((m' (((0 : Dev Cert.ReferenceIdeal.nD).tc : Thread Cert.ReferenceIdeal.nD Cert.ReferenceIdeal.τ).loc Cert.ReferenceIdeal.main_arg0) i : EReal).toReal : EReal) := by
    rw [← (args 0).1]; exact (hp 0).1
  have hq : ∀ i, (m' (((0 : Dev Cert.ReferenceIdeal.nD).tc : Thread Cert.ReferenceIdeal.nD Cert.ReferenceIdeal.τ).loc Cert.ReferenceIdeal.main_arg1) i : EReal)
      = ((m' (((0 : Dev Cert.ReferenceIdeal.nD).tc : Thread Cert.ReferenceIdeal.nD Cert.ReferenceIdeal.τ).loc Cert.ReferenceIdeal.main_arg1) i : EReal).toReal : EReal) := by
    rw [← (args 0).2.1]; exact (hp 0).2.1
  have hk : ∀ b c h e, (m' (((0 : Dev Cert.ReferenceIdeal.nD).tc : Thread Cert.ReferenceIdeal.nD Cert.ReferenceIdeal.τ).loc Cert.ReferenceIdeal.main_arg2) (ix4 b c h e) : EReal)
      = ((m' (((0 : Dev Cert.ReferenceIdeal.nD).tc : Thread Cert.ReferenceIdeal.nD Cert.ReferenceIdeal.τ).loc Cert.ReferenceIdeal.main_arg2) (ix4 b c h e) : EReal).toReal : EReal) := by
    intro b c h e
    obtain ⟨d, j, rfl⟩ := key_surj c
    have p := (congrFun (args d).2.2.1 (ix4 b j h e)).trans (block_at d _ b j h e)
    exact p.symm.trans (((hp d).2.2 (ix4 b j h e)).trans (congrArg (fun y : EReal => (y.toReal : EReal)) p))
  have W := whole_of (v := m' (((0 : Dev Cert.ReferenceIdeal.nD).tc : Thread Cert.ReferenceIdeal.nD Cert.ReferenceIdeal.τ).loc Cert.ReferenceIdeal.main_arg3)) hx hq hk
  have H := hold_of (m := m) W (fun c => (gx_eq m c).trans (args c).1) (fun c => (gq_eq m c).trans (args c).2.1)
    (fun c => (gk_eq m c).trans (args c).2.2.1) (fun c => (gv_eq m c).trans (args c).2.2.2.1)
  have E (c : Dev nD) : outF m c = Cert.ReferenceIdeal.Value.res_main_v39 m' 0 := by
    refine (out_eq W H c).trans ?_
    rw [(go_eq m c).trans (args c).2.2.2.2]
    exact (Cert.SparseRing.Ref.res_eq m' 0).symm
  refine ⟨Cert.ReferenceIdeal.Value.res_main_v39 m' 0, ?_, ?_⟩
  · exact (θ_run defs _ _).mono (fun _ h c =>
      ⟨((h.1 c (5 : Fin 6)).trans (final_out m g c)).trans (E c), (h.1 c (0 : Fin 6)).trans (final_x m g c), (h.1 c (1 : Fin 6)).trans (final_q m g c), (h.1 c (2 : Fin 6)).trans (final_k m g c),
        (h.1 c (3 : Fin 6)).trans (final_v m g c), (h.1 c (4 : Fin 6)).trans (final_o m g c)⟩) (run_main m g)
  · exact (θ_run Cert.ReferenceIdeal.defs _ _).mono (fun _ h => h 0) (Cert.ReferenceIdeal.Value.run (F := Ideal) m' g')

end Cert.SparseRing
-- ==== Proof.lean ====
/- The certificate: the three frames, the preservation and the equality, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  have := Cert.SparseRing.preKernel
  ⟨Cert.Kernel.Gen.facts, Cert.KernelIdeal.Gen.facts, Cert.ReferenceIdeal.Gen.facts, Cert.SparseRing.preKernel, Cert.SparseRing.preReference,
    Cert.SparseRing.frame_kernel, Cert.SparseRing.frame_ideal, fun m g _ => Cert.SparseRing.frame_ideal m g trivial,
    Cert.SparseRing.frame_ref, fun m g _ => Cert.SparseRing.frame_ref m g trivial, trivial, Cert.SparseRing.equal⟩

end Cert.Proof

end
